-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S64x8x100000 : Shape := ⟨3, ![64, 8, 100000]⟩
abbrev S_ : Shape := ⟨0, ![]⟩

class Facts : Prop where
  bcast_S_S64x8x100000 : S_.BroadcastsInDim S64x8x100000 (![] : Fin 0 → Fin S64x8x100000.rank)

variable [Facts]

def fn {F : FTy → Type} [FloatOps F] (main_arg0 : FVec F S64x8x100000 .f32) : IVec S64x8x100000 1 :=
  let main_cst : FVec F S_ .f32 := constant S_ .f32 0x7F800000#32
  let main_v0 : FVec F S64x8x100000 .f32 := broadcastInDim S64x8x100000 ![] bcast_S_S64x8x100000 main_cst
  let main_v1 : IVec S64x8x100000 1 := cmpf .olt main_arg0 main_v0
  main_v1
-- ==== Kernel.lean ====
abbrev S64x8x100000 : Shape := ⟨3, ![64, 8, 100000]⟩
abbrev S512x100000 : Shape := ⟨2, ![512, 100000]⟩
abbrev S64x1x8 : Shape := ⟨3, ![64, 1, 8]⟩
abbrev S8x100000 : Shape := ⟨2, ![8, 100000]⟩
abbrev S1x1x8 : Shape := ⟨3, ![1, 1, 8]⟩
abbrev S8x1 : Shape := ⟨2, ![8, 1]⟩
abbrev S8x1024 : Shape := ⟨2, ![8, 1024]⟩
abbrev S8 : Shape := ⟨1, ![8]⟩
abbrev S8x672 : Shape := ⟨2, ![8, 672]⟩

abbrev nBuf : Space → Nat
  | .hbm => 3
  | .vmem => 4
  | .smem => 0
  | _ => 0

abbrev bufTy : (tb : Table) → Fin (tcTables nBuf tb) → BufTy
  | .hbm, ⟨0, _⟩ => ⟨S64x8x100000, .f32⟩
  | .hbm, ⟨1, _⟩ => ⟨S512x100000, .f32⟩
  | .hbm, ⟨2, _⟩ => ⟨S64x1x8, .i32⟩
  | .local _ .vmem, ⟨0, _⟩ => ⟨S8x100000, .f32⟩
  | .local _ .vmem, ⟨1, _⟩ => ⟨S8x100000, .f32⟩
  | .local _ .vmem, ⟨2, _⟩ => ⟨S1x1x8, .i32⟩
  | .local _ .vmem, ⟨3, _⟩ => ⟨S1x1x8, .i32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_0 : BitVec 32 := 0#32
  let c24_i32 : BitVec 32 := 24#32
  let v11 : BitVec 32 := Scalar.addi c0_i32_0 c24_i32
  let c1_i32 : BitVec 32 := 1#32
  ⟨c0_i32_0, v11, c1_i32⟩
def k0_off1 (k0_t1 : Fin k0_t1_loop.trips) (c0_i32_106 : BitVec 32) : Fin 2 → Nat :=
  let c0_107 : Index := 0#32
  let c4_i32 : BitVec 32 := 4#32
  let c0_i32_0 : BitVec 32 := 0#32
  let c1_i32 : BitVec 32 := 1#32
  let arg3 : BitVec 32 := Scf.iv c0_i32_0 c1_i32 k0_t1
  let v410 : BitVec 32 := Scalar.muli c4_i32 arg3
  let c1024_i32_105 : BitVec 32 := 1024#32
  let v411 : BitVec 32 := Scalar.muli v410 c1024_i32_105
  let v416 : BitVec 32 := Scalar.addi v411 c0_i32_106
  let v417 : Index := Scalar.indexCast v416
  ![0, v417.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x8x100000 : Shape := ⟨3, ![64, 8, 100000]⟩
abbrev S512x100000 : Shape := ⟨2, ![512, 100000]⟩
abbrev S_ : Shape := ⟨0, ![]⟩
abbrev S512 : Shape := ⟨1, ![512]⟩
abbrev S512x1 : Shape := ⟨2, ![512, 1]⟩
abbrev S1 : Shape := ⟨1, ![1]⟩
abbrev S2 : Shape := ⟨1, ![2]⟩
abbrev S1x1 : Shape := ⟨2, ![1, 1]⟩
abbrev S64x1x8 : Shape := ⟨3, ![64, 1, 8]⟩

abbrev nBuf : Space → Nat
  | .hbm => 308
  | .vmem => 0
  | .smem => 0
  | _ => 0

abbrev hbmTy0_0 (i : Nat) : BufTy := match i % 128 with
  | 0 => ⟨S64x8x100000, .f32⟩
  | 1 => ⟨S512x100000, .f32⟩
  | 2 => ⟨S_, .f32⟩
  | 3 => ⟨S512x100000, .f32⟩
  | 4 => ⟨S512x100000, .f32⟩
  | 5 => ⟨S_, .f32⟩
  | 6 => ⟨S512, .f32⟩
  | 7 => ⟨S_, .f32⟩
  | 8 => ⟨S512, .f32⟩
  | 9 => ⟨S512, .f32⟩
  | 10 => ⟨S512x1, .f32⟩
  | 11 => ⟨S512x100000, .f32⟩
  | 12 => ⟨S512x100000, .f32⟩
  | 13 => ⟨S512x100000, .f32⟩
  | 14 => ⟨S_, .f32⟩
  | 15 => ⟨S512, .f32⟩
  | 16 => ⟨S512x1, .f32⟩
  | 17 => ⟨S512x100000, .f32⟩
  | 18 => ⟨S512x100000, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S_, .f32⟩
  | 33 => ⟨S1x1, .f32⟩
  | 34 => ⟨S1x1, .f32⟩
  | 35 => ⟨S1, .i32⟩
  | 36 => ⟨S_, .i32⟩
  | 37 => ⟨S1, .i32⟩
  | 38 => ⟨S_, .i32⟩
  | 39 => ⟨S512x100000, .i64⟩
  | 40 => ⟨S512x100000, .i64⟩
  | 41 => ⟨S_, .i64⟩
  | 42 => ⟨S512x100000, .i64⟩
  | 43 => ⟨S512x100000, .i64⟩
  | 44 => ⟨S_, .i64⟩
  | 45 => ⟨S512x100000, .i64⟩
  | 46 => ⟨S512x100000, .i64⟩
  | 47 => ⟨S512x100000, .i64⟩
  | 48 => ⟨S_, .i64⟩
  | 49 => ⟨S512x100000, .i64⟩
  | 50 => ⟨S512x100000, .i64⟩
  | 51 => ⟨S512x100000, .i32⟩
  | 52 => ⟨S512x100000, .i32⟩
  | 53 => ⟨S_, .i32⟩
  | 54 => ⟨S_, .i32⟩
  | 55 => ⟨S_, .i32⟩
  | 56 => ⟨S512x100000, .i32⟩
  | 57 => ⟨S512x100000, .i32⟩
  | 58 => ⟨S512x100000, .i32⟩
  | 59 => ⟨S512x100000, .i32⟩
  | 60 => ⟨S512x100000, .i32⟩
  | 61 => ⟨S_, .i32⟩
  | 62 => ⟨S512x100000, .i32⟩
  | 63 => ⟨S512x100000, .i32⟩
  | 64 => ⟨S_, .i32⟩
  | 65 => ⟨S512x100000, .i32⟩
  | 66 => ⟨S512x100000, .i32⟩
  | 67 => ⟨S512x100000, .i32⟩
  | 68 => ⟨S512x100000, .i32⟩
  | 69 => ⟨S512x100000, .i32⟩
  | 70 => ⟨S_, .i32⟩
  | 71 => ⟨S512x100000, .i32⟩
  | 72 => ⟨S512x100000, .i32⟩
  | 73 => ⟨S_, .i32⟩
  | 74 => ⟨S512x100000, .i32⟩
  | 75 => ⟨S512x100000, .i32⟩
  | 76 => ⟨S512x100000, .i32⟩
  | 77 => ⟨S512x100000, .i32⟩
  | 78 => ⟨S512x100000, .i32⟩
  | 79 => ⟨S_, .i32⟩
  | 80 => ⟨S512x100000, .i32⟩
  | 81 => ⟨S512x100000, .i32⟩
  | 82 => ⟨S_, .i32⟩
  | 83 => ⟨S512x100000, .i32⟩
  | 84 => ⟨S512x100000, .i32⟩
  | 85 => ⟨S512x100000, .i32⟩
  | 86 => ⟨S512x100000, .i32⟩
  | 87 => ⟨S512x100000, .i32⟩
  | 88 => ⟨S_, .i32⟩
  | 89 => ⟨S512x100000, .i32⟩
  | 90 => ⟨S512x100000, .i32⟩
  | 91 => ⟨S_, .i32⟩
  | 92 => ⟨S512x100000, .i32⟩
  | 93 => ⟨S512x100000, .i32⟩
  | 94 => ⟨S512x100000, .i32⟩
  | 95 => ⟨S512x100000, .i32⟩
  | 96 => ⟨S512x100000, .i32⟩
  | 97 => ⟨S512x100000, .i32⟩
  | 98 => ⟨S512x100000, .i32⟩
  | 99 => ⟨S512x100000, .i32⟩
  | 100 => ⟨S_, .i32⟩
  | 101 => ⟨S512x100000, .i32⟩
  | 102 => ⟨S512x100000, .i32⟩
  | 103 => ⟨S512x100000, .i32⟩
  | 104 => ⟨S_, .i32⟩
  | 105 => ⟨S512x100000, .i32⟩
  | 106 => ⟨S512x100000, .i32⟩
  | 107 => ⟨S_, .i32⟩
  | 108 => ⟨S512x100000, .i32⟩
  | 109 => ⟨S512x100000, .i32⟩
  | 110 => ⟨S512x100000, .i32⟩
  | 111 => ⟨S512x100000, .i32⟩
  | 112 => ⟨S512x100000, .i32⟩
  | 113 => ⟨S_, .i32⟩
  | 114 => ⟨S512x100000, .i32⟩
  | 115 => ⟨S512x100000, .i32⟩
  | 116 => ⟨S_, .i32⟩
  | 117 => ⟨S512x100000, .i32⟩
  | 118 => ⟨S512x100000, .i32⟩
  | 119 => ⟨S512x100000, .i32⟩
  | 120 => ⟨S512x100000, .i32⟩
  | 121 => ⟨S512x100000, .i32⟩
  | 122 => ⟨S_, .i32⟩
  | 123 => ⟨S512x100000, .i32⟩
  | 124 => ⟨S512x100000, .i32⟩
  | 125 => ⟨S_, .i32⟩
  | 126 => ⟨S512x100000, .i32⟩
  | 127 => ⟨S512x100000, .i32⟩
  | _ => ⟨S64x8x100000, .f32⟩

abbrev hbmTy0_1 (i : Nat) : BufTy := match i % 128 with
  | 0 => ⟨S512x100000, .i32⟩
  | 1 => ⟨S512x100000, .i32⟩
  | 2 => ⟨S512x100000, .i32⟩
  | 3 => ⟨S_, .i32⟩
  | 4 => ⟨S512x100000, .i32⟩
  | 5 => ⟨S512x100000, .i32⟩
  | 6 => ⟨S_, .i32⟩
  | 7 => ⟨S512x100000, .i32⟩
  | 8 => ⟨S512x100000, .i32⟩
  | 9 => ⟨S512x100000, .i32⟩
  | 10 => ⟨S512x100000, .i32⟩
  | 11 => ⟨S512x100000, .i32⟩
  | 12 => ⟨S512x100000, .i32⟩
  | 13 => ⟨S512x100000, .i32⟩
  | 14 => ⟨S512x100000, .i32⟩
  | 15 => ⟨S_, .i32⟩
  | 16 => ⟨S512x100000, .i32⟩
  | 17 => ⟨S512x100000, .i32⟩
  | 18 => ⟨S512x100000, .i32⟩
  | 19 => ⟨S_, .i32⟩
  | 20 => ⟨S512x100000, .i32⟩
  | 21 => ⟨S512x100000, .i32⟩
  | 22 => ⟨S_, .i32⟩
  | 23 => ⟨S512x100000, .i32⟩
  | 24 => ⟨S512x100000, .i32⟩
  | 25 => ⟨S512x100000, .i32⟩
  | 26 => ⟨S512x100000, .i32⟩
  | 27 => ⟨S512x100000, .i32⟩
  | 28 => ⟨S_, .i32⟩
  | 29 => ⟨S512x100000, .i32⟩
  | 30 => ⟨S512x100000, .i32⟩
  | 31 => ⟨S_, .i32⟩
  | 32 => ⟨S512x100000, .i32⟩
  | 33 => ⟨S512x100000, .i32⟩
  | 34 => ⟨S512x100000, .i32⟩
  | 35 => ⟨S512x100000, .i32⟩
  | 36 => ⟨S512x100000, .i32⟩
  | 37 => ⟨S_, .i32⟩
  | 38 => ⟨S512x100000, .i32⟩
  | 39 => ⟨S512x100000, .i32⟩
  | 40 => ⟨S_, .i32⟩
  | 41 => ⟨S512x100000, .i32⟩
  | 42 => ⟨S512x100000, .i32⟩
  | 43 => ⟨S512x100000, .i32⟩
  | 44 => ⟨S512x100000, .i32⟩
  | 45 => ⟨S512x100000, .i32⟩
  | 46 => ⟨S_, .i32⟩
  | 47 => ⟨S512x100000, .i32⟩
  | 48 => ⟨S512x100000, .i32⟩
  | 49 => ⟨S_, .i32⟩
  | 50 => ⟨S512x100000, .i32⟩
  | 51 => ⟨S512x100000, .i32⟩
  | 52 => ⟨S512x100000, .i32⟩
  | 53 => ⟨S512x100000, .i32⟩
  | 54 => ⟨S512x100000, .i32⟩
  | 55 => ⟨S512x100000, .i32⟩
  | 56 => ⟨S512x100000, .i32⟩
  | 57 => ⟨S512x100000, .i32⟩
  | 58 => ⟨S_, .i32⟩
  | 59 => ⟨S512x100000, .i32⟩
  | 60 => ⟨S512x100000, .i32⟩
  | 61 => ⟨S512x100000, .i32⟩
  | 62 => ⟨S_, .i32⟩
  | 63 => ⟨S512x100000, .i32⟩
  | 64 => ⟨S512x100000, .i32⟩
  | 65 => ⟨S_, .i32⟩
  | 66 => ⟨S512x100000, .i32⟩
  | 67 => ⟨S512x100000, .i32⟩
  | 68 => ⟨S512x100000, .i32⟩
  | 69 => ⟨S512x100000, .i32⟩
  | 70 => ⟨S512x100000, .i32⟩
  | 71 => ⟨S_, .i32⟩
  | 72 => ⟨S512x100000, .i32⟩
  | 73 => ⟨S512x100000, .i32⟩
  | 74 => ⟨S_, .i32⟩
  | 75 => ⟨S512x100000, .i32⟩
  | 76 => ⟨S512x100000, .i32⟩
  | 77 => ⟨S512x100000, .i32⟩
  | 78 => ⟨S512x100000, .i32⟩
  | 79 => ⟨S512x100000, .i32⟩
  | 80 => ⟨S_, .i32⟩
  | 81 => ⟨S512x100000, .i32⟩
  | 82 => ⟨S512x100000, .i32⟩
  | 83 => ⟨S_, .i32⟩
  | 84 => ⟨S512x100000, .i32⟩
  | 85 => ⟨S512x100000, .i32⟩
  | 86 => ⟨S512x100000, .i32⟩
  | 87 => ⟨S512x100000, .i32⟩
  | 88 => ⟨S512x100000, .i32⟩
  | 89 => ⟨S_, .i32⟩
  | 90 => ⟨S512x100000, .i32⟩
  | 91 => ⟨S512x100000, .i32⟩
  | 92 => ⟨S_, .i32⟩
  | 93 => ⟨S512x100000, .i32⟩
  | 94 => ⟨S512x100000, .i32⟩
  | 95 => ⟨S512x100000, .i32⟩
  | 96 => ⟨S512x100000, .i32⟩
  | 97 => ⟨S512x100000, .i32⟩
  | 98 => ⟨S512x100000, .i32⟩
  | 99 => ⟨S512x100000, .i32⟩
  | 100 => ⟨S512x100000, .i32⟩
  | 101 => ⟨S_, .i32⟩
  | 102 => ⟨S512x100000, .i32⟩
  | 103 => ⟨S512x100000, .i32⟩
  | 104 => ⟨S512x100000, .i32⟩
  | 105 => ⟨S_, .i32⟩
  | 106 => ⟨S512x100000, .i32⟩
  | 107 => ⟨S512x100000, .i32⟩
  | 108 => ⟨S_, .i32⟩
  | 109 => ⟨S512x100000, .i32⟩
  | 110 => ⟨S512x100000, .i32⟩
  | 111 => ⟨S512x100000, .i32⟩
  | 112 => ⟨S512x100000, .i32⟩
  | 113 => ⟨S512x100000, .i32⟩
  | 114 => ⟨S_, .i32⟩
  | 115 => ⟨S512x100000, .i32⟩
  | 116 => ⟨S512x100000, .i32⟩
  | 117 => ⟨S_, .i32⟩
  | 118 => ⟨S512x100000, .i32⟩
  | 119 => ⟨S512x100000, .i32⟩
  | 120 => ⟨S512x100000, .i32⟩
  | 121 => ⟨S512x100000, .i32⟩
  | 122 => ⟨S512x100000, .i32⟩
  | 123 => ⟨S_, .i32⟩
  | 124 => ⟨S512x100000, .i32⟩
  | 125 => ⟨S512x100000, .i32⟩
  | 126 => ⟨S_, .i32⟩
  | 127 => ⟨S512x100000, .i32⟩
  | _ => ⟨S64x8x100000, .f32⟩

abbrev hbmTy0_2 (i : Nat) : BufTy := match i % 128 with
  | 0 => ⟨S512x100000, .i32⟩
  | 1 => ⟨S512x100000, .i32⟩
  | 2 => ⟨S512x100000, .i32⟩
  | 3 => ⟨S512x100000, .i32⟩
  | 4 => ⟨S_, .i32⟩
  | 5 => ⟨S512x100000, .i32⟩
  | 6 => ⟨S512x100000, .i32⟩
  | 7 => ⟨S_, .i32⟩
  | 8 => ⟨S512x100000, .i32⟩
  | 9 => ⟨S512x100000, .i32⟩
  | 10 => ⟨S512x100000, .i32⟩
  | 11 => ⟨S512x100000, .i32⟩
  | 12 => ⟨S512x100000, .i32⟩
  | 13 => ⟨S512x100000, .i32⟩
  | 14 => ⟨S512x100000, .i32⟩
  | 15 => ⟨S512x100000, .i32⟩
  | 16 => ⟨S_, .i32⟩
  | 17 => ⟨S512x100000, .i32⟩
  | 18 => ⟨S512x100000, .i32⟩
  | 19 => ⟨S512x100000, .i32⟩
  | 20 => ⟨S_, .i32⟩
  | 21 => ⟨S512x100000, .i32⟩
  | 22 => ⟨S512x100000, .i32⟩
  | 23 => ⟨S_, .i32⟩
  | 24 => ⟨S512x100000, .i32⟩
  | 25 => ⟨S512x100000, .i32⟩
  | 26 => ⟨S512x100000, .f32⟩
  | 27 => ⟨S_, .f32⟩
  | 28 => ⟨S512x100000, .f32⟩
  | 29 => ⟨S512x100000, .f32⟩
  | 30 => ⟨S1x1, .f32⟩
  | 31 => ⟨S512x100000, .f32⟩
  | 32 => ⟨S512x100000, .f32⟩
  | 33 => ⟨S512x100000, .f32⟩
  | 34 => ⟨S512x100000, .f32⟩
  | 35 => ⟨S512x100000, .f32⟩
  | 36 => ⟨S512x100000, .f32⟩
  | 37 => ⟨S_, .f32⟩
  | 38 => ⟨S512x100000, .f32⟩
  | 39 => ⟨S512x100000, .f32⟩
  | 40 => ⟨S512x100000, .f32⟩
  | 41 => ⟨S512x100000, .f32⟩
  | 42 => ⟨S512x100000, .f32⟩
  | 43 => ⟨S512x100000, .f32⟩
  | 44 => ⟨S512x100000, .f32⟩
  | 45 => ⟨S512x100000, .f32⟩
  | 46 => ⟨S512x100000, .i32⟩
  | 47 => ⟨S_, .f32⟩
  | 48 => ⟨S_, .i32⟩
  | 49 => ⟨S512, .f32⟩
  | 50 => ⟨S512, .i32⟩
  | 51 => ⟨S64x1x8, .i32⟩
  | _ => ⟨S64x8x100000, .f32⟩

abbrev hbmTy (i : Nat) : BufTy := match i / 128 with
  | 0 => hbmTy0_0 i
  | 1 => hbmTy0_1 i
  | 2 => hbmTy0_2 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_cst_6 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_c : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_c_1 : Ref sig .tc := ⟨.hbm, 48, rfl⟩
abbrev main_call0_v15 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v19_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v19_1 : Ref sig .tc := ⟨.hbm, 274, rfl⟩
abbrev main_call0_v20 : Ref sig .tc := ⟨.hbm, 275, rfl⟩
abbrev main_call0_c_2 : Ref sig .tc := ⟨.hbm, 276, rfl⟩
abbrev main_call0_v21 : Ref sig .tc := ⟨.hbm, 277, rfl⟩
abbrev main_call0_v22 : Ref sig .tc := ⟨.hbm, 278, rfl⟩
abbrev main_call0_c_3 : Ref sig .tc := ⟨.hbm, 279, rfl⟩
abbrev main_call0_v23 : Ref sig .tc := ⟨.hbm, 280, rfl⟩
abbrev main_call0_v24 : Ref sig .tc := ⟨.hbm, 281, rfl⟩
abbrev main_call0_v25 : Ref sig .tc := ⟨.hbm, 282, rfl⟩
abbrev main_call0_cst : Ref sig .tc := ⟨.hbm, 283, rfl⟩
abbrev main_call0_v26 : Ref sig .tc := ⟨.hbm, 284, rfl⟩
abbrev main_call0_v27 : Ref sig .tc := ⟨.hbm, 285, rfl⟩
abbrev main_call0_v28 : Ref sig .tc := ⟨.hbm, 286, rfl⟩
abbrev main_call0_v29 : Ref sig .tc := ⟨.hbm, 287, rfl⟩
abbrev main_call0_v30 : Ref sig .tc := ⟨.hbm, 288, rfl⟩
abbrev main_call0_v31 : Ref sig .tc := ⟨.hbm, 289, rfl⟩
abbrev main_call0_v32 : Ref sig .tc := ⟨.hbm, 290, rfl⟩
abbrev main_call0_v33 : Ref sig .tc := ⟨.hbm, 291, rfl⟩
abbrev main_v21 : Ref sig .tc := ⟨.hbm, 292, rfl⟩
abbrev main_cst_7 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_v26 : Ref sig .tc := ⟨.hbm, 298, rfl⟩
abbrev main_v27 : Ref sig .tc := ⟨.hbm, 299, rfl⟩
abbrev main_v28 : Ref sig .tc := ⟨.hbm, 300, rfl⟩
abbrev main_v29 : Ref sig .tc := ⟨.hbm, 301, rfl⟩
abbrev main_call1_v0 : Ref sig .tc := ⟨.hbm, 302, rfl⟩
abbrev main_call1_cst : Ref sig .tc := ⟨.hbm, 303, rfl⟩
abbrev main_call1_c : Ref sig .tc := ⟨.hbm, 304, rfl⟩
abbrev main_call1_v1_0 : Ref sig .tc := ⟨.hbm, 305, rfl⟩
abbrev main_v30 : Ref sig .tc := ⟨.hbm, 306, rfl⟩
abbrev main_v31 : Ref sig .tc := ⟨.hbm, 307, rfl⟩

abbrev nD : Nat := 1
abbrev τ : Topo := Topo.v7x

variable {F : FTy → Type} [FloatOps F]
-- ==== Proof.ArgMath.lean ====
/-
  The arg-max of a family of extended reals, the first index among equals, and the two facts about it that the comparison
  needs: a fold that keeps the better of two (value, index) pairs finds it, and adding one real number to every value
  leaves it. The last part is that the logarithm of a softmax is the logits plus one real number.
-/
module

public import Idealize.ShloMosaic.PureOps
public import Idealize.ShloMosaic.PureOps.Ideal
public import Idealize.ShloMosaic.PureOps.Ideal.Laws
public import Idealize.ShloMosaic.PureOps.Reduce

@[expose] public section

noncomputable section

namespace Cert.Sampling

open Idealize.ShloMosaic

/-- The word `v` is the first index at which `s` is largest. -/
def IsArg {n : Nat} (s : Fin n → EReal) (v : BitVec 32) : Prop :=
  ∃ c : Fin n, v = BitVec.ofNat 32 c.val ∧ ∀ c', s c' < s c ∨ (s c' = s c ∧ c.val ≤ c'.val)

theorem IsArg.unique {n : Nat} {s : Fin n → EReal} {v w : BitVec 32} (hv : IsArg s v) (hw : IsArg s w) : v = w := by
  obtain ⟨c, rfl, hc⟩ := hv
  obtain ⟨d, rfl, hd⟩ := hw
  rcases hc d with h | ⟨h, h'⟩
  · rcases hd c with g | ⟨g, g'⟩
    · exact absurd h (lt_asymm g)
    · exact absurd h (by rw [g]; exact lt_irrefl _)
  · rcases hd c with g | ⟨g, g'⟩
    · exact absurd g (by rw [h]; exact lt_irrefl _)
    · rw [le_antisymm h' g']

theorem IsArg.shift {n : Nat} {s t : Fin n → EReal} {v : BitVec 32} (K : ℝ) (ht : ∀ c, t c = s c + (K : EReal))
    (hv : IsArg s v) : IsArg t v := by
  obtain ⟨c, rfl, hc⟩ := hv
  refine ⟨c, rfl, fun c' => ?_⟩
  rw [ht, ht]
  rcases hc c' with h | ⟨h, h'⟩
  · exact .inl (EReal.add_lt_add_right_coe h K)
  · exact .inr ⟨by rw [h], h'⟩

/-- The pair `q` is no better than the pair `p`: a smaller value, or the same value at an index no smaller. -/
def Dom (q p : EReal × BitVec 32) : Prop := q.1 < p.1 ∨ (q.1 = p.1 ∧ p.2.toInt ≤ q.2.toInt)

theorem Dom.refl (p : EReal × BitVec 32) : Dom p p := .inr ⟨rfl, le_refl _⟩

theorem Dom.trans {a b c : EReal × BitVec 32} (h : Dom a b) (g : Dom b c) : Dom a c := by
  rcases h with h | ⟨h, h'⟩
  · rcases g with g | ⟨g, _⟩
    · exact .inl (h.trans g)
    · exact .inl (g ▸ h)
  · rcases g with g | ⟨g, g'⟩
    · exact .inl (h ▸ g)
    · exact .inr ⟨h.trans g, g'.trans h'⟩

/-- A step that returns one of its two arguments, no worse than either. -/
def Better (f : EReal × BitVec 32 → EReal × BitVec 32 → EReal × BitVec 32) : Prop :=
  ∀ a b, (f a b = a ∧ Dom b a) ∨ (f a b = b ∧ Dom a b)

/-- A fold of such a step ends at a member that no other member is better than. -/
theorem Better.foldl {f : EReal × BitVec 32 → EReal × BitVec 32 → EReal × BitVec 32} (hf : Better f)
    (l : List (EReal × BitVec 32)) (p : EReal × BitVec 32) :
    l.foldl f p ∈ p :: l ∧ ∀ q ∈ p :: l, Dom q (l.foldl f p) := by
  induction l generalizing p with
  | nil => exact ⟨List.mem_cons_self, fun q hq => by rw [List.mem_singleton.mp hq]; exact Dom.refl _⟩
  | cons b l ih =>
    obtain ⟨h1, h2⟩ := ih (f p b)
    have h0 := h2 (f p b) List.mem_cons_self
    rw [List.foldl_cons]
    rcases hf p b with ⟨e, d⟩ | ⟨e, d⟩
    · rw [e] at h1 h2 h0 ⊢
      refine ⟨?_, fun q hq => ?_⟩
      · rcases List.mem_cons.mp h1 with h | h
        · rw [h]; exact List.mem_cons_self
        · exact List.mem_cons_of_mem _ (List.mem_cons_of_mem _ h)
      · rcases List.mem_cons.mp hq with h | h
        · rw [h]; exact h0
        · rcases List.mem_cons.mp h with h | h
          · rw [h]; exact d.trans h0
          · exact h2 q (List.mem_cons_of_mem _ h)
    · rw [e] at h1 h2 h0 ⊢
      refine ⟨List.mem_cons_of_mem _ h1, fun q hq => ?_⟩
      rcases List.mem_cons.mp hq with h | h
      · rw [h]; exact d.trans h0
      · exact h2 q h

/-- A word below `2^31` read as a signed number. -/
theorem toInt_ofNat {c : Nat} (h : c < 2 ^ 31) : (BitVec.ofNat 32 c).toInt = (c : Int) := by
  rw [BitVec.toInt_ofNat']
  exact Int.bmod_eq_of_le (by omega) (by omega)

/-- A pair of a family's value and index, or the start (−∞, 0), that no pair of the family is better than, and not worse
    than the start, has the family's first largest index. -/
theorem isArg_of_dom {n : Nat} (hn : 0 < n) (hn' : n ≤ 2 ^ 31) (s : Fin n → EReal) (p : EReal × BitVec 32)
    (hp : p = (⊥, 0#32) ∨ ∃ c : Fin n, p = (s c, BitVec.ofNat 32 c.val))
    (hd : ∀ c : Fin n, Dom (s c, BitVec.ofNat 32 c.val) p) : IsArg s p.2 := by
  have key : ∃ c : Fin n, p = (s c, BitVec.ofNat 32 c.val) := by
    rcases hp with h | h
    · refine ⟨⟨0, hn⟩, ?_⟩
      rcases hd ⟨0, hn⟩ with g | ⟨g, _⟩
      · rw [h] at g; exact absurd g not_lt_bot
      · rw [h] at g ⊢
        exact Prod.ext g.symm rfl
    · exact h
  obtain ⟨c, rfl⟩ := key
  refine ⟨c, rfl, fun c' => ?_⟩
  rcases hd c' with g | ⟨g, g'⟩
  · exact .inl g
  · refine .inr ⟨g, ?_⟩
    have h1 := c.isLt
    have h2 := c'.isLt
    simp only [toInt_ofNat (lt_of_lt_of_le h1 hn'), toInt_ofNat (lt_of_lt_of_le h2 hn')] at g'
    omega

/-- The logarithm of the softmax of a family below +∞ is the family plus one real number. -/
theorem log_softmax {n : Nat} (x : Fin n → EReal) (hx : ∀ c, x c ≠ ⊤) (M : EReal) (hle : ∀ c, x c ≤ M)
    (hmem : M = ⊥ ∨ ∃ c, M = x c) :
    ∃ K : ℝ, ∀ c, Ideal.log (Ideal.div (Ideal.exp (x c - M)) (∑ d, Ideal.exp (x d - M))) = x c + (K : EReal) := by
  by_cases hM : M = ⊥
  · refine ⟨0, fun c => ?_⟩
    have hb : ∀ d, x d = ⊥ := fun d => le_bot_iff.mp (hM ▸ hle d)
    have he : ∀ d, Ideal.exp (x d - M) = 0 := fun d => by
      rw [hb, hM]
      rfl
    have hs : (∑ d, Ideal.exp (x d - M)) = 0 := Finset.sum_eq_zero fun d _ => he d
    rw [hs, he, hb]
    simp [Ideal.div, Ideal.log]
    rfl
  · obtain ⟨c0, hc0⟩ := hmem.resolve_left hM
    obtain ⟨m, rfl⟩ : ∃ m : ℝ, M = (m : EReal) := ⟨M.toReal, (EReal.coe_toReal (hc0 ▸ hx c0) hM).symm⟩
    let e : Fin n → ℝ := fun d => if x d = ⊥ then 0 else Real.exp ((x d).toReal - m)
    have he : ∀ d, Ideal.exp (x d - (m : EReal)) = ((e d : ℝ) : EReal) := fun d => by
      by_cases hd : x d = ⊥
      · simp only [e, hd, if_true]
        rfl
      · have hr := EReal.coe_toReal (hx d) hd
        simp only [e, hd, if_false]
        conv_lhs => rw [← hr]
        rfl
    have he0 : ∀ d, 0 ≤ e d := fun d => by
      by_cases hd : x d = ⊥
      · simp [e, hd]
      · simp only [e, hd, if_false]; exact (Real.exp_pos _).le
    have hc0' : e c0 = 1 := by
      have : x c0 ≠ ⊥ := by rw [← hc0]; exact hM
      simp only [e, this, if_false]
      rw [← hc0, EReal.toReal_coe, sub_self, Real.exp_zero]
    have hpos : 0 < ∑ d, e d := lt_of_lt_of_le (by rw [hc0']; exact one_pos)
      (Finset.single_le_sum (fun d _ => he0 d) (Finset.mem_univ c0))
    have hs : (∑ d, Ideal.exp (x d - (m : EReal))) = ((∑ d, e d : ℝ) : EReal) := by
      rw [Finset.sum_congr rfl fun d _ => he d]
      exact (map_sum (⟨⟨Real.toEReal, rfl⟩, EReal.coe_add⟩ : ℝ →+ EReal) e Finset.univ).symm
    refine ⟨-m - Real.log (∑ d, e d), fun c => ?_⟩
    have hne : ((∑ d, e d : ℝ) : EReal) ≠ 0 := by
      rw [← EReal.coe_zero]; exact fun h => hpos.ne' (EReal.coe_injective h)
    rw [hs, he, Ideal.div, if_neg hne, ← EReal.coe_inv, ← EReal.coe_mul]
    by_cases hc : x c = ⊥
    · have : e c = 0 := by simp [e, hc]
      rw [this, hc, zero_mul]
      show (if (0 : ℝ) ≤ 0 then ⊥ else _) = _
      rw [if_pos (le_refl _)]
      exact (EReal.bot_add _).symm
    · have hr := EReal.coe_toReal (hx c) hc
      have hec : e c = Real.exp ((x c).toReal - m) := by simp only [e, hc, if_false]
      have hp : 0 < e c * (∑ d, e d)⁻¹ := mul_pos (hec ▸ Real.exp_pos _) (inv_pos.mpr hpos)
      show (if e c * (∑ d, e d)⁻¹ ≤ 0 then ⊥ else ((Real.log (e c * (∑ d, e d)⁻¹) : ℝ) : EReal)) = _
      rw [if_neg (not_le.mpr hp), Real.log_mul (hec ▸ (Real.exp_pos _).ne') (inv_pos.mpr hpos).ne', Real.log_inv, hec,
        Real.log_exp]
      conv_rhs => rw [← hr]
      rw [← EReal.coe_add]
      congr 1
      ring

end Cert.Sampling
-- ==== Proof.Threefry.lean ====
/-
  The random numbers, as scalar functions. The program and the reference both draw their numbers from the Threefry-2x32
  generator with the key (0, 42) at the counter (0, n), n the number of the logit. This module states the generator once,
  as a function of one 32-bit word, and the Gumbel number the word gives.
-/
module

public import Idealize.ShloMosaic.PureOps
public import Idealize.ShloMosaic.PureOps.Ideal

@[expose] public section

noncomputable section

namespace Cert.Sampling

open Idealize.ShloMosaic

/-- A word shifted left by `a` joined with the same word shifted right by `b`: a rotation when `a + b = 32`. -/
def rot (a b : BitVec 32) (x : BitVec 32) : BitVec 32 :=
  IntOp.ori (IntOp.shli .vector x a) (IntOp.shrui .vector x b)

/-- One round: the first word takes up the second, the second is rotated and mixed with the new first. -/
def rnd (a b : BitVec 32) (p : BitVec 32 × BitVec 32) : BitVec 32 × BitVec 32 :=
  (IntOp.addi p.1 p.2, IntOp.xori (rot a b p.2) (IntOp.addi p.1 p.2))

/-- A step that adds a word of the key to each of the two words. -/
def inj (k l : BitVec 32) (p : BitVec 32 × BitVec 32) : BitVec 32 × BitVec 32 :=
  (IntOp.addi p.1 k, IntOp.addi p.2 l)

/-- The first of the two rotation groups. -/
def grpA (p : BitVec 32 × BitVec 32) : BitVec 32 × BitVec 32 :=
  rnd 6#32 26#32 (rnd 26#32 6#32 (rnd 15#32 17#32 (rnd 13#32 19#32 p)))

/-- The second rotation group. -/
def grpB (p : BitVec 32 × BitVec 32) : BitVec 32 × BitVec 32 :=
  rnd 24#32 8#32 (rnd 16#32 16#32 (rnd 29#32 3#32 (rnd 17#32 15#32 p)))

/-- The first group when the first word is zero: its first round adds nothing. -/
def grpA0 (z : BitVec 32) : BitVec 32 × BitVec 32 :=
  rnd 6#32 26#32 (rnd 26#32 6#32 (rnd 15#32 17#32 (z, IntOp.xori (rot 13#32 19#32 z) z)))

/-- The generator's 32 random bits, from the second counter word with its key word added. -/
def bits (z : BitVec 32) : BitVec 32 :=
  let p := inj 466689008#32 5#32 (grpA (inj 42#32 466689012#32 (grpB (let q := grpA (inj 466689008#32 2#32
    (grpB (inj 42#32 466689009#32 (grpA0 z)))); (q.1, IntOp.addi q.2 45#32)))))
  IntOp.xori p.1 p.2

variable {F : FTy → Type} [FloatOps F]

/-- The Gumbel number of a word of random bits. -/
def gumOf (w : BitVec 32) : F .f32 :=
  let u : F .f32 := FloatOps.maximumf (FloatOps.subf (FloatOps.ofBits .f32 (IntOp.ori (IntOp.shrui .vector w 9#32) 1065353216#32))
    (FloatOps.ofBits .f32 0x3F800000#32)) (FloatOps.ofBits .f32 0x00800000#32)
  FloatOps.subf (FloatOps.ofBits .f32 0x00000000#32) (FloatOps.log (FloatOps.subf (FloatOps.ofBits .f32 0x00000000#32) (FloatOps.log u)))

/-- The Gumbel number that the second counter word, with its key word added, gives. -/
def gum (z : BitVec 32) : F .f32 := gumOf (bits z)

end Cert.Sampling

end
-- ==== Proof.KernelValue.lean ====
/-
  What one pass of the program's body leaves, spelt over the generator of `Threefry.lean`. Each of the body's six copies
  of the generator (four in a trip of the loop, one for the leftover chunk, one for the tail) is the scalar `gum` at a
  counter word, so a trip is four strict updates of a running maximum, lane by lane, and the stored block is two
  row maxima with the least column that attains each, merged. Stated at any float instance.
-/
module

public import proofs.«01_k».proof.Proof.Threefry
public import proofs.«01_k».proof.Proof.Gen.KernelIdeal.Value

@[expose] public section

set_option maxRecDepth 65536

noncomputable section

namespace Cert.Sampling

open Idealize.ShloMosaic Idealize.ShloMosaic.Tactic Cert.KernelIdeal Cert.KernelIdeal.Gen

variable {F : FTy → Type} [FloatOps F]

/-- One strict update of a running maximum and the number kept with it, as the program selects it. -/
def pick (p : F .f32 × BitVec 32) (v : F .f32) (w : BitVec 32) : F .f32 × BitVec 32 :=
  (Scalar.select (FloatOps.cmpf .olt p.1 v) v p.1, Scalar.select (FloatOps.cmpf .olt p.1 v) w p.2)

variable (𝒱 : Variants) (c : Dev nD) (bd : Option 𝒱.V) (i : grid0.Coords) (arg1 : Memref sig .tc .vmem S8x100000 .f32)
  (harg1 : arg1.IsWhole) (arg2 : Memref sig .tc .vmem S1x1x8 .i32) (harg2 : arg2.IsWhole) (v8 : IVec S8x1024 32)
  (x : Vec F S8x100000 .f32) (k : Fin k0_t1_loop.trips) (acc : FVec F S8x1024 .f32 × IVec S8x1024 32)

/-- Chunk `j` of trip `k` at a lane: the logit plus its Gumbel number. -/
def chunk (j : Fin 4) (ix : S8x1024.Idx) : F .f32 :=
  FloatOps.addf (shapeCast S8x1024 (View.readAt (Elt F) arg1.view (Rect.unit (s := S8x100000)
      (k0_off1 k (BitVec.ofNat 32 (1024 * j.val))) S8x1024.size (k0_off1_inb k j)).toLoadRect (harg1.unread x))
      shapeCasts_S8x1024_S8x1024 ix)
    (gum (IntOp.addi (k0_pay2 (k0_pay155 i) v8 0#32 1#32 k ix) (BitVec.ofNat 32 (1024 * j.val))))

/-- The number of chunk `j` of trip `k`, as the program computes it. -/
def num (j : Fin 4) : BitVec 32 := IntOp.addi (IntOp.muli 4#32 (Scf.iv 0#32 1#32 k)) (BitVec.ofNat 32 j.val)

/-- A trip at a lane: the four chunks taken up in order. -/
def trip4 (ix : S8x1024.Idx) : F .f32 × BitVec 32 :=
  pick (pick (pick (pick (acc.1 ix, acc.2 ix) (chunk i arg1 harg1 v8 x k 0 ix) (num k 0))
    (chunk i arg1 harg1 v8 x k 1 ix) (num k 1)) (chunk i arg1 harg1 v8 x k 2 ix) (num k 2))
    (chunk i arg1 harg1 v8 x k 3 ix) (num k 3)

/-- What a trip yields is that, in its first component, -/
theorem trip_fst (ix : S8x1024.Idx) :
    (tripR_k0_t1 (F := F) 𝒱 c bd i arg1 harg1 arg2 harg2 v8 (harg1.unread x) k acc).1 ix
      = (trip4 i arg1 harg1 v8 x k acc ix).1 := by
  sl_kernel_rfl

/-- and in its second. -/
theorem trip_snd (ix : S8x1024.Idx) :
    (tripR_k0_t1 (F := F) 𝒱 c bd i arg1 harg1 arg2 harg2 v8 (harg1.unread x) k acc).2 ix
      = (trip4 i arg1 harg1 v8 x k acc ix).2 := by
  sl_kernel_rfl

/-- The loop's carried pair after all its trips. -/
def looped : FVec F S8x1024 .f32 × IVec S8x1024 32 :=
  st_k0_t1 (F := F) Variants.none c none i arg1 harg1 arg2 harg2 (iota .tc S8x1024 32 [1] iota_S8x1024_d1_w32)
    (harg1.unread x) (k0_pay156, k0_pay157) (Scf.trips k0_t1_loop.lb k0_t1_loop.ub k0_t1_loop.st)

/-- The leftover chunk at a lane, -/
def leftV (ix : S8x1024.Idx) : F .f32 :=
  FloatOps.addf (shapeCast S8x1024 (View.readAt (Elt F) arg1.view (Rect.unit (s := S8x100000)
      ![0, 98304] S8x1024.size inb_S8x100000_S8x1024_0_98304).toLoadRect (harg1.unread x)) shapeCasts_S8x1024_S8x1024 ix)
    (gum (k0_pay169 i ix))

/-- and the tail's columns. -/
def tailV : FVec F S8x672 .f32 := fun ix =>
  FloatOps.addf (shapeCast S8x672 (View.readAt (Elt F) arg1.view (Rect.unit (s := S8x100000)
      ![0, 99328] S8x672.size inb_S8x100000_S8x672_0_99328).toLoadRect (harg1.unread x)) shapeCasts_S8x672_S8x672 ix)
    (gum (k0_pay206 (k0_pay155 i) ix))

/-- The lanes' pairs once the leftover chunk is taken up: the maxima, -/
def lanesV : FVec F S8x1024 .f32 := fun ix =>
  (pick ((looped c i arg1 harg1 arg2 harg2 x).1 ix, (looped c i arg1 harg1 arg2 harg2 x).2 ix)
    (leftV i arg1 harg1 x ix) 96#32).1

/-- and the numbers of the chunks that attain them. -/
def lanesN : IVec S8x1024 32 := fun ix =>
  (pick ((looped c i arg1 harg1 arg2 harg2 x).1 ix, (looped c i arg1 harg1 arg2 harg2 x).2 ix)
    (leftV i arg1 harg1 x ix) 96#32).2

/-- The row maxima of a block of lanes, and of the tail. -/
def mainMax (v : FVec F S8x1024 .f32) : FVec F S8 .f32 :=
  multiReduction .maximumf [1] S8 v 0xFF800000#32 reduces_S8x1024_S8 (.inl rfl) rfl
def tailMax (v : FVec F S8x672 .f32) : FVec F S8 .f32 :=
  multiReduction .maximumf [1] S8 v 0xFF800000#32 reduces_S8x672_S8 (.inl rfl) rfl

/-- The least column, over the lanes that attain the row's maximum. -/
def mainArg (v : FVec F S8x1024 .f32) (n : IVec S8x1024 32) : IVec S8 32 :=
  multiReductionI .minsi [1] S8
    (select (cmpf .oeq v (broadcastTo S8x1024 (shapeCast S8x1 (mainMax v) shapeCasts_S8_S8x1) broadcasts_S8x1_S8x1024))
      (addi (muli n (broadcast S8x1024 1024#32)) (iota .tc S8x1024 32 [1] iota_S8x1024_d1_w32))
      (broadcast S8x1024 2147483647#32)) 2147483647#32 reduces_S8x1024_S8 rfl

/-- The same for the tail. -/
def tailArg (v : FVec F S8x672 .f32) : IVec S8 32 :=
  multiReductionI .minsi [1] S8
    (select (cmpf .oeq v (broadcastTo S8x672 (shapeCast S8x1 (tailMax v) shapeCasts_S8_S8x1) broadcasts_S8x1_S8x672))
      (addi (iota .tc S8x672 32 [1] iota_S8x672_d1_w32) (broadcast S8x672 99328#32))
      (broadcast S8x672 2147483647#32)) 2147483647#32 reduces_S8x672_S8 rfl

/-- A row maximum read back through the two reshapes the program makes of it. -/
def there (v : FVec F S8 .f32) : FVec F S8 .f32 :=
  shapeCast S8 (shapeCast S8x1 v shapeCasts_S8_S8x1) shapeCasts_S8x1_S8

/-- The two candidates merged: the greater maximum's, and on a tie the lesser column. -/
def merged (v : FVec F S8x1024 .f32) (n : IVec S8x1024 32) (t : FVec F S8x672 .f32) : IVec S8 32 :=
  select (cmpf .oeq (there (tailMax t)) (there (mainMax v))) (minsi (mainArg v n) (tailArg t))
    (select (cmpf .ogt (there (tailMax t)) (there (mainMax v))) (tailArg t) (mainArg v n))

/-- WHAT A POINT STORES: the merged candidates of its rows. -/
theorem out_eq : out0_A_1 (F := F) c i arg1 harg1 arg2 harg2 x
    = shapeCast S1x1x8 (merged (lanesV c i arg1 harg1 arg2 harg2 x) (lanesN c i arg1 harg1 arg2 harg2 x)
        (tailV i arg1 harg1 x)) shapeCasts_S8_S1x1x8 := by
  unfold out0_A_1
  rw [View.read_writes_eq_canon _ _ _ (cover0_A_1 c i arg1 harg1 arg2 harg2 x)]
  unfold kernelRun0_A
  dsimp only
  rw [View.canon_unit_zero (funext fun a => by fin_cases a <;> rfl)]
  sl_kernel_rfl

end Cert.Sampling

end
-- ==== Proof.Lanes.lean ====
/-
  The program's arg-max over the extended reals, on plain numbers: lanes that each keep the first largest of their own
  columns, the row's maximum over the lanes with the least column that attains it, and the merge with the tail.
-/
module

public import proofs.«01_k».proof.Proof.ArgMath
public import proofs.«01_k».proof.Proof.KernelValue

@[expose] public section

noncomputable section

namespace Cert.Sampling

open Idealize.ShloMosaic

/-- Where a lane stands after `Q` of its values `s 0, s 1, …`: still at its start, or at one of them, none of them
    larger and none equal before it. -/
def Lane (s : Nat → EReal) (Q : Nat) (p : EReal × BitVec 32) : Prop :=
  (p = (⊥, 0#32) ∨ ∃ q < Q, p = (s q, BitVec.ofNat 32 q)) ∧ ∀ q < Q, s q < p.1 ∨ (s q = p.1 ∧ p.2.toNat ≤ q)

theorem Lane.zero (s : Nat → EReal) : Lane s 0 (⊥, 0#32) :=
  ⟨.inl rfl, fun q h => absurd h (Nat.not_lt_zero q)⟩

theorem pick_ideal (p : EReal × BitVec 32) (v : EReal) (w : BitVec 32) :
    pick (F := Ideal) p v w = if p.1 < v then (v, w) else p := by
  unfold pick
  simp only [Ideal.cmpf_def, Ideal.cmp, Scalar.select]
  by_cases h : p.1 < v <;> simp [h]

/-- One more value. -/
theorem Lane.step {s : Nat → EReal} {Q : Nat} {p : EReal × BitVec 32} (h : Lane s Q p) {v : EReal} {w : BitVec 32}
    (hv : v = s Q) (hw : w = BitVec.ofNat 32 Q) : Lane s (Q + 1) (pick (F := Ideal) p v w) := by
  subst hv hw
  rw [pick_ideal]
  obtain ⟨h1, h2⟩ := h
  by_cases hlt : p.1 < s Q
  · rw [if_pos hlt]
    refine ⟨.inr ⟨Q, Nat.lt_succ_self Q, rfl⟩, fun q hq => ?_⟩
    rcases Nat.lt_succ_iff_lt_or_eq.mp hq with g | g
    · left
      rcases h2 q g with e | ⟨e, _⟩
      · exact e.trans hlt
      · exact e ▸ hlt
    · subst g
      exact .inr ⟨rfl, Nat.mod_le _ _⟩
  · rw [if_neg hlt]
    refine ⟨?_, fun q hq => ?_⟩
    · rcases h1 with e | ⟨q, g, e⟩
      · exact .inl e
      · exact .inr ⟨q, Nat.lt_succ_of_lt g, e⟩
    · rcases Nat.lt_succ_iff_lt_or_eq.mp hq with g | g
      · exact h2 q g
      · subst g
        rcases lt_or_eq_of_le (not_lt.mp hlt) with e | e
        · exact .inl e
        · refine .inr ⟨e, ?_⟩
          rcases h1 with f | ⟨q', g, f⟩
          · rw [f]; exact Nat.zero_le _
          · rw [f]; exact (Nat.mod_le _ _).trans g.le

/-- A lane that has met a value stands at one. -/
theorem Lane.done {s : Nat → EReal} {Q : Nat} {p : EReal × BitVec 32} (hQ : 0 < Q) (h : Lane s Q p) :
    ∃ q < Q, p = (s q, BitVec.ofNat 32 q) := by
  obtain ⟨h1, h2⟩ := h
  rcases h1 with e | e
  · refine ⟨0, hQ, ?_⟩
    rcases h2 0 hQ with g | ⟨g, _⟩
    · rw [e] at g; exact absurd g not_lt_bot
    · rw [e] at g ⊢
      exact Prod.ext g.symm rfl
  · exact e

theorem minsi_eq (x y : BitVec 32) : IntOp.minsi x y = if x.toInt < y.toInt then x else y := by
  unfold IntOp.minsi
  simp [BitVec.slt]

/-- A fold of the signed minimum from the greatest number returns that number or a member, and none is less. -/
theorem fold_minsi {n : Nat} (f : Fin n → BitVec 32) :
    let m := (Finset.univ : Finset (Fin n)).fold IKind.minsi.op 2147483647#32 f
    (m = 2147483647#32 ∨ ∃ l, m = f l) ∧ ∀ l, m.toInt ≤ (f l).toInt := by
  suffices h : ∀ t : Finset (Fin n), (t.fold IKind.minsi.op 2147483647#32 f = 2147483647#32
      ∨ ∃ l, t.fold IKind.minsi.op 2147483647#32 f = f l)
      ∧ ∀ l ∈ t, (t.fold IKind.minsi.op 2147483647#32 f).toInt ≤ (f l).toInt from
    ⟨(h _).1, fun l => (h _).2 l (Finset.mem_univ l)⟩
  intro t
  induction t using Finset.induction_on with
  | empty => exact ⟨.inl (Finset.fold_empty ..), fun l h => absurd h (Finset.notMem_empty l)⟩
  | insert a t ha ih =>
    obtain ⟨h1, h2⟩ := ih
    rw [Finset.fold_insert ha]
    generalize t.fold IKind.minsi.op 2147483647#32 f = m at h1 h2 ⊢
    show (IntOp.minsi (f a) m = _ ∨ ∃ l, IntOp.minsi (f a) m = _) ∧ ∀ l ∈ _, (IntOp.minsi (f a) m).toInt ≤ _
    rw [minsi_eq]
    by_cases h : (f a).toInt < m.toInt
    · rw [if_pos h]
      refine ⟨.inr ⟨a, rfl⟩, fun l hl => ?_⟩
      rcases Finset.mem_insert.mp hl with e | e
      · rw [e]
      · exact h.le.trans (h2 l e)
    · rw [if_neg h]
      refine ⟨h1, fun l hl => ?_⟩
      rcases Finset.mem_insert.mp hl with e | e
      · rw [e]; exact not_lt.mp h
      · exact h2 l e

/-- The row's maximum over the lanes and the least column that attains it. -/
theorem lanes_arg {n : Nat} (hn : 0 < n) (V : Fin n → EReal) (C : Fin n → Nat) (hC : ∀ l, C l < 2147483647)
    (M : EReal) (hM : M = (Finset.univ : Finset (Fin n)).fold max (⊥ : EReal) V) (w : BitVec 32)
    (hw : w = (Finset.univ : Finset (Fin n)).fold IKind.minsi.op 2147483647#32
      (fun l => if V l = M then BitVec.ofNat 32 (C l) else 2147483647#32)) :
    (∀ l, V l ≤ M) ∧ ∃ l, V l = M ∧ w = BitVec.ofNat 32 (C l) ∧ ∀ l', V l' = M → C l ≤ C l' := by
  have hle : ∀ l, V l ≤ M := fun l => by
    rw [hM]; exact (Finset.le_fold_max _).mpr (.inr ⟨l, Finset.mem_univ l, le_refl _⟩)
  refine ⟨hle, ?_⟩
  have hex : ∃ l, V l = M := by
    rcases (Finset.le_fold_max _).mp (le_of_eq hM) with h | ⟨l, _, h⟩
    · exact ⟨⟨0, hn⟩, le_antisymm (hle _) (h.trans bot_le)⟩
    · exact ⟨l, le_antisymm (hle l) h⟩
  obtain ⟨l0, h0⟩ := hex
  obtain ⟨h1, h2⟩ := fold_minsi fun l => if V l = M then BitVec.ofNat 32 (C l) else 2147483647#32
  rw [← hw] at h1 h2
  have hi : ∀ l, (BitVec.ofNat 32 (C l)).toInt = (C l : Int) := fun l => toInt_ofNat (by have := hC l; omega)
  have hlt : ∀ l, V l = M → w.toInt ≤ (C l : Int) := fun l hl => by
    have := h2 l
    simp only [hl, if_true] at this
    rw [hi] at this
    exact this
  have htop : w ≠ 2147483647#32 := fun e => by
    have h := hlt l0 h0
    rw [e] at h
    have h' := hC l0
    have : (2147483647#32 : BitVec 32).toInt = 2147483647 := by decide
    omega
  obtain ⟨l, hl⟩ := h1.resolve_left htop
  have hVl : V l = M := by
    by_contra h
    simp only [h, if_false] at hl
    exact htop hl
  simp only [hVl, if_true] at hl
  refine ⟨l, hVl, hl, fun l' hl' => ?_⟩
  have := hlt l' hl'
  rw [hl, hi] at this
  omega

/-- The whole row: 1024 lanes over the columns below 99328, 672 lanes over the rest, and the merge. -/
theorem row_arg (s : Nat → EReal) (V : Fin 1024 → EReal) (N : Fin 1024 → BitVec 32) (T : Fin 672 → EReal)
    (hL : ∀ l : Fin 1024, Lane (fun q => s (q * 1024 + l.val)) 97 (V l, N l)) (hT : ∀ l : Fin 672, T l = s (99328 + l.val))
    (M : EReal) (hM : M = (Finset.univ : Finset (Fin 1024)).fold max (⊥ : EReal) V) (w : BitVec 32)
    (hw : w = (Finset.univ : Finset (Fin 1024)).fold IKind.minsi.op 2147483647#32
      (fun l => if V l = M then N l * 1024#32 + BitVec.ofNat 32 l.val else 2147483647#32))
    (M' : EReal) (hM' : M' = (Finset.univ : Finset (Fin 672)).fold max (⊥ : EReal) T) (w' : BitVec 32)
    (hw' : w' = (Finset.univ : Finset (Fin 672)).fold IKind.minsi.op 2147483647#32
      (fun l => if T l = M' then BitVec.ofNat 32 l.val + 99328#32 else 2147483647#32)) :
    IsArg (fun c : Fin 100000 => s c.val)
      (if M' = M then IntOp.minsi w w' else if M < M' then w' else w) := by
  choose q hq hp using fun l => (hL l).done (by decide)
  have hV : ∀ l, V l = s (q l * 1024 + l.val) := fun l => congrArg Prod.fst (hp l)
  have hN : ∀ l, N l = BitVec.ofNat 32 (q l) := fun l => congrArg Prod.snd (hp l)
  have hwe : w = (Finset.univ : Finset (Fin 1024)).fold IKind.minsi.op 2147483647#32
      (fun l => if V l = M then BitVec.ofNat 32 (q l * 1024 + l.val) else 2147483647#32) := by
    rw [hw]
    refine Finset.fold_congr fun l _ => ?_
    rw [hN, BitVec.ofNat_add, BitVec.ofNat_mul]
  have hwe' : w' = (Finset.univ : Finset (Fin 672)).fold IKind.minsi.op 2147483647#32
      (fun l => if T l = M' then BitVec.ofNat 32 (99328 + l.val) else 2147483647#32) := by
    rw [hw']
    refine Finset.fold_congr fun l _ => ?_
    rw [Nat.add_comm, BitVec.ofNat_add]
  obtain ⟨a1, l, a2, a3, a4⟩ := lanes_arg (by decide) V (fun l => q l * 1024 + l.val)
    (fun l => by have := hq l; have := l.isLt; omega) M hM w hwe
  obtain ⟨b1, t, b2, b3, b4⟩ := lanes_arg (by decide) T (fun l => 99328 + l.val)
    (fun l => by have := l.isLt; omega) M' hM' w' hwe'
  have hql := hq l
  have hll := l.isLt
  have htl := t.isLt
  -- the columns of the lanes
  have main : ∀ c < 99328, s c < M ∨ (s c = M ∧ q l * 1024 + l.val ≤ c) := fun c hc => by
    have hd : c / 1024 * 1024 + c % 1024 = c := by omega
    have hb := (hL ⟨c % 1024, Nat.mod_lt _ (by decide)⟩).2 (c / 1024) (by omega)
    simp only [hd] at hb
    rcases hb with h | ⟨h, h'⟩
    · exact .inl (lt_of_lt_of_le h (a1 _))
    · rcases lt_or_eq_of_le (a1 ⟨c % 1024, Nat.mod_lt _ (by decide)⟩) with g | g
      · exact .inl (h ▸ g)
      · refine .inr ⟨h.trans g, ?_⟩
        have := a4 _ g
        rw [hN] at h'
        have hq' := hq ⟨c % 1024, Nat.mod_lt _ (by decide)⟩
        rw [BitVec.toNat_ofNat, Nat.mod_eq_of_lt (by omega)] at h'
        refine this.trans ?_
        show q _ * 1024 + c % 1024 ≤ c
        omega
  -- the tail's columns
  have tail : ∀ c, 99328 ≤ c → c < 100000 → s c < M' ∨ (s c = M' ∧ 99328 + t.val ≤ c) := fun c h1 h2 => by
    have hT' := hT ⟨c - 99328, by omega⟩
    have he : 99328 + (c - 99328) = c := by omega
    simp only [he] at hT'
    rcases lt_or_eq_of_le (b1 ⟨c - 99328, by omega⟩) with g | g
    · exact .inl (hT' ▸ g)
    · refine .inr ⟨hT' ▸ g, ?_⟩
      have := b4 _ g
      simp only [he] at this
      exact this
  have sl : s (q l * 1024 + l.val) = M := (hV l).symm.trans a2
  have st : s (99328 + t.val) = M' := (hT t).symm.trans b2
  by_cases e : M' = M
  · rw [if_pos e, minsi_eq, if_pos (by rw [a3, b3, toInt_ofNat (by omega), toInt_ofNat (by omega)]; omega)]
    refine ⟨⟨q l * 1024 + l.val, by omega⟩, a3, fun c' => ?_⟩
    simp only [sl]
    by_cases hc : c'.val < 99328
    · exact main _ hc
    · rcases tail c'.val (by omega) c'.isLt with h | ⟨h, _⟩
      · exact .inl (e ▸ h)
      · exact .inr ⟨e ▸ h, by omega⟩
  · rw [if_neg e]
    by_cases g : M < M'
    · rw [if_pos g]
      refine ⟨⟨99328 + t.val, by omega⟩, b3, fun c' => ?_⟩
      simp only [st]
      by_cases hc : c'.val < 99328
      · rcases main _ hc with h | ⟨h, _⟩
        · exact .inl (h.trans g)
        · exact .inl (h ▸ g)
      · exact tail c'.val (by omega) c'.isLt
    · rw [if_neg g]
      have g' : M' < M := lt_of_le_of_ne (not_lt.mp g) e
      refine ⟨⟨q l * 1024 + l.val, by omega⟩, a3, fun c' => ?_⟩
      simp only [sl]
      by_cases hc : c'.val < 99328
      · exact main _ hc
      · rcases tail c'.val (by omega) c'.isLt with h | ⟨h, _⟩
        · exact .inl (h.trans g')
        · exact .inl (h ▸ g')

end Cert.Sampling

end
-- ==== Proof.KernelRow.lean ====
/-
  One block of the program over the extended reals: each of its eight results is the first column at which the row's
  logit plus its Gumbel number is largest.
-/
module

public import proofs.«01_k».proof.Proof.Lanes
public import Idealize.ShloMosaic.Lib.Pipeline.ValueKit.Tiles
public import Idealize.ShloMosaic.Lib.IdealHost
public import Idealize.ShloMosaic.Lib.ValueIdx

@[expose] public section

set_option maxRecDepth 10000

noncomputable section

namespace Cert.Sampling

open Idealize.ShloMosaic Idealize.ShloMosaic.Tactic Cert.KernelIdeal Cert.KernelIdeal.Gen Idealize.ShloMosaic.ValueIdx

/-- A column's index. -/
def col (c : Nat) : Fin 100000 := ⟨c % 100000, Nat.mod_lt _ (by decide)⟩

theorem col_val {c : Nat} (h : c < 100000) : (col c).val = c := Nat.mod_eq_of_lt h

/-- A block's score: the logit plus the Gumbel number of its place in the whole array. -/
def score (x : Vec Ideal S8x100000 .f32) (i : grid0.Coords) (r : Fin 8) (c : Nat) : EReal :=
  x (ix2 r (col c))
    + gum (F := Ideal) (BitVec.ofNat 32 (((i 0).val * 8 + r.val) * 100000 + c) + 42#32)

variable (c : Dev nD) (i : grid0.Coords) (arg1 : Memref sig .tc .vmem S8x100000 .f32)
  (harg1 : arg1.IsWhole) (arg2 : Memref sig .tc .vmem S1x1x8 .i32) (harg2 : arg2.IsWhole) (x : Vec Ideal S8x100000 .f32)

abbrev lanes : IVec S8x1024 32 := iota .tc S8x1024 32 [1] iota_S8x1024_d1_w32

theorem base_at (r : Fin 8) :
    k0_pay155 i (ix2 r 0) = BitVec.ofNat 32 (((i 0).val * 8 + r.val) * 100000) + 42#32 := by
  have h : k0_pay155 i (ix2 r 0) = (BitVec.ofNat 32 r.val + BitVec.ofNat 32 (i 0).val * 8#32) * 100000#32 + 42#32 := by
    unfold k0_pay155
    show (BitVec.ofNat 32 (0 * 8 + r.val) + _) * _ + _ = _
    rw [Nat.zero_mul, Nat.zero_add]
    rfl
  rw [h, BitVec.ofNat_mul, BitVec.ofNat_add, BitVec.ofNat_mul, BitVec.add_comm (BitVec.ofNat 32 r.val)]

theorem down (v : IVec S8x1 32) (r : Fin 8) (l : Fin 1024) :
    broadcastTo S8x1024 v broadcasts_S8x1_S8x1024 (ix2 r l) = v (ix2 r 0) := by
  unfold broadcastTo
  refine congrArg v (funext fun a => Fin.ext ?_)
  match a with
  | ⟨0, _⟩ => rfl
  | ⟨1, _⟩ => rfl

theorem down' (v : IVec S8x1 32) (r : Fin 8) (l : Fin 672) :
    broadcastTo S8x672 v broadcasts_S8x1_S8x672 (ix2 r l) = v (ix2 r 0) := by
  unfold broadcastTo
  refine congrArg v (funext fun a => Fin.ext ?_)
  match a with
  | ⟨0, _⟩ => rfl
  | ⟨1, _⟩ => rfl

theorem num_eq (k : Fin k0_t1_loop.trips) (j : Fin 4) : num k j = BitVec.ofNat 32 (4 * k.val + j.val) := by
  unfold num
  show 4#32 * (0#32 + BitVec.ofNat 32 k.val * 1#32) + BitVec.ofNat 32 j.val = _
  rw [BitVec.zero_add, BitVec.mul_one, BitVec.ofNat_add, BitVec.ofNat_mul]

/-- A load of 1024 columns read at a lane, -/
theorem load_at (off : Fin 2 → Nat) (b : Nat) (hoff : off = ![0, b]) (inb) (r : Fin 8) (l : Fin 1024) (q : Fin 100000)
    (hq : q.val = b + l.val) :
    shapeCast S8x1024 (View.readAt (Elt Ideal) arg1.view (Rect.unit (s := S8x100000) off S8x1024.size inb).toLoadRect (harg1.unread x))
      shapeCasts_S8x1024_S8x1024 (ix2 r l) = x (ix2 r q) := by
  subst hoff
  refine (congrFun (shapeCast_self (s := S8x1024) _ _) _).trans ?_
  rw [View.readAt_eq_ld, harg1.read_unread]
  refine View.ld_unit_apply_of _ _ _ _ _ _ fun a => ?_
  match a with
  | ⟨0, _⟩ => exact (Nat.zero_add r.val).symm
  | ⟨1, _⟩ => exact hq

/-- and one of the tail's 672. -/
theorem load_at' (off : Fin 2 → Nat) (b : Nat) (hoff : off = ![0, b]) (inb) (r : Fin 8) (l : Fin 672) (q : Fin 100000)
    (hq : q.val = b + l.val) :
    shapeCast S8x672 (View.readAt (Elt Ideal) arg1.view (Rect.unit (s := S8x100000) off S8x672.size inb).toLoadRect (harg1.unread x))
      shapeCasts_S8x672_S8x672 (ix2 r l) = x (ix2 r q) := by
  subst hoff
  refine (congrFun (shapeCast_self (s := S8x672) _ _) _).trans ?_
  rw [View.readAt_eq_ld, harg1.read_unread]
  refine View.ld_unit_apply_of _ _ _ _ _ _ fun a => ?_
  match a with
  | ⟨0, _⟩ => exact (Nat.zero_add r.val).symm
  | ⟨1, _⟩ => exact hq

theorem words_chunk (B K b L : Nat) :
    BitVec.ofNat 32 (0 * 1024 + L) + (BitVec.ofNat 32 B + 42#32 + 4#32 * (0#32 + BitVec.ofNat 32 K * 1#32) * 1024#32) + BitVec.ofNat 32 b
      = BitVec.ofNat 32 (B + (4 * K * 1024 + b + L)) + 42#32 := by
  simp only [BitVec.ofNat_add, BitVec.ofNat_mul, Nat.zero_mul, Nat.zero_add, BitVec.zero_add, BitVec.mul_one]
  ac_rfl

theorem words_rest (B b L n : Nat) :
    BitVec.ofNat 32 (0 * n + L) + (BitVec.ofNat 32 B + 42#32 + BitVec.ofNat 32 b) = BitVec.ofNat 32 (B + (b + L)) + 42#32 := by
  simp only [BitVec.ofNat_add, Nat.zero_mul, Nat.zero_add]
  ac_rfl

/-- The counter words, with the key's word added: a chunk's, -/
theorem word_chunk (k : Fin k0_t1_loop.trips) (b : Nat) (r : Fin 8) (l : Fin 1024) :
    IntOp.addi (k0_pay2 (k0_pay155 i) lanes 0#32 1#32 k (ix2 r l)) (BitVec.ofNat 32 b)
      = BitVec.ofNat 32 (((i 0).val * 8 + r.val) * 100000 + (4 * k.val * 1024 + b + l.val)) + 42#32 := by
  have h : k0_pay2 (k0_pay155 i) lanes 0#32 1#32 k (ix2 r l)
      = BitVec.ofNat 32 (0 * 1024 + l.val) + (k0_pay155 i (ix2 r 0) + 4#32 * (0#32 + BitVec.ofNat 32 k.val * 1#32) * 1024#32) := by
    unfold k0_pay2
    exact congrArg (fun w => BitVec.ofNat 32 (0 * 1024 + l.val) + w) (down _ r l)
  rw [h, base_at]
  exact words_chunk _ _ _ _

/-- the leftover chunk's, -/
theorem word_left (r : Fin 8) (l : Fin 1024) :
    k0_pay169 i (ix2 r l) = BitVec.ofNat 32 (((i 0).val * 8 + r.val) * 100000 + (98304 + l.val)) + 42#32 := by
  have h : k0_pay169 i (ix2 r l) = BitVec.ofNat 32 (0 * 1024 + l.val) + (k0_pay155 i (ix2 r 0) + 98304#32) := by
    unfold k0_pay169
    exact congrArg (fun w => BitVec.ofNat 32 (0 * 1024 + l.val) + w) (down _ r l)
  rw [h, base_at]
  exact words_rest _ _ _ _

/-- and the tail's. -/
theorem word_tail (r : Fin 8) (l : Fin 672) :
    k0_pay206 (k0_pay155 i) (ix2 r l) = BitVec.ofNat 32 (((i 0).val * 8 + r.val) * 100000 + (99328 + l.val)) + 42#32 := by
  have h : k0_pay206 (k0_pay155 i) (ix2 r l) = BitVec.ofNat 32 (0 * 672 + l.val) + (k0_pay155 i (ix2 r 0) + 99328#32) := by
    unfold k0_pay206
    exact congrArg (fun w => BitVec.ofNat 32 (0 * 672 + l.val) + w) (down' _ r l)
  rw [h, base_at]
  exact words_rest _ _ _ _

theorem score_of_eq {r : Fin 8} {n : Nat} {v : EReal} {w : BitVec 32} (hv : v = x (ix2 r (col n)))
    (hw : w = BitVec.ofNat 32 (((i 0).val * 8 + r.val) * 100000 + n) + 42#32) :
    FloatOps.addf (F := Ideal) (φ := .f32) v (gum w) = score x i r n := by
  subst hv hw
  rfl

theorem chunk_eq (k : Fin k0_t1_loop.trips) (j : Fin 4) (r : Fin 8) (l : Fin 1024) :
    chunk (F := Ideal) i arg1 harg1 lanes x k j (ix2 r l) = score x i r ((4 * k.val + j.val) * 1024 + l.val) := by
  have hk : k.val < 24 := Nat.lt_of_lt_of_le k.isLt k0_t1_abs.2.1
  have hj := j.isLt
  have hl := l.isLt
  have hn : (4 * k.val + j.val) * 1024 + l.val = 4 * k.val * 1024 + 1024 * j.val + l.val := by omega
  rw [hn]
  unfold chunk
  refine score_of_eq i x ?_ (word_chunk i k (1024 * j.val) r l)
  exact load_at arg1 harg1 x _ _ (k0_off1_eq k j) _ r l _ ((col_val (by omega)).trans (by omega))

theorem left_eq (r : Fin 8) (l : Fin 1024) :
    leftV (F := Ideal) i arg1 harg1 x (ix2 r l) = score x i r (96 * 1024 + l.val) := by
  have hl := l.isLt
  unfold leftV
  refine score_of_eq i x ?_ (word_left i r l)
  exact load_at arg1 harg1 x _ 98304 rfl _ r l _ (col_val (by omega))

theorem tail_eq (r : Fin 8) (l : Fin 672) :
    tailV (F := Ideal) i arg1 harg1 x (ix2 r l) = score x i r (99328 + l.val) := by
  have hl := l.isLt
  unfold tailV
  refine score_of_eq i x ?_ (word_tail i r l)
  exact load_at' arg1 harg1 x _ 99328 rfl _ r l _ (col_val (by omega))

theorem trips_24 : Scf.trips k0_t1_loop.lb k0_t1_loop.ub k0_t1_loop.st = 24 := by decide

/-- A lane before trip `k`. -/
theorem lane_loop (r : Fin 8) (l : Fin 1024) (k : Nat) (hk : k ≤ 24) :
    Lane (fun q => score x i r (q * 1024 + l.val)) (4 * k)
      ((st_k0_t1 (F := Ideal) Variants.none c none i arg1 harg1 arg2 harg2 lanes (harg1.unread x) (k0_pay156, k0_pay157) k).1 (ix2 r l),
       (st_k0_t1 (F := Ideal) Variants.none c none i arg1 harg1 arg2 harg2 lanes (harg1.unread x) (k0_pay156, k0_pay157) k).2 (ix2 r l)) := by
  induction k with
  | zero =>
    rw [st_k0_t1_zero]
    have h : ((k0_pay156 (F := Ideal) (ix2 r l) : EReal), k0_pay157 (ix2 r l)) = ((⊥ : EReal), 0#32) := by
      refine Prod.ext ?_ rfl
      show Ideal.ofBits .f32 0xFF800000#32 = ⊥
      simp [Ideal.ofBits, Ideal.ieee]
    rw [h]
    exact Lane.zero _
  | succ k ih =>
    have ht : k < k0_t1_loop.trips := by
      show k < Scf.trips k0_t1_loop.lb k0_t1_loop.ub k0_t1_loop.st
      rw [trips_24]; omega
    have hs := st_k0_t1_succ (F := Ideal) Variants.none c none i arg1 harg1 arg2 harg2 lanes (harg1.unread x) (k0_pay156, k0_pay157) ⟨k, ht⟩
    have hs' : st_k0_t1 (F := Ideal) Variants.none c none i arg1 harg1 arg2 harg2 lanes (harg1.unread x) (k0_pay156, k0_pay157) (k + 1) = _ := hs
    rw [hs', trip_fst, trip_snd]
    have h := ih (by omega)
    show Lane _ (4 * k + 3 + 1) (trip4 (F := Ideal) i arg1 harg1 lanes x ⟨k, ht⟩ _ (ix2 r l))
    unfold trip4
    refine Lane.step (Lane.step (Lane.step (Lane.step h ?_ ?_) ?_ ?_) ?_ ?_) ?_ ?_
    · exact chunk_eq i arg1 harg1 x ⟨k, ht⟩ 0 r l
    · exact num_eq ⟨k, ht⟩ 0
    · exact chunk_eq i arg1 harg1 x ⟨k, ht⟩ 1 r l
    · exact num_eq ⟨k, ht⟩ 1
    · exact chunk_eq i arg1 harg1 x ⟨k, ht⟩ 2 r l
    · exact num_eq ⟨k, ht⟩ 2
    · exact chunk_eq i arg1 harg1 x ⟨k, ht⟩ 3 r l
    · exact num_eq ⟨k, ht⟩ 3

/-- A lane once the leftover chunk is taken up. -/
theorem lane_all (r : Fin 8) (l : Fin 1024) :
    Lane (fun q => score x i r (q * 1024 + l.val)) 97
      (lanesV (F := Ideal) c i arg1 harg1 arg2 harg2 x (ix2 r l), lanesN (F := Ideal) c i arg1 harg1 arg2 harg2 x (ix2 r l)) := by
  have h := lane_loop c i arg1 harg1 arg2 harg2 x r l 24 (le_refl _)
  refine Lane.step (Q := 96) (p := ((looped (F := Ideal) c i arg1 harg1 arg2 harg2 x).1 (ix2 r l),
    (looped (F := Ideal) c i arg1 harg1 arg2 harg2 x).2 (ix2 r l))) ?_ (left_eq i arg1 harg1 x r l) rfl
  unfold looped
  rw [trips_24]
  exact h

end Cert.Sampling

end
-- ==== Proof.KernelArg.lean ====
/-
  The reductions of one block over the extended reals, and the block's result: at every row the first column at which the
  score is largest.
-/
module

public import proofs.«01_k».proof.Proof.KernelRow

@[expose] public section

set_option maxRecDepth 10000

noncomputable section

namespace Cert.Sampling

open Idealize.ShloMosaic Idealize.ShloMosaic.Tactic Cert.KernelIdeal Cert.KernelIdeal.Gen Idealize.ShloMosaic.ValueIdx

theorem neg_inf : Ideal.ofBits .f32 0xFF800000#32 = (⊥ : EReal) := by
  simp [Ideal.ofBits, Ideal.ieee]

theorem lift_main (r : Fin 8) (l : Fin 1024) : reduces_S8x1024_S8.lift (ix1 r) l = ix2 r l := by
  funext a
  apply Fin.ext
  match a with
  | ⟨0, _⟩ => rfl
  | ⟨1, _⟩ => rfl

theorem lift_tail (r : Fin 8) (l : Fin 672) : reduces_S8x672_S8.lift (ix1 r) l = ix2 r l := by
  funext a
  apply Fin.ext
  match a with
  | ⟨0, _⟩ => rfl
  | ⟨1, _⟩ => rfl

theorem lifts_main {α : Type} (v : S8x1024.Idx → α) (r : Fin 8) :
    (fun l : Fin (S8x1024.size 1) => v (reduces_S8x1024_S8.lift (ix1 r) l)) = fun l : Fin 1024 => v (ix2 r l) :=
  funext fun l => congrArg v (lift_main r l)

theorem lifts_tail {α : Type} (v : S8x672.Idx → α) (r : Fin 8) :
    (fun l : Fin (S8x672.size 1) => v (reduces_S8x672_S8.lift (ix1 r) l)) = fun l : Fin 672 => v (ix2 r l) :=
  funext fun l => congrArg v (lift_tail r l)

theorem mainMax_eq (v : FVec Ideal S8x1024 .f32) (r : Fin 8) :
    mainMax v (ix1 r) = (Finset.univ : Finset (Fin 1024)).fold max (⊥ : EReal) (fun l => v (ix2 r l)) := by
  unfold mainMax
  refine (Ideal.multiReduction_maximumf_single v _ reduces_S8x1024_S8 (.inl rfl) rfl (ix1 r)).trans ?_
  refine (congrArg (fun b => Finset.fold max b _ _) neg_inf).trans ?_
  exact congrArg (fun f => Finset.fold max (⊥ : EReal) f Finset.univ) (lifts_main v r)

theorem tailMax_eq (v : FVec Ideal S8x672 .f32) (r : Fin 8) :
    tailMax v (ix1 r) = (Finset.univ : Finset (Fin 672)).fold max (⊥ : EReal) (fun l => v (ix2 r l)) := by
  unfold tailMax
  refine (Ideal.multiReduction_maximumf_single v _ reduces_S8x672_S8 (.inl rfl) rfl (ix1 r)).trans ?_
  refine (congrArg (fun b => Finset.fold max b _ _) neg_inf).trans ?_
  exact congrArg (fun f => Finset.fold max (⊥ : EReal) f Finset.univ) (lifts_tail v r)

theorem min_main (v : IVec S8x1024 32) (r : Fin 8) :
    multiReductionI .minsi [1] S8 v 2147483647#32 reduces_S8x1024_S8 rfl (ix1 r)
      = (Finset.univ : Finset (Fin 1024)).fold IKind.minsi.op 2147483647#32 (fun l => v (ix2 r l)) := by
  refine (multiReductionI_eq_fold .minsi v _ reduces_S8x1024_S8 rfl (ix1 r)).trans ?_
  refine (reduces_S8x1024_S8.fold_filter_drop_single IKind.minsi.op _ v (ix1 r)).trans ?_
  exact congrArg (fun f => Finset.fold IKind.minsi.op 2147483647#32 f Finset.univ) (lifts_main v r)

theorem min_tail (v : IVec S8x672 32) (r : Fin 8) :
    multiReductionI .minsi [1] S8 v 2147483647#32 reduces_S8x672_S8 rfl (ix1 r)
      = (Finset.univ : Finset (Fin 672)).fold IKind.minsi.op 2147483647#32 (fun l => v (ix2 r l)) := by
  refine (multiReductionI_eq_fold .minsi v _ reduces_S8x672_S8 rfl (ix1 r)).trans ?_
  refine (reduces_S8x672_S8.fold_filter_drop_single IKind.minsi.op _ v (ix1 r)).trans ?_
  exact congrArg (fun f => Finset.fold IKind.minsi.op 2147483647#32 f Finset.univ) (lifts_tail v r)

/-- A vector over the rows, as a column of one. -/
theorem column {α : Type} (v : S8.Idx → α) (r : Fin 8) : shapeCast S8x1 v shapeCasts_S8_S8x1 (ix2 r 0) = v (ix1 r) := by
  refine congrArg v ?_
  fin_cases r <;> decide

theorem spread_main (v : FVec Ideal S8 .f32) (r : Fin 8) (l : Fin 1024) :
    broadcastTo S8x1024 (shapeCast S8x1 v shapeCasts_S8_S8x1) broadcasts_S8x1_S8x1024 (ix2 r l) = v (ix1 r) := by
  refine Eq.trans ?_ (column v r)
  refine broadcastTo_apply _ _ _ _ fun a => ?_
  match a with
  | ⟨0, _⟩ => rfl
  | ⟨1, _⟩ => rfl

theorem spread_tail (v : FVec Ideal S8 .f32) (r : Fin 8) (l : Fin 672) :
    broadcastTo S8x672 (shapeCast S8x1 v shapeCasts_S8_S8x1) broadcasts_S8x1_S8x672 (ix2 r l) = v (ix1 r) := by
  refine Eq.trans ?_ (column v r)
  refine broadcastTo_apply _ _ _ _ fun a => ?_
  match a with
  | ⟨0, _⟩ => rfl
  | ⟨1, _⟩ => rfl

/-- A selection on equality, and on the strict order. -/
theorem select_eq {α : Type} (a b : EReal) (u w : α) :
    Scalar.select (FloatOps.cmpf (F := Ideal) (φ := .f32) .oeq a b) u w = if a = b then u else w := by
  simp only [Ideal.cmpf_def, Ideal.cmp, Scalar.select]
  by_cases h : a = b <;> simp [h]

theorem select_gt {α : Type} (a b : EReal) (u w : α) :
    Scalar.select (FloatOps.cmpf (F := Ideal) (φ := .f32) .ogt a b) u w = if b < a then u else w := by
  simp only [Ideal.cmpf_def, Ideal.cmp, Scalar.select]
  by_cases h : b < a <;> simp [h]

theorem mainArg_eq (v : FVec Ideal S8x1024 .f32) (n : IVec S8x1024 32) (r : Fin 8) :
    mainArg v n (ix1 r) = (Finset.univ : Finset (Fin 1024)).fold IKind.minsi.op 2147483647#32
      (fun l => if v (ix2 r l) = mainMax v (ix1 r) then n (ix2 r l) * 1024#32 + BitVec.ofNat 32 l.val else 2147483647#32) := by
  unfold mainArg
  rw [min_main]
  refine Finset.fold_congr fun l _ => ?_
  refine (select_eq _ _ _ _).trans ?_
  rw [spread_main]
  have h : (addi (muli n (broadcast S8x1024 1024#32)) (iota .tc S8x1024 32 [1] iota_S8x1024_d1_w32)) (ix2 r l)
      = n (ix2 r l) * 1024#32 + BitVec.ofNat 32 (0 * 1024 + l.val) := rfl
  rw [h, Nat.zero_mul, Nat.zero_add]
  rfl

theorem tailArg_eq (v : FVec Ideal S8x672 .f32) (r : Fin 8) :
    tailArg v (ix1 r) = (Finset.univ : Finset (Fin 672)).fold IKind.minsi.op 2147483647#32
      (fun l => if v (ix2 r l) = tailMax v (ix1 r) then BitVec.ofNat 32 l.val + 99328#32 else 2147483647#32) := by
  unfold tailArg
  rw [min_tail]
  refine Finset.fold_congr fun l _ => ?_
  refine (select_eq _ _ _ _).trans ?_
  rw [spread_tail]
  have h : (addi (iota .tc S8x672 32 [1] iota_S8x672_d1_w32) (broadcast S8x672 99328#32)) (ix2 r l)
      = BitVec.ofNat 32 (0 * 672 + l.val) + 99328#32 := rfl
  rw [h, Nat.zero_mul, Nat.zero_add]
  rfl

theorem there_eq (v : FVec Ideal S8 .f32) : there v = v := shapeCast_shapeCast v _ _

theorem merged_eq (v : FVec Ideal S8x1024 .f32) (n : IVec S8x1024 32) (t : FVec Ideal S8x672 .f32) (r : Fin 8) :
    merged v n t (ix1 r) = if tailMax t (ix1 r) = mainMax v (ix1 r) then IntOp.minsi (mainArg v n (ix1 r)) (tailArg t (ix1 r))
      else if mainMax v (ix1 r) < tailMax t (ix1 r) then tailArg t (ix1 r) else mainArg v n (ix1 r) := by
  unfold merged
  rw [there_eq, there_eq]
  refine (select_eq _ _ _ _).trans ?_
  refine congrArg (fun w => if tailMax t (ix1 r) = mainMax v (ix1 r) then _ else w) ?_
  exact select_gt _ _ _ _

/-- WHAT A BLOCK'S ROW IS GIVEN. -/
theorem block_arg (c : Dev nD) (i : grid0.Coords) (arg1 : Memref sig .tc .vmem S8x100000 .f32) (harg1 : arg1.IsWhole)
    (arg2 : Memref sig .tc .vmem S1x1x8 .i32) (harg2 : arg2.IsWhole) (x : Vec Ideal S8x100000 .f32) (r : Fin 8) :
    IsArg (fun q : Fin 100000 => score x i r q.val)
      (merged (lanesV (F := Ideal) c i arg1 harg1 arg2 harg2 x) (lanesN (F := Ideal) c i arg1 harg1 arg2 harg2 x)
        (tailV (F := Ideal) i arg1 harg1 x) (ix1 r)) := by
  rw [merged_eq]
  exact row_arg (score x i r) _ _ _ (lane_all c i arg1 harg1 arg2 harg2 x r) (tail_eq i arg1 harg1 x r)
    _ (mainMax_eq _ r) _ (mainArg_eq _ _ r) _ (tailMax_eq _ r) _ (tailArg_eq _ r)

end Cert.Sampling

end
-- ==== Proof.KernelArray.lean ====
/-
  The array the kernel leaves, from its blocks, over the extended reals.
-/
module

public import proofs.«01_k».proof.Proof.KernelArg
public import proofs.«01_k».proof.Proof.Gen.KernelIdeal.Value
public import Idealize.ShloMosaic.Lib.Pipeline.Value

@[expose] public section

set_option maxRecDepth 10000

noncomputable section

namespace Cert.Sampling

open Idealize.ShloMosaic Idealize.ShloMosaic.TcCoe Idealize.ShloMosaic.Tactic Cert.KernelIdeal Cert.KernelIdeal.Gen
open Idealize.ShloMosaic.ValueIdx

variable (m : (ℓ : Loc nD τ sig) → Buf (Elt Ideal) ℓ)

/-- The grid point with number `t` is at coordinate `t`. -/
theorem coord_at : ∀ t : Fin cfg0.N, (grid0.coords t 0).val = t.val :=
  (by decide +kernel : ∀ t : Fin grid0.N, (grid0.coords t 0).val = t.val)

theorem row_lt {t r : Nat} (ht : t < 64) (hr : r < 8) : t * 8 + r < 512 := by omega

theorem point_lt (t : Fin cfg0.N) : t.val < 64 := Nat.lt_of_lt_of_eq t.isLt N_0

theorem place : ∀ t : Fin cfg0.N, win0_0.index t 0 = t.val ∧ win0_0.index t 1 = 0 :=
  (by decide +kernel : ∀ t : Fin grid0.N, win0_0.index t 0 = t.val ∧ win0_0.index t 1 = 0)

theorem place' : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The rows the kernel is launched on. -/
abbrev rows (c : Dev nD) : FVec Ideal S512x100000 .f32 := V m c main_v0

theorem rows_eq (c : Dev nD) : rows m c = shapeCast S512x100000 (m ((c : Thread nD τ).loc main_arg0) : FVec Ideal S64x8x100000 .f32)
    shapeCasts_S64x8x100000_S512x100000 := rfl

/-- Block `t` of the rows is rows `8 t` to `8 t + 7`. -/
theorem block_at (c : Dev nD) (t : Fin cfg0.N) (r : Fin 8) (q : Fin 100000) :
    (iblk m c 0 t : Vec Ideal S8x100000 .f32) (ix2 r q) = rows m c (ix2 ⟨t.val * 8 + r.val, row_lt (point_lt t) r.isLt⟩ q) := by
  unfold iblk
  rw [View.read_apply]
  refine congrArg (rows m c) ?_
  have h := place t
  funext a
  apply Fin.ext
  match a with
  | ⟨0, _⟩ => show win0_0.index t 0 * 8 + 1 * r.val = t.val * 8 + r.val; rw [h.1, Nat.one_mul]
  | ⟨1, _⟩ => show win0_0.index t 1 * 100000 + 1 * q.val = q.val; rw [h.2, Nat.zero_mul, Nat.one_mul, Nat.zero_add]

/-- Block `t` of the result, at row `r`, is the result's element `(t, 0, r)`. -/
theorem result_at (c : Dev nD) (t : Fin cfg0.N) (r : Fin 8) :
    ((dats m 0 c).arrAt 1 cfg0.N : IVec S64x1x8 32) (ix3 ⟨t.val, point_lt t⟩ 0 r)
      = out0_A_1 c (grid0.coords t) (ms0_0 t) (hs0_0 t) (ms0_1 t) (hs0_1 t) (iblk m c 0 t) (ix3 0 0 r) := by
  have h := congrFun ((Value.blocks1 m c t (flush0_1 t)).trans (Value.flushed1_A m c t)) (ix3 0 0 r)
  rw [View.read_apply] at h
  refine Eq.trans (congrArg ((dats m 0 c).arrAt 1 cfg0.N : IVec S64x1x8 32) ?_) h
  have h := place' t
  funext a
  apply Fin.ext
  match a with
  | ⟨0, _⟩ => show t.val = win0_1.index t 0 * 1 + 1 * 0; rw [h.1]; omega
  | ⟨1, _⟩ => show 0 = win0_1.index t 1 * 1 + 1 * 0; rw [h.2.1]
  | ⟨2, _⟩ => show r.val = win0_1.index t 2 * 8 + 1 * r.val; rw [h.2.2]; omega

theorem unrow {α : Type} (v : S8.Idx → α) (r : Fin 8) : shapeCast S1x1x8 v shapeCasts_S8_S1x1x8 (ix3 0 0 r) = v (ix1 r) := by
  refine shapeCast_apply _ _ _ _ ?_
  rw [Shape.rowMajor_val_one, Shape.rowMajor_val_three]
  show r.val = (0 * 1 + 0) * 8 + r.val
  omega

/-- WHAT THE KERNEL LEAVES: at every row, the first column at which the logit plus its Gumbel number is largest. -/
theorem value_kernel (c : Dev nD) (t : Fin cfg0.N) (r : Fin 8) :
    IsArg (fun q : Fin 100000 => rows m c (ix2 ⟨t.val * 8 + r.val, row_lt (point_lt t) r.isLt⟩ q)
        + gum (F := Ideal) (BitVec.ofNat 32 ((t.val * 8 + r.val) * 100000 + q.val) + 42#32))
      (((dats m 0 c).arrAt 1 cfg0.N : IVec S64x1x8 32) (ix3 ⟨t.val, point_lt t⟩ 0 r)) := by
  rw [result_at, out_eq, unrow]
  have h := block_arg c (grid0.coords t) (ms0_0 t) (hs0_0 t) (ms0_1 t) (hs0_1 t) (iblk m c 0 t) r
  refine Eq.mp (congrArg (fun s => IsArg s _) (funext fun q => ?_)) h
  unfold score
  rw [coord_at]
  have hq : col q.val = q := Fin.ext (col_val q.isLt)
  rw [hq, block_at]

end Cert.Sampling

end
-- ==== Proof.Line.lean ====
/-
  A straight line of host operations in which operation number `i` writes buffer number `i + 1` and reads only buffers of
  smaller numbers. After such a line every buffer written holds its operation's function of what the operands hold after
  the whole line, so that the line is read as a list of equations.
-/
module

public import Idealize.ShloMosaic.Lib.Pipeline
public import Idealize.ShloMosaic.Lib.StableHlo
public import Idealize.ShloMosaic.Lib.StableHlo.Run
public import Idealize.ShloMosaic.Lib.StableHlo.RunHlo
public import Idealize.ShloMosaic.Lib.Pipeline.Frame

@[expose] public section

namespace Cert.Sampling

open Idealize.ShloMosaic Idealize.ShloMosaic.StableHlo Idealize.SL.Sem

variable {nD : Nat} {τ : Topo} {sig : RefSig} {Val : EltTy → Type} {Λ : Labels}

/-- One line run after another is their concatenation. -/
theorem isSeq_append {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at hp hk ⊢
  rw [hp, hk, seq_append]

/-- Operation number `i` of the line writes the reference `W[i]` only, whose number is `i + 1`. -/
structure Lined (ops : List (HloOp τ sig Val)) (W : List (Ref sig .tc)) (num : Ref sig .tc → Nat) : Prop where
  writes : ops.map HloOp.writes = W.map fun r => {Proc.devRef (τ := τ) .tc r}
  nums : W.map num = List.range' 1 ops.length

namespace Lined

variable {ops : List (HloOp τ sig Val)} {W : List (Ref sig .tc)} {num : Ref sig .tc → Nat}

/-- A buffer of number at most `i` has its last contents after `i` operations already. -/
theorem keep (h : Lined ops W num) (i : Nat) (V : Valuation τ sig Val) {a : Ref sig .tc} (ha : num a ≤ i) :
    after (ops.take i) V (Proc.devRef .tc a) = after ops V (Proc.devRef .tc a) := by
  conv_rhs => rw [← List.take_append_drop i ops, after_append]
  refine (after_of_writes_sub (W := W.drop i) _ _ (forall_writes_sub_of_map ?_) ?_).symm
  · rw [List.map_drop, h.writes, List.map_drop]
  · intro hm
    have : num a ∈ (W.drop i).map num := List.mem_map_of_mem hm
    rw [List.map_drop, h.nums, List.drop_range', List.mem_range'] at this
    obtain ⟨k, _, hk⟩ := this
    omega

/-- The result of operation number `i` after the whole line. -/
theorem at_op (h : Lined ops W num) (i : Nat) (V : Valuation τ sig Val) {op : HloOp τ sig Val} {y : Ref sig .tc}
    (hop : ops[i]? = some op) (hy : num y = i + 1) :
    after ops V (Proc.devRef .tc y) = op.result (after (ops.take i) V) (Proc.devRef .tc y) := by
  rw [← h.keep (i + 1) V (a := y) (by omega), List.take_add_one, hop, after_append]
  rfl

theorem at_nullary (h : Lined ops W num) (i : Nat) (V : Valuation τ sig Val) {y : Ref sig .tc} {v : y.ty.Contents Val} {hy}
    (hop : ops[i]? = some (nullary y v hy)) (hn : num y = i + 1) :
    after ops V (Proc.devRef .tc y) = v := by
  rw [h.at_op i V hop hn, nullary_result]

theorem at_unary (h : Lined ops W num) (i : Nat) (V : Valuation τ sig Val) {x y : Ref sig .tc}
    {f : x.ty.Contents Val → y.ty.Contents Val} {hx hy}
    (hop : ops[i]? = some (unary x y f hx hy)) (hn : num y = i + 1) (hnx : num x ≤ i) :
    after ops V (Proc.devRef .tc y) = f (after ops V (Proc.devRef .tc x)) := by
  rw [h.at_op i V hop hn, unary_result, h.keep i V hnx]

theorem at_binary (h : Lined ops W num) (i : Nat) (V : Valuation τ sig Val) {a b y : Ref sig .tc}
    {f : a.ty.Contents Val → b.ty.Contents Val → y.ty.Contents Val} {ha hb hy}
    (hop : ops[i]? = some (binary a b y f ha hb hy)) (hn : num y = i + 1) (hna : num a ≤ i) (hnb : num b ≤ i) :
    after ops V (Proc.devRef .tc y) = f (after ops V (Proc.devRef .tc a)) (after ops V (Proc.devRef .tc b)) := by
  rw [h.at_op i V hop hn, binary_result, h.keep i V hna, h.keep i V hnb]

theorem at_quaternary (h : Lined ops W num) (i : Nat) (V : Valuation τ sig Val) {a b c e y : Ref sig .tc}
    {f : a.ty.Contents Val → b.ty.Contents Val → c.ty.Contents Val → e.ty.Contents Val → y.ty.Contents Val} {ha hb hc he hy}
    (hop : ops[i]? = some (quaternary a b c e y f ha hb hc he hy)) (hn : num y = i + 1)
    (hna : num a ≤ i) (hnb : num b ≤ i) (hnc : num c ≤ i) (hne : num e ≤ i) :
    after ops V (Proc.devRef .tc y) = f (after ops V (Proc.devRef .tc a)) (after ops V (Proc.devRef .tc b))
      (after ops V (Proc.devRef .tc c)) (after ops V (Proc.devRef .tc e)) := by
  rw [h.at_op i V hop hn, quaternary_result, h.keep i V hna, h.keep i V hnb, h.keep i V hnc, h.keep i V hne]

theorem at_reshape (h : Lined ops W num) (i : Nat) (V : Valuation τ sig Val) {x y : Ref sig .tc} {he hs hx hy}
    (hop : ops[i]? = some (reshape x y he hs hx hy)) (hn : num y = i + 1) (hnx : num x ≤ i) :
    after ops V (Proc.devRef .tc y)
      = fun k => he ▸ shapeCast y.ty.shape (after ops V (Proc.devRef .tc x)) hs k := by
  rw [h.at_op i V hop hn, reshape_result, h.keep i V hnx]

end Lined

end Cert.Sampling
-- ==== Proof.RefOps.lean ====
/-
  The reference as a straight line: its operations in order, the buffer each writes, and its run.
-/
module

public import proofs.«01_k».proof.ReferenceIdeal
public import proofs.«01_k».proof.Proof.Line
public import Idealize.ShloMosaic.Lib.Tactic

@[expose] public section

set_option maxRecDepth 100000

noncomputable section

namespace Cert.Sampling.Ref

open Idealize.ShloMosaic Idealize.ShloMosaic.StableHlo Idealize.SL.Sem Cert.ReferenceIdeal
open Cert.ReferenceIdeal.Facts₀ Cert.ReferenceIdeal.Facts

variable {F : FTy → Type} [FloatOps F] [Cert.ReferenceIdeal.Facts]

/-- Operations 0 to 31 of the reference, those of the functions it calls in their places. -/
def ops0 : List (HloOp τ sig (Elt F)) :=
  [StableHlo.reshape main_arg0 main_v0 (rfl : (.f32 : EltTy) = .f32) shapeCasts_S64x8x100000_S512x100000,
   StableHlo.nullary main_cst (constant S_ .f32 0x3F800000#32),
   StableHlo.unary main_cst main_v1 (broadcastInDim S512x100000 ![] bcast_S_S512x100000 : (⟨S_, .f32⟩ : BufTy).Contents (Elt F) → (⟨S512x100000, .f32⟩ : BufTy).Contents (Elt F)),
   StableHlo.binary main_v0 main_v1 main_v2 (Host.divf : (⟨S512x100000, .f32⟩ : BufTy).Contents (Elt F) → (⟨S512x100000, .f32⟩ : BufTy).Contents (Elt F) → (⟨S512x100000, .f32⟩ : BufTy).Contents (Elt F)),
   StableHlo.nullary main_cst_0 (constant S_ .f32 0xFF800000#32),
   StableHlo.binary main_v2 main_cst_0 main_v3 ((fun x v => Host.reduce FloatOps.maximumf x v reducesTo_S512x100000_S512_d1 h_S_) : (⟨S512x100000, .f32⟩ : BufTy).Contents (Elt F) → (⟨S_, .f32⟩ : BufTy).Contents (Elt F) → (⟨S512, .f32⟩ : BufTy).Contents (Elt F)),
   StableHlo.nullary main_cst_1 (constant S_ .f32 0xFF800000#32),
   StableHlo.unary main_cst_1 main_v4 (broadcastInDim S512 ![] bcast_S_S512 : (⟨S_, .f32⟩ : BufTy).Contents (Elt F) → (⟨S512, .f32⟩ : BufTy).Contents (Elt F)),
   StableHlo.binary main_v4 main_v3 main_v5 (maximumf : (⟨S512, .f32⟩ : BufTy).Contents (Elt F) → (⟨S512, .f32⟩ : BufTy).Contents (Elt F) → (⟨S512, .f32⟩ : BufTy).Contents (Elt F)),
   StableHlo.unary main_v5 main_v6 (broadcastInDim S512x1 ![0] bcast_S512_S512x1_0 : (⟨S512, .f32⟩ : BufTy).Contents (Elt F) → (⟨S512x1, .f32⟩ : BufTy).Contents (Elt F)),
   StableHlo.unary main_v6 main_v7 (broadcastInDim S512x100000 ![0, 1] bcast_S512x1_S512x100000_0_1 : (⟨S512x1, .f32⟩ : BufTy).Contents (Elt F) → (⟨S512x100000, .f32⟩ : BufTy).Contents (Elt F)),
   StableHlo.binary main_v2 main_v7 main_v8 (subf : (⟨S512x100000, .f32⟩ : BufTy).Contents (Elt F) → (⟨S512x100000, .f32⟩ : BufTy).Contents (Elt F) → (⟨S512x100000, .f32⟩ : BufTy).Contents (Elt F)),
   StableHlo.unary main_v8 main_v9 (Host.exp : (⟨S512x100000, .f32⟩ : BufTy).Contents (Elt F) → (⟨S512x100000, .f32⟩ : BufTy).Contents (Elt F)),
   StableHlo.nullary main_cst_2 (constant S_ .f32 0x00000000#32),
   StableHlo.binary main_v9 main_cst_2 main_v10 ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F)),
   StableHlo.unary main_v10 main_v11 (broadcastInDim S512x1 ![0] bcast_S512_S512x1_0 : (⟨S512, .f32⟩ : BufTy).Contents (Elt F) → (⟨S512x1, .f32⟩ : BufTy).Contents (Elt F)),
   StableHlo.unary main_v11 main_v12 (broadcastInDim S512x100000 ![0, 1] bcast_S512x1_S512x100000_0_1 : (⟨S512x1, .f32⟩ : BufTy).Contents (Elt F) → (⟨S512x100000, .f32⟩ : BufTy).Contents (Elt F)),
   StableHlo.binary main_v9 main_v12 main_v13 (Host.divf : (⟨S512x100000, .f32⟩ : BufTy).Contents (Elt F) → (⟨S512x100000, .f32⟩ : BufTy).Contents (Elt F) → (⟨S512x100000, .f32⟩ : BufTy).Contents (Elt F)),
   StableHlo.nullary main_c (constantI S_ 32 42#32),
   StableHlo.nullary main_c_3 (constantI S_ 32 32#32),
   StableHlo.binary main_c main_c_3 main_v14 (Host.shrui : (⟨S_, .i32⟩ : BufTy).Contents (Elt F) → (⟨S_, .i32⟩ : BufTy).Contents (Elt F) → (⟨S_, .i32⟩ : BufTy).Contents (Elt F)),
   StableHlo.unary main_v14 main_v15 (id : (⟨S_, .i32⟩ : BufTy).Contents (Elt F) → (⟨S_, .i32⟩ : BufTy).Contents (Elt F)),
   StableHlo.unary main_v15 main_v16 (broadcastInDim S1 ![] bcast_S_S1 : (⟨S_, .i32⟩ : BufTy).Contents (Elt F) → (⟨S1, .i32⟩ : BufTy).Contents (Elt F)),
   StableHlo.nullary main_c_4 (constantI S_ 32 4294967295#32),
   StableHlo.binary main_c main_c_4 main_v17 (andi : (⟨S_, .i32⟩ : BufTy).Contents (Elt F) → (⟨S_, .i32⟩ : BufTy).Contents (Elt F) → (⟨S_, .i32⟩ : BufTy).Contents (Elt F)),
   StableHlo.unary main_v17 main_v18 (id : (⟨S_, .i32⟩ : BufTy).Contents (Elt F) → (⟨S_, .i32⟩ : BufTy).Contents (Elt F)),
   StableHlo.unary main_v18 main_v19 (broadcastInDim S1 ![] bcast_S_S1 : (⟨S_, .i32⟩ : BufTy).Contents (Elt F) → (⟨S1, .i32⟩ : BufTy).Contents (Elt F)),
   StableHlo.binary main_v16 main_v19 main_v20 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst_5 (constant S_ .f32 0x00000000#32),
   StableHlo.nullary main_cst_6 (constant S_ .f32 0x3F800000#32),
   StableHlo.TRef.unary (.of main_cst_5 : StableHlo.TRef sig ⟨S_, .f32⟩) main_call0.v0 id,
   StableHlo.TRef.unary (.of main_cst_6 : StableHlo.TRef sig ⟨S_, .f32⟩) main_call0.v1 id]

/-- Operations 32 to 63 of the reference, those of the functions it calls in their places. -/
def ops1 : List (HloOp τ sig (Elt F)) :=
  [StableHlo.TRef.unary main_call0.v0 main_call0.v2 (broadcastInDim S1x1 ![] bcast_S_S1x1),
   StableHlo.TRef.unary main_call0.v1 main_call0.v3 (broadcastInDim S1x1 ![] bcast_S_S1x1),
   StableHlo.TRef.unary (.of main_v20 : StableHlo.TRef sig ⟨S2, .i32⟩) main_call0.v4 (extractStridedSlice S1 ![0] · slices_S2_S1_0),
   StableHlo.TRef.reshape main_call0.v4 main_call0.v5 (rfl : (.i32 : EltTy) = .i32) shapeCasts_S1_S_,
   StableHlo.TRef.unary (.of main_v20 : StableHlo.TRef sig ⟨S2, .i32⟩) main_call0.v6 (extractStridedSlice S1 ![1] · slices_S2_S1_1),
   StableHlo.TRef.reshape main_call0.v6 main_call0.v7 (rfl : (.i32 : EltTy) = .i32) shapeCasts_S1_S_,
   StableHlo.TRef.nullary main_call0.v8 (iotaInDim S512x100000 64 0),
   StableHlo.TRef.nullary main_call0.v9 (iotaInDim S512x100000 64 1),
   StableHlo.TRef.nullary main_call0.c (constantI S_ 64 100000#64),
   StableHlo.TRef.unary main_call0.c main_call0.v10 (broadcastInDim S512x100000 ![] bcast_S_S512x100000),
   StableHlo.TRef.binary main_call0.v10 main_call0.v8 main_call0.v11 muli,
   StableHlo.TRef.nullary main_call0.c_0 (constantI S_ 64 1#64),
   StableHlo.TRef.unary main_call0.c_0 main_call0.v12 (broadcastInDim S512x100000 ![] bcast_S_S512x100000),
   StableHlo.TRef.binary main_call0.v12 main_call0.v9 main_call0.v13 muli,
   StableHlo.TRef.binary main_call0.v11 main_call0.v13 main_call0.v14 addi,
   StableHlo.TRef.nullary main_call0.c_1 (constantI S_ 64 32#64),
   StableHlo.TRef.unary main_call0.c_1 main_call0.v15 (broadcastInDim S512x100000 ![] bcast_S_S512x100000),
   StableHlo.TRef.binary main_call0.v14 main_call0.v15 main_call0.v16 Host.shrui,
   StableHlo.TRef.unary main_call0.v14 main_call0.v17 (trunci 32 · natLt_32_64),
   StableHlo.TRef.unary main_call0.v16 main_call0.v18 (trunci 32 · natLt_32_64),
   StableHlo.TRef.binary main_call0.v5 main_call0.v7 main_call0_call0.v0 xori,
   StableHlo.TRef.nullary main_call0_call0.c (constantI S_ 32 466688986#32),
   StableHlo.TRef.binary main_call0_call0.v0 main_call0_call0.c main_call0_call0.v1 xori,
   StableHlo.TRef.unary main_call0.v5 main_call0_call0.v2 (broadcastInDim S512x100000 ![] bcast_S_S512x100000),
   StableHlo.TRef.binary main_call0.v18 main_call0_call0.v2 main_call0_call0.v3 addi,
   StableHlo.TRef.unary main_call0.v7 main_call0_call0.v4 (broadcastInDim S512x100000 ![] bcast_S_S512x100000),
   StableHlo.TRef.binary main_call0.v17 main_call0_call0.v4 main_call0_call0.v5 addi,
   StableHlo.TRef.binary main_call0_call0.v3 main_call0_call0.v5 main_call0_call0.v6 addi,
   StableHlo.TRef.nullary main_call0_call0.c_0 (constantI S_ 32 13#32),
   StableHlo.TRef.unary main_call0_call0.c_0 main_call0_call0.v7 (broadcastInDim S512x100000 ![] bcast_S_S512x100000),
   StableHlo.TRef.binary main_call0_call0.v5 main_call0_call0.v7 main_call0_call0.v8 Host.shli,
   StableHlo.TRef.nullary main_call0_call0.c_1 (constantI S_ 32 19#32)]

/-- Operations 64 to 95 of the reference, those of the functions it calls in their places. -/
def ops2 : List (HloOp τ sig (Elt F)) :=
  [StableHlo.TRef.unary main_call0_call0.c_1 main_call0_call0.v9 (broadcastInDim S512x100000 ![] bcast_S_S512x100000),
   StableHlo.TRef.binary main_call0_call0.v5 main_call0_call0.v9 main_call0_call0.v10 Host.shrui,
   StableHlo.TRef.binary main_call0_call0.v8 main_call0_call0.v10 main_call0_call0.v11 ori,
   StableHlo.TRef.binary main_call0_call0.v6 main_call0_call0.v11 main_call0_call0.v12 xori,
   StableHlo.TRef.binary main_call0_call0.v6 main_call0_call0.v12 main_call0_call0.v13 addi,
   StableHlo.TRef.nullary main_call0_call0.c_2 (constantI S_ 32 15#32),
   StableHlo.TRef.unary main_call0_call0.c_2 main_call0_call0.v14 (broadcastInDim S512x100000 ![] bcast_S_S512x100000),
   StableHlo.TRef.binary main_call0_call0.v12 main_call0_call0.v14 main_call0_call0.v15 Host.shli,
   StableHlo.TRef.nullary main_call0_call0.c_3 (constantI S_ 32 17#32),
   StableHlo.TRef.unary main_call0_call0.c_3 main_call0_call0.v16 (broadcastInDim S512x100000 ![] bcast_S_S512x100000),
   StableHlo.TRef.binary main_call0_call0.v12 main_call0_call0.v16 main_call0_call0.v17 Host.shrui,
   StableHlo.TRef.binary main_call0_call0.v15 main_call0_call0.v17 main_call0_call0.v18 ori,
   StableHlo.TRef.binary main_call0_call0.v13 main_call0_call0.v18 main_call0_call0.v19 xori,
   StableHlo.TRef.binary main_call0_call0.v13 main_call0_call0.v19 main_call0_call0.v20 addi,
   StableHlo.TRef.nullary main_call0_call0.c_4 (constantI S_ 32 26#32),
   StableHlo.TRef.unary main_call0_call0.c_4 main_call0_call0.v21 (broadcastInDim S512x100000 ![] bcast_S_S512x100000),
   StableHlo.TRef.binary main_call0_call0.v19 main_call0_call0.v21 main_call0_call0.v22 Host.shli,
   StableHlo.TRef.nullary main_call0_call0.c_5 (constantI S_ 32 6#32),
   StableHlo.TRef.unary main_call0_call0.c_5 main_call0_call0.v23 (broadcastInDim S512x100000 ![] bcast_S_S512x100000),
   StableHlo.TRef.binary main_call0_call0.v19 main_call0_call0.v23 main_call0_call0.v24 Host.shrui,
   StableHlo.TRef.binary main_call0_call0.v22 main_call0_call0.v24 main_call0_call0.v25 ori,
   StableHlo.TRef.binary main_call0_call0.v20 main_call0_call0.v25 main_call0_call0.v26 xori,
   StableHlo.TRef.binary main_call0_call0.v20 main_call0_call0.v26 main_call0_call0.v27 addi,
   StableHlo.TRef.nullary main_call0_call0.c_6 (constantI S_ 32 6#32),
   StableHlo.TRef.unary main_call0_call0.c_6 main_call0_call0.v28 (broadcastInDim S512x100000 ![] bcast_S_S512x100000),
   StableHlo.TRef.binary main_call0_call0.v26 main_call0_call0.v28 main_call0_call0.v29 Host.shli,
   StableHlo.TRef.nullary main_call0_call0.c_7 (constantI S_ 32 26#32),
   StableHlo.TRef.unary main_call0_call0.c_7 main_call0_call0.v30 (broadcastInDim S512x100000 ![] bcast_S_S512x100000),
   StableHlo.TRef.binary main_call0_call0.v26 main_call0_call0.v30 main_call0_call0.v31 Host.shrui,
   StableHlo.TRef.binary main_call0_call0.v29 main_call0_call0.v31 main_call0_call0.v32 ori,
   StableHlo.TRef.binary main_call0_call0.v27 main_call0_call0.v32 main_call0_call0.v33 xori,
   StableHlo.TRef.unary main_call0.v7 main_call0_call0.v34 (broadcastInDim S512x100000 ![] bcast_S_S512x100000)]

/-- Operations 96 to 127 of the reference, those of the functions it calls in their places. -/
def ops3 : List (HloOp τ sig (Elt F)) :=
  [StableHlo.TRef.binary main_call0_call0.v27 main_call0_call0.v34 main_call0_call0.v35 addi,
   StableHlo.TRef.unary main_call0_call0.v1 main_call0_call0.v36 (broadcastInDim S512x100000 ![] bcast_S_S512x100000),
   StableHlo.TRef.binary main_call0_call0.v33 main_call0_call0.v36 main_call0_call0.v37 addi,
   StableHlo.TRef.nullary main_call0_call0.c_8 (constantI S_ 32 1#32),
   StableHlo.TRef.unary main_call0_call0.c_8 main_call0_call0.v38 (broadcastInDim S512x100000 ![] bcast_S_S512x100000),
   StableHlo.TRef.binary main_call0_call0.v37 main_call0_call0.v38 main_call0_call0.v39 addi,
   StableHlo.TRef.binary main_call0_call0.v35 main_call0_call0.v39 main_call0_call0.v40 addi,
   StableHlo.TRef.nullary main_call0_call0.c_9 (constantI S_ 32 17#32),
   StableHlo.TRef.unary main_call0_call0.c_9 main_call0_call0.v41 (broadcastInDim S512x100000 ![] bcast_S_S512x100000),
   StableHlo.TRef.binary main_call0_call0.v39 main_call0_call0.v41 main_call0_call0.v42 Host.shli,
   StableHlo.TRef.nullary main_call0_call0.c_10 (constantI S_ 32 15#32),
   StableHlo.TRef.unary main_call0_call0.c_10 main_call0_call0.v43 (broadcastInDim S512x100000 ![] bcast_S_S512x100000),
   StableHlo.TRef.binary main_call0_call0.v39 main_call0_call0.v43 main_call0_call0.v44 Host.shrui,
   StableHlo.TRef.binary main_call0_call0.v42 main_call0_call0.v44 main_call0_call0.v45 ori,
   StableHlo.TRef.binary main_call0_call0.v40 main_call0_call0.v45 main_call0_call0.v46 xori,
   StableHlo.TRef.binary main_call0_call0.v40 main_call0_call0.v46 main_call0_call0.v47 addi,
   StableHlo.TRef.nullary main_call0_call0.c_11 (constantI S_ 32 29#32),
   StableHlo.TRef.unary main_call0_call0.c_11 main_call0_call0.v48 (broadcastInDim S512x100000 ![] bcast_S_S512x100000),
   StableHlo.TRef.binary main_call0_call0.v46 main_call0_call0.v48 main_call0_call0.v49 Host.shli,
   StableHlo.TRef.nullary main_call0_call0.c_12 (constantI S_ 32 3#32),
   StableHlo.TRef.unary main_call0_call0.c_12 main_call0_call0.v50 (broadcastInDim S512x100000 ![] bcast_S_S512x100000),
   StableHlo.TRef.binary main_call0_call0.v46 main_call0_call0.v50 main_call0_call0.v51 Host.shrui,
   StableHlo.TRef.binary main_call0_call0.v49 main_call0_call0.v51 main_call0_call0.v52 ori,
   StableHlo.TRef.binary main_call0_call0.v47 main_call0_call0.v52 main_call0_call0.v53 xori,
   StableHlo.TRef.binary main_call0_call0.v47 main_call0_call0.v53 main_call0_call0.v54 addi,
   StableHlo.TRef.nullary main_call0_call0.c_13 (constantI S_ 32 16#32),
   StableHlo.TRef.unary main_call0_call0.c_13 main_call0_call0.v55 (broadcastInDim S512x100000 ![] bcast_S_S512x100000),
   StableHlo.TRef.binary main_call0_call0.v53 main_call0_call0.v55 main_call0_call0.v56 Host.shli,
   StableHlo.TRef.nullary main_call0_call0.c_14 (constantI S_ 32 16#32),
   StableHlo.TRef.unary main_call0_call0.c_14 main_call0_call0.v57 (broadcastInDim S512x100000 ![] bcast_S_S512x100000),
   StableHlo.TRef.binary main_call0_call0.v53 main_call0_call0.v57 main_call0_call0.v58 Host.shrui,
   StableHlo.TRef.binary main_call0_call0.v56 main_call0_call0.v58 main_call0_call0.v59 ori]

/-- Operations 128 to 159 of the reference, those of the functions it calls in their places. -/
def ops4 : List (HloOp τ sig (Elt F)) :=
  [StableHlo.TRef.binary main_call0_call0.v54 main_call0_call0.v59 main_call0_call0.v60 xori,
   StableHlo.TRef.binary main_call0_call0.v54 main_call0_call0.v60 main_call0_call0.v61 addi,
   StableHlo.TRef.nullary main_call0_call0.c_15 (constantI S_ 32 24#32),
   StableHlo.TRef.unary main_call0_call0.c_15 main_call0_call0.v62 (broadcastInDim S512x100000 ![] bcast_S_S512x100000),
   StableHlo.TRef.binary main_call0_call0.v60 main_call0_call0.v62 main_call0_call0.v63 Host.shli,
   StableHlo.TRef.nullary main_call0_call0.c_16 (constantI S_ 32 8#32),
   StableHlo.TRef.unary main_call0_call0.c_16 main_call0_call0.v64 (broadcastInDim S512x100000 ![] bcast_S_S512x100000),
   StableHlo.TRef.binary main_call0_call0.v60 main_call0_call0.v64 main_call0_call0.v65 Host.shrui,
   StableHlo.TRef.binary main_call0_call0.v63 main_call0_call0.v65 main_call0_call0.v66 ori,
   StableHlo.TRef.binary main_call0_call0.v61 main_call0_call0.v66 main_call0_call0.v67 xori,
   StableHlo.TRef.unary main_call0_call0.v1 main_call0_call0.v68 (broadcastInDim S512x100000 ![] bcast_S_S512x100000),
   StableHlo.TRef.binary main_call0_call0.v61 main_call0_call0.v68 main_call0_call0.v69 addi,
   StableHlo.TRef.unary main_call0.v5 main_call0_call0.v70 (broadcastInDim S512x100000 ![] bcast_S_S512x100000),
   StableHlo.TRef.binary main_call0_call0.v67 main_call0_call0.v70 main_call0_call0.v71 addi,
   StableHlo.TRef.nullary main_call0_call0.c_17 (constantI S_ 32 2#32),
   StableHlo.TRef.unary main_call0_call0.c_17 main_call0_call0.v72 (broadcastInDim S512x100000 ![] bcast_S_S512x100000),
   StableHlo.TRef.binary main_call0_call0.v71 main_call0_call0.v72 main_call0_call0.v73 addi,
   StableHlo.TRef.binary main_call0_call0.v69 main_call0_call0.v73 main_call0_call0.v74 addi,
   StableHlo.TRef.nullary main_call0_call0.c_18 (constantI S_ 32 13#32),
   StableHlo.TRef.unary main_call0_call0.c_18 main_call0_call0.v75 (broadcastInDim S512x100000 ![] bcast_S_S512x100000),
   StableHlo.TRef.binary main_call0_call0.v73 main_call0_call0.v75 main_call0_call0.v76 Host.shli,
   StableHlo.TRef.nullary main_call0_call0.c_19 (constantI S_ 32 19#32),
   StableHlo.TRef.unary main_call0_call0.c_19 main_call0_call0.v77 (broadcastInDim S512x100000 ![] bcast_S_S512x100000),
   StableHlo.TRef.binary main_call0_call0.v73 main_call0_call0.v77 main_call0_call0.v78 Host.shrui,
   StableHlo.TRef.binary main_call0_call0.v76 main_call0_call0.v78 main_call0_call0.v79 ori,
   StableHlo.TRef.binary main_call0_call0.v74 main_call0_call0.v79 main_call0_call0.v80 xori,
   StableHlo.TRef.binary main_call0_call0.v74 main_call0_call0.v80 main_call0_call0.v81 addi,
   StableHlo.TRef.nullary main_call0_call0.c_20 (constantI S_ 32 15#32),
   StableHlo.TRef.unary main_call0_call0.c_20 main_call0_call0.v82 (broadcastInDim S512x100000 ![] bcast_S_S512x100000),
   StableHlo.TRef.binary main_call0_call0.v80 main_call0_call0.v82 main_call0_call0.v83 Host.shli,
   StableHlo.TRef.nullary main_call0_call0.c_21 (constantI S_ 32 17#32),
   StableHlo.TRef.unary main_call0_call0.c_21 main_call0_call0.v84 (broadcastInDim S512x100000 ![] bcast_S_S512x100000)]

/-- Operations 160 to 191 of the reference, those of the functions it calls in their places. -/
def ops5 : List (HloOp τ sig (Elt F)) :=
  [StableHlo.TRef.binary main_call0_call0.v80 main_call0_call0.v84 main_call0_call0.v85 Host.shrui,
   StableHlo.TRef.binary main_call0_call0.v83 main_call0_call0.v85 main_call0_call0.v86 ori,
   StableHlo.TRef.binary main_call0_call0.v81 main_call0_call0.v86 main_call0_call0.v87 xori,
   StableHlo.TRef.binary main_call0_call0.v81 main_call0_call0.v87 main_call0_call0.v88 addi,
   StableHlo.TRef.nullary main_call0_call0.c_22 (constantI S_ 32 26#32),
   StableHlo.TRef.unary main_call0_call0.c_22 main_call0_call0.v89 (broadcastInDim S512x100000 ![] bcast_S_S512x100000),
   StableHlo.TRef.binary main_call0_call0.v87 main_call0_call0.v89 main_call0_call0.v90 Host.shli,
   StableHlo.TRef.nullary main_call0_call0.c_23 (constantI S_ 32 6#32),
   StableHlo.TRef.unary main_call0_call0.c_23 main_call0_call0.v91 (broadcastInDim S512x100000 ![] bcast_S_S512x100000),
   StableHlo.TRef.binary main_call0_call0.v87 main_call0_call0.v91 main_call0_call0.v92 Host.shrui,
   StableHlo.TRef.binary main_call0_call0.v90 main_call0_call0.v92 main_call0_call0.v93 ori,
   StableHlo.TRef.binary main_call0_call0.v88 main_call0_call0.v93 main_call0_call0.v94 xori,
   StableHlo.TRef.binary main_call0_call0.v88 main_call0_call0.v94 main_call0_call0.v95 addi,
   StableHlo.TRef.nullary main_call0_call0.c_24 (constantI S_ 32 6#32),
   StableHlo.TRef.unary main_call0_call0.c_24 main_call0_call0.v96 (broadcastInDim S512x100000 ![] bcast_S_S512x100000),
   StableHlo.TRef.binary main_call0_call0.v94 main_call0_call0.v96 main_call0_call0.v97 Host.shli,
   StableHlo.TRef.nullary main_call0_call0.c_25 (constantI S_ 32 26#32),
   StableHlo.TRef.unary main_call0_call0.c_25 main_call0_call0.v98 (broadcastInDim S512x100000 ![] bcast_S_S512x100000),
   StableHlo.TRef.binary main_call0_call0.v94 main_call0_call0.v98 main_call0_call0.v99 Host.shrui,
   StableHlo.TRef.binary main_call0_call0.v97 main_call0_call0.v99 main_call0_call0.v100 ori,
   StableHlo.TRef.binary main_call0_call0.v95 main_call0_call0.v100 main_call0_call0.v101 xori,
   StableHlo.TRef.unary main_call0.v5 main_call0_call0.v102 (broadcastInDim S512x100000 ![] bcast_S_S512x100000),
   StableHlo.TRef.binary main_call0_call0.v95 main_call0_call0.v102 main_call0_call0.v103 addi,
   StableHlo.TRef.unary main_call0.v7 main_call0_call0.v104 (broadcastInDim S512x100000 ![] bcast_S_S512x100000),
   StableHlo.TRef.binary main_call0_call0.v101 main_call0_call0.v104 main_call0_call0.v105 addi,
   StableHlo.TRef.nullary main_call0_call0.c_26 (constantI S_ 32 3#32),
   StableHlo.TRef.unary main_call0_call0.c_26 main_call0_call0.v106 (broadcastInDim S512x100000 ![] bcast_S_S512x100000),
   StableHlo.TRef.binary main_call0_call0.v105 main_call0_call0.v106 main_call0_call0.v107 addi,
   StableHlo.TRef.binary main_call0_call0.v103 main_call0_call0.v107 main_call0_call0.v108 addi,
   StableHlo.TRef.nullary main_call0_call0.c_27 (constantI S_ 32 17#32),
   StableHlo.TRef.unary main_call0_call0.c_27 main_call0_call0.v109 (broadcastInDim S512x100000 ![] bcast_S_S512x100000),
   StableHlo.TRef.binary main_call0_call0.v107 main_call0_call0.v109 main_call0_call0.v110 Host.shli]

/-- Operations 192 to 223 of the reference, those of the functions it calls in their places. -/
def ops6 : List (HloOp τ sig (Elt F)) :=
  [StableHlo.TRef.nullary main_call0_call0.c_28 (constantI S_ 32 15#32),
   StableHlo.TRef.unary main_call0_call0.c_28 main_call0_call0.v111 (broadcastInDim S512x100000 ![] bcast_S_S512x100000),
   StableHlo.TRef.binary main_call0_call0.v107 main_call0_call0.v111 main_call0_call0.v112 Host.shrui,
   StableHlo.TRef.binary main_call0_call0.v110 main_call0_call0.v112 main_call0_call0.v113 ori,
   StableHlo.TRef.binary main_call0_call0.v108 main_call0_call0.v113 main_call0_call0.v114 xori,
   StableHlo.TRef.binary main_call0_call0.v108 main_call0_call0.v114 main_call0_call0.v115 addi,
   StableHlo.TRef.nullary main_call0_call0.c_29 (constantI S_ 32 29#32),
   StableHlo.TRef.unary main_call0_call0.c_29 main_call0_call0.v116 (broadcastInDim S512x100000 ![] bcast_S_S512x100000),
   StableHlo.TRef.binary main_call0_call0.v114 main_call0_call0.v116 main_call0_call0.v117 Host.shli,
   StableHlo.TRef.nullary main_call0_call0.c_30 (constantI S_ 32 3#32),
   StableHlo.TRef.unary main_call0_call0.c_30 main_call0_call0.v118 (broadcastInDim S512x100000 ![] bcast_S_S512x100000),
   StableHlo.TRef.binary main_call0_call0.v114 main_call0_call0.v118 main_call0_call0.v119 Host.shrui,
   StableHlo.TRef.binary main_call0_call0.v117 main_call0_call0.v119 main_call0_call0.v120 ori,
   StableHlo.TRef.binary main_call0_call0.v115 main_call0_call0.v120 main_call0_call0.v121 xori,
   StableHlo.TRef.binary main_call0_call0.v115 main_call0_call0.v121 main_call0_call0.v122 addi,
   StableHlo.TRef.nullary main_call0_call0.c_31 (constantI S_ 32 16#32),
   StableHlo.TRef.unary main_call0_call0.c_31 main_call0_call0.v123 (broadcastInDim S512x100000 ![] bcast_S_S512x100000),
   StableHlo.TRef.binary main_call0_call0.v121 main_call0_call0.v123 main_call0_call0.v124 Host.shli,
   StableHlo.TRef.nullary main_call0_call0.c_32 (constantI S_ 32 16#32),
   StableHlo.TRef.unary main_call0_call0.c_32 main_call0_call0.v125 (broadcastInDim S512x100000 ![] bcast_S_S512x100000),
   StableHlo.TRef.binary main_call0_call0.v121 main_call0_call0.v125 main_call0_call0.v126 Host.shrui,
   StableHlo.TRef.binary main_call0_call0.v124 main_call0_call0.v126 main_call0_call0.v127 ori,
   StableHlo.TRef.binary main_call0_call0.v122 main_call0_call0.v127 main_call0_call0.v128 xori,
   StableHlo.TRef.binary main_call0_call0.v122 main_call0_call0.v128 main_call0_call0.v129 addi,
   StableHlo.TRef.nullary main_call0_call0.c_33 (constantI S_ 32 24#32),
   StableHlo.TRef.unary main_call0_call0.c_33 main_call0_call0.v130 (broadcastInDim S512x100000 ![] bcast_S_S512x100000),
   StableHlo.TRef.binary main_call0_call0.v128 main_call0_call0.v130 main_call0_call0.v131 Host.shli,
   StableHlo.TRef.nullary main_call0_call0.c_34 (constantI S_ 32 8#32),
   StableHlo.TRef.unary main_call0_call0.c_34 main_call0_call0.v132 (broadcastInDim S512x100000 ![] bcast_S_S512x100000),
   StableHlo.TRef.binary main_call0_call0.v128 main_call0_call0.v132 main_call0_call0.v133 Host.shrui,
   StableHlo.TRef.binary main_call0_call0.v131 main_call0_call0.v133 main_call0_call0.v134 ori,
   StableHlo.TRef.binary main_call0_call0.v129 main_call0_call0.v134 main_call0_call0.v135 xori]

/-- Operations 224 to 255 of the reference, those of the functions it calls in their places. -/
def ops7 : List (HloOp τ sig (Elt F)) :=
  [StableHlo.TRef.unary main_call0.v7 main_call0_call0.v136 (broadcastInDim S512x100000 ![] bcast_S_S512x100000),
   StableHlo.TRef.binary main_call0_call0.v129 main_call0_call0.v136 main_call0_call0.v137 addi,
   StableHlo.TRef.unary main_call0_call0.v1 main_call0_call0.v138 (broadcastInDim S512x100000 ![] bcast_S_S512x100000),
   StableHlo.TRef.binary main_call0_call0.v135 main_call0_call0.v138 main_call0_call0.v139 addi,
   StableHlo.TRef.nullary main_call0_call0.c_35 (constantI S_ 32 4#32),
   StableHlo.TRef.unary main_call0_call0.c_35 main_call0_call0.v140 (broadcastInDim S512x100000 ![] bcast_S_S512x100000),
   StableHlo.TRef.binary main_call0_call0.v139 main_call0_call0.v140 main_call0_call0.v141 addi,
   StableHlo.TRef.binary main_call0_call0.v137 main_call0_call0.v141 main_call0_call0.v142 addi,
   StableHlo.TRef.nullary main_call0_call0.c_36 (constantI S_ 32 13#32),
   StableHlo.TRef.unary main_call0_call0.c_36 main_call0_call0.v143 (broadcastInDim S512x100000 ![] bcast_S_S512x100000),
   StableHlo.TRef.binary main_call0_call0.v141 main_call0_call0.v143 main_call0_call0.v144 Host.shli,
   StableHlo.TRef.nullary main_call0_call0.c_37 (constantI S_ 32 19#32),
   StableHlo.TRef.unary main_call0_call0.c_37 main_call0_call0.v145 (broadcastInDim S512x100000 ![] bcast_S_S512x100000),
   StableHlo.TRef.binary main_call0_call0.v141 main_call0_call0.v145 main_call0_call0.v146 Host.shrui,
   StableHlo.TRef.binary main_call0_call0.v144 main_call0_call0.v146 main_call0_call0.v147 ori,
   StableHlo.TRef.binary main_call0_call0.v142 main_call0_call0.v147 main_call0_call0.v148 xori,
   StableHlo.TRef.binary main_call0_call0.v142 main_call0_call0.v148 main_call0_call0.v149 addi,
   StableHlo.TRef.nullary main_call0_call0.c_38 (constantI S_ 32 15#32),
   StableHlo.TRef.unary main_call0_call0.c_38 main_call0_call0.v150 (broadcastInDim S512x100000 ![] bcast_S_S512x100000),
   StableHlo.TRef.binary main_call0_call0.v148 main_call0_call0.v150 main_call0_call0.v151 Host.shli,
   StableHlo.TRef.nullary main_call0_call0.c_39 (constantI S_ 32 17#32),
   StableHlo.TRef.unary main_call0_call0.c_39 main_call0_call0.v152 (broadcastInDim S512x100000 ![] bcast_S_S512x100000),
   StableHlo.TRef.binary main_call0_call0.v148 main_call0_call0.v152 main_call0_call0.v153 Host.shrui,
   StableHlo.TRef.binary main_call0_call0.v151 main_call0_call0.v153 main_call0_call0.v154 ori,
   StableHlo.TRef.binary main_call0_call0.v149 main_call0_call0.v154 main_call0_call0.v155 xori,
   StableHlo.TRef.binary main_call0_call0.v149 main_call0_call0.v155 main_call0_call0.v156 addi,
   StableHlo.TRef.nullary main_call0_call0.c_40 (constantI S_ 32 26#32),
   StableHlo.TRef.unary main_call0_call0.c_40 main_call0_call0.v157 (broadcastInDim S512x100000 ![] bcast_S_S512x100000),
   StableHlo.TRef.binary main_call0_call0.v155 main_call0_call0.v157 main_call0_call0.v158 Host.shli,
   StableHlo.TRef.nullary main_call0_call0.c_41 (constantI S_ 32 6#32),
   StableHlo.TRef.unary main_call0_call0.c_41 main_call0_call0.v159 (broadcastInDim S512x100000 ![] bcast_S_S512x100000),
   StableHlo.TRef.binary main_call0_call0.v155 main_call0_call0.v159 main_call0_call0.v160 Host.shrui]

/-- Operations 256 to 287 of the reference, those of the functions it calls in their places. -/
def ops8 : List (HloOp τ sig (Elt F)) :=
  [StableHlo.TRef.binary main_call0_call0.v158 main_call0_call0.v160 main_call0_call0.v161 ori,
   StableHlo.TRef.binary main_call0_call0.v156 main_call0_call0.v161 main_call0_call0.v162 xori,
   StableHlo.TRef.binary main_call0_call0.v156 main_call0_call0.v162 main_call0_call0.v163 addi,
   StableHlo.TRef.nullary main_call0_call0.c_42 (constantI S_ 32 6#32),
   StableHlo.TRef.unary main_call0_call0.c_42 main_call0_call0.v164 (broadcastInDim S512x100000 ![] bcast_S_S512x100000),
   StableHlo.TRef.binary main_call0_call0.v162 main_call0_call0.v164 main_call0_call0.v165 Host.shli,
   StableHlo.TRef.nullary main_call0_call0.c_43 (constantI S_ 32 26#32),
   StableHlo.TRef.unary main_call0_call0.c_43 main_call0_call0.v166 (broadcastInDim S512x100000 ![] bcast_S_S512x100000),
   StableHlo.TRef.binary main_call0_call0.v162 main_call0_call0.v166 main_call0_call0.v167 Host.shrui,
   StableHlo.TRef.binary main_call0_call0.v165 main_call0_call0.v167 main_call0_call0.v168 ori,
   StableHlo.TRef.binary main_call0_call0.v163 main_call0_call0.v168 main_call0_call0.v169 xori,
   StableHlo.TRef.unary main_call0_call0.v1 main_call0_call0.v170 (broadcastInDim S512x100000 ![] bcast_S_S512x100000),
   StableHlo.TRef.binary main_call0_call0.v163 main_call0_call0.v170 main_call0_call0.v171 addi,
   StableHlo.TRef.unary main_call0.v5 main_call0_call0.v172 (broadcastInDim S512x100000 ![] bcast_S_S512x100000),
   StableHlo.TRef.binary main_call0_call0.v169 main_call0_call0.v172 main_call0_call0.v173 addi,
   StableHlo.TRef.nullary main_call0_call0.c_44 (constantI S_ 32 5#32),
   StableHlo.TRef.unary main_call0_call0.c_44 main_call0_call0.v174 (broadcastInDim S512x100000 ![] bcast_S_S512x100000),
   StableHlo.TRef.binary main_call0_call0.v173 main_call0_call0.v174 main_call0_call0.v175 addi,
   StableHlo.TRef.binary main_call0_call0.v171 main_call0_call0.v175 main_call0.v20 xori,
   StableHlo.TRef.nullary main_call0.c_2 (constantI S_ 32 9#32),
   StableHlo.TRef.unary main_call0.c_2 main_call0.v21 (broadcastInDim S512x100000 ![] bcast_S_S512x100000),
   StableHlo.TRef.binary main_call0.v20 main_call0.v21 main_call0.v22 Host.shrui,
   StableHlo.TRef.nullary main_call0.c_3 (constantI S_ 32 1065353216#32),
   StableHlo.TRef.unary main_call0.c_3 main_call0.v23 (broadcastInDim S512x100000 ![] bcast_S_S512x100000),
   StableHlo.TRef.binary main_call0.v22 main_call0.v23 main_call0.v24 ori,
   StableHlo.TRef.unary main_call0.v24 main_call0.v25 (bitcastToFloat .f32),
   StableHlo.TRef.nullary main_call0.cst (constant S_ .f32 0x3F800000#32),
   StableHlo.TRef.unary main_call0.cst main_call0.v26 (broadcastInDim S512x100000 ![] bcast_S_S512x100000),
   StableHlo.TRef.binary main_call0.v25 main_call0.v26 main_call0.v27 subf,
   StableHlo.TRef.binary main_call0.v3 main_call0.v2 main_call0.v28 subf,
   StableHlo.TRef.unary main_call0.v28 main_call0.v29 (broadcastInDim S512x100000 ![0, 1] bcast_S1x1_S512x100000_0_1),
   StableHlo.TRef.binary main_call0.v27 main_call0.v29 main_call0.v30 mulf]

/-- Operations 288 to 306 of the reference, those of the functions it calls in their places. -/
def ops9 : List (HloOp τ sig (Elt F)) :=
  [StableHlo.TRef.unary main_call0.v2 main_call0.v31 (broadcastInDim S512x100000 ![0, 1] bcast_S1x1_S512x100000_0_1),
   StableHlo.TRef.binary main_call0.v30 main_call0.v31 main_call0.v32 addf,
   StableHlo.TRef.unary main_call0.v2 main_call0.v33 (broadcastInDim S512x100000 ![0, 1] bcast_S1x1_S512x100000_0_1),
   StableHlo.TRef.binary main_call0.v33 main_call0.v32 main_call0.v34 maximumf,
   StableHlo.nullary main_cst_7 (constant S_ .f32 0x00800000#32),
   StableHlo.unary main_cst_7 main_v22 (broadcastInDim S512x100000 ![] bcast_S_S512x100000 : (⟨S_, .f32⟩ : BufTy).Contents (Elt F) → (⟨S512x100000, .f32⟩ : BufTy).Contents (Elt F)),
   StableHlo.binary main_v21 main_v22 main_v23 (maximumf : (⟨S512x100000, .f32⟩ : BufTy).Contents (Elt F) → (⟨S512x100000, .f32⟩ : BufTy).Contents (Elt F) → (⟨S512x100000, .f32⟩ : BufTy).Contents (Elt F)),
   StableHlo.unary main_v23 main_v24 (Host.log : (⟨S512x100000, .f32⟩ : BufTy).Contents (Elt F) → (⟨S512x100000, .f32⟩ : BufTy).Contents (Elt F)),
   StableHlo.unary main_v24 main_v25 (Host.negf : (⟨S512x100000, .f32⟩ : BufTy).Contents (Elt F) → (⟨S512x100000, .f32⟩ : BufTy).Contents (Elt F)),
   StableHlo.unary main_v25 main_v26 (Host.log : (⟨S512x100000, .f32⟩ : BufTy).Contents (Elt F) → (⟨S512x100000, .f32⟩ : BufTy).Contents (Elt F)),
   StableHlo.unary main_v26 main_v27 (Host.negf : (⟨S512x100000, .f32⟩ : BufTy).Contents (Elt F) → (⟨S512x100000, .f32⟩ : BufTy).Contents (Elt F)),
   StableHlo.unary main_v13 main_v28 (Host.log : (⟨S512x100000, .f32⟩ : BufTy).Contents (Elt F) → (⟨S512x100000, .f32⟩ : BufTy).Contents (Elt F)),
   StableHlo.binary main_v28 main_v27 main_v29 (addf : (⟨S512x100000, .f32⟩ : BufTy).Contents (Elt F) → (⟨S512x100000, .f32⟩ : BufTy).Contents (Elt F) → (⟨S512x100000, .f32⟩ : BufTy).Contents (Elt F)),
   StableHlo.TRef.nullary main_call1.v0 (iotaInDim S512x100000 32 1),
   StableHlo.TRef.nullary main_call1.cst (constant S_ .f32 0xFF800000#32),
   StableHlo.TRef.nullary main_call1.c (constantI S_ 32 0#32),
   StableHlo.TRef.quaternary (.of main_v29 : StableHlo.TRef sig ⟨S512x100000, .f32⟩) main_call1.v0 main_call1.cst main_call1.c main_call1.v1_0 (fun x y u v j => (Host.argReduce reducer_argmax_f32_i32 x y u v reducesTo_S512x100000_S512_d1 h_S_ j).1),
   StableHlo.TRef.quaternary (.of main_v29 : StableHlo.TRef sig ⟨S512x100000, .f32⟩) main_call1.v0 main_call1.cst main_call1.c main_call1.v1_1 (fun x y u v j => (Host.argReduce reducer_argmax_f32_i32 x y u v reducesTo_S512x100000_S512_d1 h_S_ j).2),
   StableHlo.reshape main_v30 main_v31 (rfl : (.i32 : EltTy) = .i32) shapeCasts_S512_S64x1x8]

/-- The operations of the reference, in order. -/
def ops : List (HloOp τ sig (Elt F)) :=
  ops0 ++ (ops1 ++ (ops2 ++ (ops3 ++ (ops4 ++ (ops5 ++ (ops6 ++ (ops7 ++ (ops8 ++ (ops9)))))))))

/-- The buffer each operation writes. -/
def written : List (Ref sig .tc) :=
  [main_v0, main_cst, main_v1, main_v2, main_cst_0, main_v3,
   main_cst_1, main_v4, main_v5, main_v6, main_v7, main_v8,
   main_v9, main_cst_2, main_v10, main_v11, main_v12, main_v13,
   main_c, main_c_3, main_v14, main_v15, main_v16, main_c_4,
   main_v17, main_v18, main_v19, main_v20, main_cst_5, main_cst_6,
   main_call0_v0, main_call0_v1, main_call0_v2, main_call0_v3, main_call0_v4, main_call0_v5,
   main_call0_v6, main_call0_v7, main_call0_v8, main_call0_v9, main_call0_c, main_call0_v10,
   main_call0_v11, main_call0_c_0, main_call0_v12, main_call0_v13, main_call0_v14, main_call0_c_1,
   main_call0_v15, main_call0_v16, main_call0_v17, main_call0_v18, main_call0_call0_v0, main_call0_call0_c,
   main_call0_call0_v1, main_call0_call0_v2, main_call0_call0_v3, main_call0_call0_v4, main_call0_call0_v5, main_call0_call0_v6,
   main_call0_call0_c_0, main_call0_call0_v7, main_call0_call0_v8, main_call0_call0_c_1, main_call0_call0_v9, main_call0_call0_v10,
   main_call0_call0_v11, main_call0_call0_v12, main_call0_call0_v13, main_call0_call0_c_2, main_call0_call0_v14, main_call0_call0_v15,
   main_call0_call0_c_3, main_call0_call0_v16, main_call0_call0_v17, main_call0_call0_v18, main_call0_call0_v19, main_call0_call0_v20,
   main_call0_call0_c_4, main_call0_call0_v21, main_call0_call0_v22, main_call0_call0_c_5, main_call0_call0_v23, main_call0_call0_v24,
   main_call0_call0_v25, main_call0_call0_v26, main_call0_call0_v27, main_call0_call0_c_6, main_call0_call0_v28, main_call0_call0_v29,
   main_call0_call0_c_7, main_call0_call0_v30, main_call0_call0_v31, main_call0_call0_v32, main_call0_call0_v33, main_call0_call0_v34,
   main_call0_call0_v35, main_call0_call0_v36, main_call0_call0_v37, main_call0_call0_c_8, main_call0_call0_v38, main_call0_call0_v39,
   main_call0_call0_v40, main_call0_call0_c_9, main_call0_call0_v41, main_call0_call0_v42, main_call0_call0_c_10, main_call0_call0_v43,
   main_call0_call0_v44, main_call0_call0_v45, main_call0_call0_v46, main_call0_call0_v47, main_call0_call0_c_11, main_call0_call0_v48,
   main_call0_call0_v49, main_call0_call0_c_12, main_call0_call0_v50, main_call0_call0_v51, main_call0_call0_v52, main_call0_call0_v53,
   main_call0_call0_v54, main_call0_call0_c_13, main_call0_call0_v55, main_call0_call0_v56, main_call0_call0_c_14, main_call0_call0_v57,
   main_call0_call0_v58, main_call0_call0_v59, main_call0_call0_v60, main_call0_call0_v61, main_call0_call0_c_15, main_call0_call0_v62,
   main_call0_call0_v63, main_call0_call0_c_16, main_call0_call0_v64, main_call0_call0_v65, main_call0_call0_v66, main_call0_call0_v67,
   main_call0_call0_v68, main_call0_call0_v69, main_call0_call0_v70, main_call0_call0_v71, main_call0_call0_c_17, main_call0_call0_v72,
   main_call0_call0_v73, main_call0_call0_v74, main_call0_call0_c_18, main_call0_call0_v75, main_call0_call0_v76, main_call0_call0_c_19,
   main_call0_call0_v77, main_call0_call0_v78, main_call0_call0_v79, main_call0_call0_v80, main_call0_call0_v81, main_call0_call0_c_20,
   main_call0_call0_v82, main_call0_call0_v83, main_call0_call0_c_21, main_call0_call0_v84, main_call0_call0_v85, main_call0_call0_v86,
   main_call0_call0_v87, main_call0_call0_v88, main_call0_call0_c_22, main_call0_call0_v89, main_call0_call0_v90, main_call0_call0_c_23,
   main_call0_call0_v91, main_call0_call0_v92, main_call0_call0_v93, main_call0_call0_v94, main_call0_call0_v95, main_call0_call0_c_24,
   main_call0_call0_v96, main_call0_call0_v97, main_call0_call0_c_25, main_call0_call0_v98, main_call0_call0_v99, main_call0_call0_v100,
   main_call0_call0_v101, main_call0_call0_v102, main_call0_call0_v103, main_call0_call0_v104, main_call0_call0_v105, main_call0_call0_c_26,
   main_call0_call0_v106, main_call0_call0_v107, main_call0_call0_v108, main_call0_call0_c_27, main_call0_call0_v109, main_call0_call0_v110,
   main_call0_call0_c_28, main_call0_call0_v111, main_call0_call0_v112, main_call0_call0_v113, main_call0_call0_v114, main_call0_call0_v115,
   main_call0_call0_c_29, main_call0_call0_v116, main_call0_call0_v117, main_call0_call0_c_30, main_call0_call0_v118, main_call0_call0_v119,
   main_call0_call0_v120, main_call0_call0_v121, main_call0_call0_v122, main_call0_call0_c_31, main_call0_call0_v123, main_call0_call0_v124,
   main_call0_call0_c_32, main_call0_call0_v125, main_call0_call0_v126, main_call0_call0_v127, main_call0_call0_v128, main_call0_call0_v129,
   main_call0_call0_c_33, main_call0_call0_v130, main_call0_call0_v131, main_call0_call0_c_34, main_call0_call0_v132, main_call0_call0_v133,
   main_call0_call0_v134, main_call0_call0_v135, main_call0_call0_v136, main_call0_call0_v137, main_call0_call0_v138, main_call0_call0_v139,
   main_call0_call0_c_35, main_call0_call0_v140, main_call0_call0_v141, main_call0_call0_v142, main_call0_call0_c_36, main_call0_call0_v143,
   main_call0_call0_v144, main_call0_call0_c_37, main_call0_call0_v145, main_call0_call0_v146, main_call0_call0_v147, main_call0_call0_v148,
   main_call0_call0_v149, main_call0_call0_c_38, main_call0_call0_v150, main_call0_call0_v151, main_call0_call0_c_39, main_call0_call0_v152,
   main_call0_call0_v153, main_call0_call0_v154, main_call0_call0_v155, main_call0_call0_v156, main_call0_call0_c_40, main_call0_call0_v157,
   main_call0_call0_v158, main_call0_call0_c_41, main_call0_call0_v159, main_call0_call0_v160, main_call0_call0_v161, main_call0_call0_v162,
   main_call0_call0_v163, main_call0_call0_c_42, main_call0_call0_v164, main_call0_call0_v165, main_call0_call0_c_43, main_call0_call0_v166,
   main_call0_call0_v167, main_call0_call0_v168, main_call0_call0_v169, main_call0_call0_v170, main_call0_v19_0, main_call0_call0_v172,
   main_call0_call0_v173, main_call0_call0_c_44, main_call0_call0_v174, main_call0_v19_1, main_call0_v20, main_call0_c_2,
   main_call0_v21, main_call0_v22, main_call0_c_3, main_call0_v23, main_call0_v24, main_call0_v25,
   main_call0_cst, main_call0_v26, main_call0_v27, main_call0_v28, main_call0_v29, main_call0_v30,
   main_call0_v31, main_call0_v32, main_call0_v33, main_v21, main_cst_7, main_v22,
   main_v23, main_v24, main_v25, main_v26, main_v27, main_v28,
   main_v29, main_call1_v0, main_call1_cst, main_call1_c, main_call1_v1_0, main_v30,
   main_v31]

/-- A buffer's number. -/
def num (r : Ref sig .tc) : Nat := r.idx.val

theorem main_seq (d : Dev nD) : main (F := F) d = seq ops := by
  sl_kernel_rfl

theorem lined : Lined (ops (F := F)) written num where
  writes := by sl_kernel_rfl
  nums := by sl_kernel_rfl

theorem bufs_sub : (ops (F := F)).Forall fun op => op.bufs ⊆ tcRefs τ sig := by
  simp only [ops, ops0, ops1, ops2, ops3, ops4, ops5, ops6, ops7, ops8, ops9, List.cons_append, List.nil_append, List.forall_cons, List.Forall, and_true, nullary_bufs_sub, unary_bufs_sub, binary_bufs_sub,
    quaternary_bufs_sub, reshape_bufs_sub]

theorem fresh_none : ∀ op ∈ ops (F := F), op.fresh = ∅ := by
  refine List.forall_iff_forall_mem.mp (forall_fresh_of_map ?_)
  sl_kernel_rfl

/-- What a buffer of the reference holds after the whole line, from contents `V`. -/
abbrev E (V : Valuation τ sig (Elt F)) (r : Ref sig .tc) : r.ty.Contents (Elt F) := after ops V (Proc.devRef .tc r)

end Cert.Sampling.Ref
-- ==== Proof.RefEqs0.lean ====
/-
  What the buffers of the reference hold after its run: operations 0 to 76, an equation each.
-/
module

public import proofs.«01_k».proof.ReferenceIdeal
public import proofs.«01_k».proof.Proof.Line
public import Idealize.ShloMosaic.Lib.Tactic
public import proofs.«01_k».proof.Proof.RefOps

@[expose] public section

set_option maxRecDepth 100000

noncomputable section

namespace Cert.Sampling.Ref

open Idealize.ShloMosaic Idealize.ShloMosaic.StableHlo Idealize.SL.Sem Cert.ReferenceIdeal
open Cert.ReferenceIdeal.Facts₀ Cert.ReferenceIdeal.Facts

variable {F : FTy → Type} [FloatOps F] [Cert.ReferenceIdeal.Facts]

variable (V : Valuation τ sig (Elt F))

theorem e1 : E V main_v0 = shapeCast S512x100000 (E V main_arg0 : (⟨S64x8x100000, .f32⟩ : BufTy).Contents (Elt F)) shapeCasts_S64x8x100000_S512x100000 := by
  have ho : (ops (F := F))[0]? = some (StableHlo.reshape main_arg0 main_v0 (rfl : (.f32 : EltTy) = .f32) shapeCasts_S64x8x100000_S512x100000) := by sl_kernel_rfl
  have h := (lined (F := F)).at_reshape 0 V ho rfl (by decide)
  exact h

theorem e2 : E V main_cst = (constant S_ .f32 0x3F800000#32) := by
  have ho : (ops (F := F))[1]? = some (StableHlo.nullary main_cst (constant S_ .f32 0x3F800000#32)) := by sl_kernel_rfl
  have h := (lined (F := F)).at_nullary 1 V ho rfl
  exact h

theorem e3 : E V main_v1 = (broadcastInDim S512x100000 ![] bcast_S_S512x100000 : (⟨S_, .f32⟩ : BufTy).Contents (Elt F) → (⟨S512x100000, .f32⟩ : BufTy).Contents (Elt F)) (E V main_cst) := by
  have ho : (ops (F := F))[2]? = some (StableHlo.unary main_cst main_v1 (broadcastInDim S512x100000 ![] bcast_S_S512x100000 : (⟨S_, .f32⟩ : BufTy).Contents (Elt F) → (⟨S512x100000, .f32⟩ : BufTy).Contents (Elt F))) := by sl_kernel_rfl
  have h := (lined (F := F)).at_unary 2 V ho rfl (by decide)
  exact h

theorem e4 : E V main_v2 = (Host.divf : (⟨S512x100000, .f32⟩ : BufTy).Contents (Elt F) → (⟨S512x100000, .f32⟩ : BufTy).Contents (Elt F) → (⟨S512x100000, .f32⟩ : BufTy).Contents (Elt F)) (E V main_v0) (E V main_v1) := by
  have ho : (ops (F := F))[3]? = some (StableHlo.binary main_v0 main_v1 main_v2 (Host.divf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 3 V ho rfl (by decide) (by decide)
  exact h

theorem e5 : E V main_cst_0 = (constant S_ .f32 0xFF800000#32) := by
  have ho : (ops (F := F))[4]? = some (StableHlo.nullary main_cst_0 (constant S_ .f32 0xFF800000#32)) := by sl_kernel_rfl
  have h := (lined (F := F)).at_nullary 4 V ho rfl
  exact h

theorem e6 : E V main_v3 = ((fun x v => Host.reduce FloatOps.maximumf x v reducesTo_S512x100000_S512_d1 h_S_) : (⟨S512x100000, .f32⟩ : BufTy).Contents (Elt F) → (⟨S_, .f32⟩ : BufTy).Contents (Elt F) → (⟨S512, .f32⟩ : BufTy).Contents (Elt F)) (E V main_v2) (E V main_cst_0) := by
  have ho : (ops (F := F))[5]? = some (StableHlo.binary main_v2 main_cst_0 main_v3 ((fun x v => Host.reduce FloatOps.maximumf x v reducesTo_S512x100000_S512_d1 h_S_) : (⟨S512x100000, .f32⟩ : BufTy).Contents (Elt F) → (⟨S_, .f32⟩ : BufTy).Contents (Elt F) → (⟨S512, .f32⟩ : BufTy).Contents (Elt F))) := by sl_kernel_rfl
  have h := (lined (F := F)).at_binary 5 V ho rfl (by decide) (by decide)
  exact h

theorem e7 : E V main_cst_1 = (constant S_ .f32 0xFF800000#32) := by
  have ho : (ops (F := F))[6]? = some (StableHlo.nullary main_cst_1 (constant S_ .f32 0xFF800000#32)) := by sl_kernel_rfl
  have h := (lined (F := F)).at_nullary 6 V ho rfl
  exact h

theorem e8 : E V main_v4 = (broadcastInDim S512 ![] bcast_S_S512 : (⟨S_, .f32⟩ : BufTy).Contents (Elt F) → (⟨S512, .f32⟩ : BufTy).Contents (Elt F)) (E V main_cst_1) := by
  have ho : (ops (F := F))[7]? = some (StableHlo.unary main_cst_1 main_v4 (broadcastInDim S512 ![] bcast_S_S512 : (⟨S_, .f32⟩ : BufTy).Contents (Elt F) → (⟨S512, .f32⟩ : BufTy).Contents (Elt F))) := by sl_kernel_rfl
  have h := (lined (F := F)).at_unary 7 V ho rfl (by decide)
  exact h

theorem e9 : E V main_v5 = (maximumf : (⟨S512, .f32⟩ : BufTy).Contents (Elt F) → (⟨S512, .f32⟩ : BufTy).Contents (Elt F) → (⟨S512, .f32⟩ : BufTy).Contents (Elt F)) (E V main_v4) (E V main_v3) := by
  have ho : (ops (F := F))[8]? = some (StableHlo.binary main_v4 main_v3 main_v5 (maximumf : (⟨S512, .f32⟩ : BufTy).Contents (Elt F) → (⟨S512, .f32⟩ : BufTy).Contents (Elt F) → (⟨S512, .f32⟩ : BufTy).Contents (Elt F))) := by sl_kernel_rfl
  have h := (lined (F := F)).at_binary 8 V ho rfl (by decide) (by decide)
  exact h

theorem e10 : E V main_v6 = (broadcastInDim S512x1 ![0] bcast_S512_S512x1_0 : (⟨S512, .f32⟩ : BufTy).Contents (Elt F) → (⟨S512x1, .f32⟩ : BufTy).Contents (Elt F)) (E V main_v5) := by
  have ho : (ops (F := F))[9]? = some (StableHlo.unary main_v5 main_v6 (broadcastInDim S512x1 ![0] bcast_S512_S512x1_0 : (⟨S512, .f32⟩ : BufTy).Contents (Elt F) → (⟨S512x1, .f32⟩ : BufTy).Contents (Elt F))) := by sl_kernel_rfl
  have h := (lined (F := F)).at_unary 9 V ho rfl (by decide)
  exact h

theorem e11 : E V main_v7 = (broadcastInDim S512x100000 ![0, 1] bcast_S512x1_S512x100000_0_1 : (⟨S512x1, .f32⟩ : BufTy).Contents (Elt F) → (⟨S512x100000, .f32⟩ : BufTy).Contents (Elt F)) (E V main_v6) := by
  have ho : (ops (F := F))[10]? = some (StableHlo.unary main_v6 main_v7 (broadcastInDim S512x100000 ![0, 1] bcast_S512x1_S512x100000_0_1 : (⟨S512x1, .f32⟩ : BufTy).Contents (Elt F) → (⟨S512x100000, .f32⟩ : BufTy).Contents (Elt F))) := by sl_kernel_rfl
  have h := (lined (F := F)).at_unary 10 V ho rfl (by decide)
  exact h

theorem e12 : E V main_v8 = (subf : (⟨S512x100000, .f32⟩ : BufTy).Contents (Elt F) → (⟨S512x100000, .f32⟩ : BufTy).Contents (Elt F) → (⟨S512x100000, .f32⟩ : BufTy).Contents (Elt F)) (E V main_v2) (E V main_v7) := by
  have ho : (ops (F := F))[11]? = some (StableHlo.binary main_v2 main_v7 main_v8 (subf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 11 V ho rfl (by decide) (by decide)
  exact h

theorem e13 : E V main_v9 = (Host.exp : (⟨S512x100000, .f32⟩ : BufTy).Contents (Elt F) → (⟨S512x100000, .f32⟩ : BufTy).Contents (Elt F)) (E V main_v8) := by
  have ho : (ops (F := F))[12]? = some (StableHlo.unary main_v8 main_v9 (Host.exp : (⟨S512x100000, .f32⟩ : BufTy).Contents (Elt F) → (⟨S512x100000, .f32⟩ : BufTy).Contents (Elt F))) := by sl_kernel_rfl
  have h := (lined (F := F)).at_unary 12 V ho rfl (by decide)
  exact h

theorem e14 : E V main_cst_2 = (constant S_ .f32 0x00000000#32) := by
  have ho : (ops (F := F))[13]? = some (StableHlo.nullary main_cst_2 (constant S_ .f32 0x00000000#32)) := by sl_kernel_rfl
  have h := (lined (F := F)).at_nullary 13 V ho rfl
  exact h

theorem e15 : E V main_v10 = ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F)) (E V main_v9) (E V main_cst_2) := by
  have ho : (ops (F := F))[14]? = some (StableHlo.binary main_v9 main_cst_2 main_v10 ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F))) := by sl_kernel_rfl
  have h := (lined (F := F)).at_binary 14 V ho rfl (by decide) (by decide)
  exact h

theorem e16 : E V main_v11 = (broadcastInDim S512x1 ![0] bcast_S512_S512x1_0 : (⟨S512, .f32⟩ : BufTy).Contents (Elt F) → (⟨S512x1, .f32⟩ : BufTy).Contents (Elt F)) (E V main_v10) := by
  have ho : (ops (F := F))[15]? = some (StableHlo.unary main_v10 main_v11 (broadcastInDim S512x1 ![0] bcast_S512_S512x1_0 : (⟨S512, .f32⟩ : BufTy).Contents (Elt F) → (⟨S512x1, .f32⟩ : BufTy).Contents (Elt F))) := by sl_kernel_rfl
  have h := (lined (F := F)).at_unary 15 V ho rfl (by decide)
  exact h

theorem e17 : E V main_v12 = (broadcastInDim S512x100000 ![0, 1] bcast_S512x1_S512x100000_0_1 : (⟨S512x1, .f32⟩ : BufTy).Contents (Elt F) → (⟨S512x100000, .f32⟩ : BufTy).Contents (Elt F)) (E V main_v11) := by
  have ho : (ops (F := F))[16]? = some (StableHlo.unary main_v11 main_v12 (broadcastInDim S512x100000 ![0, 1] bcast_S512x1_S512x100000_0_1 : (⟨S512x1, .f32⟩ : BufTy).Contents (Elt F) → (⟨S512x100000, .f32⟩ : BufTy).Contents (Elt F))) := by sl_kernel_rfl
  have h := (lined (F := F)).at_unary 16 V ho rfl (by decide)
  exact h

theorem e18 : E V main_v13 = (Host.divf : (⟨S512x100000, .f32⟩ : BufTy).Contents (Elt F) → (⟨S512x100000, .f32⟩ : BufTy).Contents (Elt F) → (⟨S512x100000, .f32⟩ : BufTy).Contents (Elt F)) (E V main_v9) (E V main_v12) := by
  have ho : (ops (F := F))[17]? = some (StableHlo.binary main_v9 main_v12 main_v13 (Host.divf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 17 V ho rfl (by decide) (by decide)
  exact h

theorem e19 : E V main_c = (constantI S_ 32 42#32) := by
  have ho : (ops (F := F))[18]? = some (StableHlo.nullary main_c (constantI S_ 32 42#32)) := by sl_kernel_rfl
  have h := (lined (F := F)).at_nullary 18 V ho rfl
  exact h

theorem e20 : E V main_c_3 = (constantI S_ 32 32#32) := by
  have ho : (ops (F := F))[19]? = some (StableHlo.nullary main_c_3 (constantI S_ 32 32#32)) := by sl_kernel_rfl
  have h := (lined (F := F)).at_nullary 19 V ho rfl
  exact h

theorem e21 : E V main_v14 = (Host.shrui : (⟨S_, .i32⟩ : BufTy).Contents (Elt F) → (⟨S_, .i32⟩ : BufTy).Contents (Elt F) → (⟨S_, .i32⟩ : BufTy).Contents (Elt F)) (E V main_c) (E V main_c_3) := by
  have ho : (ops (F := F))[20]? = some (StableHlo.binary main_c main_c_3 main_v14 (Host.shrui : (⟨S_, .i32⟩ : BufTy).Contents (Elt F) → (⟨S_, .i32⟩ : BufTy).Contents (Elt F) → (⟨S_, .i32⟩ : BufTy).Contents (Elt F))) := by sl_kernel_rfl
  have h := (lined (F := F)).at_binary 20 V ho rfl (by decide) (by decide)
  exact h

theorem e22 : E V main_v15 = (id : (⟨S_, .i32⟩ : BufTy).Contents (Elt F) → (⟨S_, .i32⟩ : BufTy).Contents (Elt F)) (E V main_v14) := by
  have ho : (ops (F := F))[21]? = some (StableHlo.unary main_v14 main_v15 (id : (⟨S_, .i32⟩ : BufTy).Contents (Elt F) → (⟨S_, .i32⟩ : BufTy).Contents (Elt F))) := by sl_kernel_rfl
  have h := (lined (F := F)).at_unary 21 V ho rfl (by decide)
  exact h

theorem e23 : E V main_v16 = (broadcastInDim S1 ![] bcast_S_S1 : (⟨S_, .i32⟩ : BufTy).Contents (Elt F) → (⟨S1, .i32⟩ : BufTy).Contents (Elt F)) (E V main_v15) := by
  have ho : (ops (F := F))[22]? = some (StableHlo.unary main_v15 main_v16 (broadcastInDim S1 ![] bcast_S_S1 : (⟨S_, .i32⟩ : BufTy).Contents (Elt F) → (⟨S1, .i32⟩ : BufTy).Contents (Elt F))) := by sl_kernel_rfl
  have h := (lined (F := F)).at_unary 22 V ho rfl (by decide)
  exact h

theorem e24 : E V main_c_4 = (constantI S_ 32 4294967295#32) := by
  have ho : (ops (F := F))[23]? = some (StableHlo.nullary main_c_4 (constantI S_ 32 4294967295#32)) := by sl_kernel_rfl
  have h := (lined (F := F)).at_nullary 23 V ho rfl
  exact h

theorem e25 : E V main_v17 = (andi : (⟨S_, .i32⟩ : BufTy).Contents (Elt F) → (⟨S_, .i32⟩ : BufTy).Contents (Elt F) → (⟨S_, .i32⟩ : BufTy).Contents (Elt F)) (E V main_c) (E V main_c_4) := by
  have ho : (ops (F := F))[24]? = some (StableHlo.binary main_c main_c_4 main_v17 (andi : (⟨S_, .i32⟩ : BufTy).Contents (Elt F) → (⟨S_, .i32⟩ : BufTy).Contents (Elt F) → (⟨S_, .i32⟩ : BufTy).Contents (Elt F))) := by sl_kernel_rfl
  have h := (lined (F := F)).at_binary 24 V ho rfl (by decide) (by decide)
  exact h

theorem e26 : E V main_v18 = (id : (⟨S_, .i32⟩ : BufTy).Contents (Elt F) → (⟨S_, .i32⟩ : BufTy).Contents (Elt F)) (E V main_v17) := by
  have ho : (ops (F := F))[25]? = some (StableHlo.unary main_v17 main_v18 (id : (⟨S_, .i32⟩ : BufTy).Contents (Elt F) → (⟨S_, .i32⟩ : BufTy).Contents (Elt F))) := by sl_kernel_rfl
  have h := (lined (F := F)).at_unary 25 V ho rfl (by decide)
  exact h

theorem e27 : E V main_v19 = (broadcastInDim S1 ![] bcast_S_S1 : (⟨S_, .i32⟩ : BufTy).Contents (Elt F) → (⟨S1, .i32⟩ : BufTy).Contents (Elt F)) (E V main_v18) := by
  have ho : (ops (F := F))[26]? = some (StableHlo.unary main_v18 main_v19 (broadcastInDim S1 ![] bcast_S_S1 : (⟨S_, .i32⟩ : BufTy).Contents (Elt F) → (⟨S1, .i32⟩ : BufTy).Contents (Elt F))) := by sl_kernel_rfl
  have h := (lined (F := F)).at_unary 26 V ho rfl (by decide)
  exact h

theorem e28 : E V main_v20 = ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (E V main_v16) (E V main_v19) := by
  have ho : (ops (F := F))[27]? = some (StableHlo.binary main_v16 main_v19 main_v20 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) := by sl_kernel_rfl
  have h := (lined (F := F)).at_binary 27 V ho rfl (by decide) (by decide)
  exact h

theorem e29 : E V main_cst_5 = (constant S_ .f32 0x00000000#32) := by
  have ho : (ops (F := F))[28]? = some (StableHlo.nullary main_cst_5 (constant S_ .f32 0x00000000#32)) := by sl_kernel_rfl
  have h := (lined (F := F)).at_nullary 28 V ho rfl
  exact h

theorem e30 : E V main_cst_6 = (constant S_ .f32 0x3F800000#32) := by
  have ho : (ops (F := F))[29]? = some (StableHlo.nullary main_cst_6 (constant S_ .f32 0x3F800000#32)) := by sl_kernel_rfl
  have h := (lined (F := F)).at_nullary 29 V ho rfl
  exact h

theorem e31 : E V main_call0_v0 = (id : (⟨S_, .f32⟩ : BufTy).Contents (Elt F) → (⟨S_, .f32⟩ : BufTy).Contents (Elt F)) (E V main_cst_5) := by
  have ho : (ops (F := F))[30]? = some (StableHlo.unary main_cst_5 main_call0_v0 (id : (⟨S_, .f32⟩ : BufTy).Contents (Elt F) → (⟨S_, .f32⟩ : BufTy).Contents (Elt F))) := by sl_kernel_rfl
  have h := (lined (F := F)).at_unary 30 V ho rfl (by decide)
  exact h

theorem e32 : E V main_call0_v1 = (id : (⟨S_, .f32⟩ : BufTy).Contents (Elt F) → (⟨S_, .f32⟩ : BufTy).Contents (Elt F)) (E V main_cst_6) := by
  have ho : (ops (F := F))[31]? = some (StableHlo.unary main_cst_6 main_call0_v1 (id : (⟨S_, .f32⟩ : BufTy).Contents (Elt F) → (⟨S_, .f32⟩ : BufTy).Contents (Elt F))) := by sl_kernel_rfl
  have h := (lined (F := F)).at_unary 31 V ho rfl (by decide)
  exact h

theorem e33 : E V main_call0_v2 = ((broadcastInDim S1x1 ![] bcast_S_S1x1) : (⟨S_, .f32⟩ : BufTy).Contents (Elt F) → (⟨S1x1, .f32⟩ : BufTy).Contents (Elt F)) (E V main_call0_v0) := by
  have ho : (ops (F := F))[32]? = some (StableHlo.unary main_call0_v0 main_call0_v2 ((broadcastInDim S1x1 ![] bcast_S_S1x1) : (⟨S_, .f32⟩ : BufTy).Contents (Elt F) → (⟨S1x1, .f32⟩ : BufTy).Contents (Elt F))) := by sl_kernel_rfl
  have h := (lined (F := F)).at_unary 32 V ho rfl (by decide)
  exact h

theorem e34 : E V main_call0_v3 = ((broadcastInDim S1x1 ![] bcast_S_S1x1) : (⟨S_, .f32⟩ : BufTy).Contents (Elt F) → (⟨S1x1, .f32⟩ : BufTy).Contents (Elt F)) (E V main_call0_v1) := by
  have ho : (ops (F := F))[33]? = some (StableHlo.unary main_call0_v1 main_call0_v3 ((broadcastInDim S1x1 ![] bcast_S_S1x1) : (⟨S_, .f32⟩ : BufTy).Contents (Elt F) → (⟨S1x1, .f32⟩ : BufTy).Contents (Elt F))) := by sl_kernel_rfl
  have h := (lined (F := F)).at_unary 33 V ho rfl (by decide)
  exact h

theorem e35 : E V main_call0_v4 = ((extractStridedSlice S1 ![0] · slices_S2_S1_0) : (⟨S2, .i32⟩ : BufTy).Contents (Elt F) → (⟨S1, .i32⟩ : BufTy).Contents (Elt F)) (E V main_v20) := by
  have ho : (ops (F := F))[34]? = some (StableHlo.unary main_v20 main_call0_v4 ((extractStridedSlice S1 ![0] · slices_S2_S1_0) : (⟨S2, .i32⟩ : BufTy).Contents (Elt F) → (⟨S1, .i32⟩ : BufTy).Contents (Elt F))) := by sl_kernel_rfl
  have h := (lined (F := F)).at_unary 34 V ho rfl (by decide)
  exact h

theorem e36 : E V main_call0_v5 = shapeCast S_ (E V main_call0_v4 : (⟨S1, .i32⟩ : BufTy).Contents (Elt F)) shapeCasts_S1_S_ := by
  have ho : (ops (F := F))[35]? = some (StableHlo.reshape main_call0_v4 main_call0_v5 (rfl : (.i32 : EltTy) = .i32) shapeCasts_S1_S_) := by sl_kernel_rfl
  have h := (lined (F := F)).at_reshape 35 V ho rfl (by decide)
  exact h

theorem e37 : E V main_call0_v6 = ((extractStridedSlice S1 ![1] · slices_S2_S1_1) : (⟨S2, .i32⟩ : BufTy).Contents (Elt F) → (⟨S1, .i32⟩ : BufTy).Contents (Elt F)) (E V main_v20) := by
  have ho : (ops (F := F))[36]? = some (StableHlo.unary main_v20 main_call0_v6 ((extractStridedSlice S1 ![1] · slices_S2_S1_1) : (⟨S2, .i32⟩ : BufTy).Contents (Elt F) → (⟨S1, .i32⟩ : BufTy).Contents (Elt F))) := by sl_kernel_rfl
  have h := (lined (F := F)).at_unary 36 V ho rfl (by decide)
  exact h

theorem e38 : E V main_call0_v7 = shapeCast S_ (E V main_call0_v6 : (⟨S1, .i32⟩ : BufTy).Contents (Elt F)) shapeCasts_S1_S_ := by
  have ho : (ops (F := F))[37]? = some (StableHlo.reshape main_call0_v6 main_call0_v7 (rfl : (.i32 : EltTy) = .i32) shapeCasts_S1_S_) := by sl_kernel_rfl
  have h := (lined (F := F)).at_reshape 37 V ho rfl (by decide)
  exact h

theorem e39 : E V main_call0_v8 = ((iotaInDim S512x100000 64 0) : (⟨S512x100000, .i64⟩ : BufTy).Contents (Elt F)) := by
  have ho : (ops (F := F))[38]? = some (StableHlo.nullary main_call0_v8 ((iotaInDim S512x100000 64 0) : (⟨S512x100000, .i64⟩ : BufTy).Contents (Elt F))) := by sl_kernel_rfl
  have h := (lined (F := F)).at_nullary 38 V ho rfl
  exact h

theorem e40 : E V main_call0_v9 = ((iotaInDim S512x100000 64 1) : (⟨S512x100000, .i64⟩ : BufTy).Contents (Elt F)) := by
  have ho : (ops (F := F))[39]? = some (StableHlo.nullary main_call0_v9 ((iotaInDim S512x100000 64 1) : (⟨S512x100000, .i64⟩ : BufTy).Contents (Elt F))) := by sl_kernel_rfl
  have h := (lined (F := F)).at_nullary 39 V ho rfl
  exact h

theorem e41 : E V main_call0_c = ((constantI S_ 64 100000#64) : (⟨S_, .i64⟩ : BufTy).Contents (Elt F)) := by
  have ho : (ops (F := F))[40]? = some (StableHlo.nullary main_call0_c ((constantI S_ 64 100000#64) : (⟨S_, .i64⟩ : BufTy).Contents (Elt F))) := by sl_kernel_rfl
  have h := (lined (F := F)).at_nullary 40 V ho rfl
  exact h

theorem e42 : E V main_call0_v10 = ((broadcastInDim S512x100000 ![] bcast_S_S512x100000) : (⟨S_, .i64⟩ : BufTy).Contents (Elt F) → (⟨S512x100000, .i64⟩ : BufTy).Contents (Elt F)) (E V main_call0_c) := by
  have ho : (ops (F := F))[41]? = some (StableHlo.unary main_call0_c main_call0_v10 ((broadcastInDim S512x100000 ![] bcast_S_S512x100000) : (⟨S_, .i64⟩ : BufTy).Contents (Elt F) → (⟨S512x100000, .i64⟩ : BufTy).Contents (Elt F))) := by sl_kernel_rfl
  have h := (lined (F := F)).at_unary 41 V ho rfl (by decide)
  exact h

theorem e43 : E V main_call0_v11 = (muli : (⟨S512x100000, .i64⟩ : BufTy).Contents (Elt F) → (⟨S512x100000, .i64⟩ : BufTy).Contents (Elt F) → (⟨S512x100000, .i64⟩ : BufTy).Contents (Elt F)) (E V main_call0_v10) (E V main_call0_v8) := by
  have ho : (ops (F := F))[42]? = some (StableHlo.binary main_call0_v10 main_call0_v8 main_call0_v11 (muli : (⟨S512x100000, .i64⟩ : BufTy).Contents (Elt F) → (⟨S512x100000, .i64⟩ : BufTy).Contents (Elt F) → (⟨S512x100000, .i64⟩ : BufTy).Contents (Elt F))) := by sl_kernel_rfl
  have h := (lined (F := F)).at_binary 42 V ho rfl (by decide) (by decide)
  exact h

theorem e44 : E V main_call0_c_0 = ((constantI S_ 64 1#64) : (⟨S_, .i64⟩ : BufTy).Contents (Elt F)) := by
  have ho : (ops (F := F))[43]? = some (StableHlo.nullary main_call0_c_0 ((constantI S_ 64 1#64) : (⟨S_, .i64⟩ : BufTy).Contents (Elt F))) := by sl_kernel_rfl
  have h := (lined (F := F)).at_nullary 43 V ho rfl
  exact h

theorem e45 : E V main_call0_v12 = ((broadcastInDim S512x100000 ![] bcast_S_S512x100000) : (⟨S_, .i64⟩ : BufTy).Contents (Elt F) → (⟨S512x100000, .i64⟩ : BufTy).Contents (Elt F)) (E V main_call0_c_0) := by
  have ho : (ops (F := F))[44]? = some (StableHlo.unary main_call0_c_0 main_call0_v12 ((broadcastInDim S512x100000 ![] bcast_S_S512x100000) : (⟨S_, .i64⟩ : BufTy).Contents (Elt F) → (⟨S512x100000, .i64⟩ : BufTy).Contents (Elt F))) := by sl_kernel_rfl
  have h := (lined (F := F)).at_unary 44 V ho rfl (by decide)
  exact h

theorem e46 : E V main_call0_v13 = (muli : (⟨S512x100000, .i64⟩ : BufTy).Contents (Elt F) → (⟨S512x100000, .i64⟩ : BufTy).Contents (Elt F) → (⟨S512x100000, .i64⟩ : BufTy).Contents (Elt F)) (E V main_call0_v12) (E V main_call0_v9) := by
  have ho : (ops (F := F))[45]? = some (StableHlo.binary main_call0_v12 main_call0_v9 main_call0_v13 (muli : (⟨S512x100000, .i64⟩ : BufTy).Contents (Elt F) → (⟨S512x100000, .i64⟩ : BufTy).Contents (Elt F) → (⟨S512x100000, .i64⟩ : BufTy).Contents (Elt F))) := by sl_kernel_rfl
  have h := (lined (F := F)).at_binary 45 V ho rfl (by decide) (by decide)
  exact h

theorem e47 : E V main_call0_v14 = (addi : (⟨S512x100000, .i64⟩ : BufTy).Contents (Elt F) → (⟨S512x100000, .i64⟩ : BufTy).Contents (Elt F) → (⟨S512x100000, .i64⟩ : BufTy).Contents (Elt F)) (E V main_call0_v11) (E V main_call0_v13) := by
  have ho : (ops (F := F))[46]? = some (StableHlo.binary main_call0_v11 main_call0_v13 main_call0_v14 (addi : (⟨S512x100000, .i64⟩ : BufTy).Contents (Elt F) → (⟨S512x100000, .i64⟩ : BufTy).Contents (Elt F) → (⟨S512x100000, .i64⟩ : BufTy).Contents (Elt F))) := by sl_kernel_rfl
  have h := (lined (F := F)).at_binary 46 V ho rfl (by decide) (by decide)
  exact h

theorem e48 : E V main_call0_c_1 = ((constantI S_ 64 32#64) : (⟨S_, .i64⟩ : BufTy).Contents (Elt F)) := by
  have ho : (ops (F := F))[47]? = some (StableHlo.nullary main_call0_c_1 ((constantI S_ 64 32#64) : (⟨S_, .i64⟩ : BufTy).Contents (Elt F))) := by sl_kernel_rfl
  have h := (lined (F := F)).at_nullary 47 V ho rfl
  exact h

theorem e49 : E V main_call0_v15 = ((broadcastInDim S512x100000 ![] bcast_S_S512x100000) : (⟨S_, .i64⟩ : BufTy).Contents (Elt F) → (⟨S512x100000, .i64⟩ : BufTy).Contents (Elt F)) (E V main_call0_c_1) := by
  have ho : (ops (F := F))[48]? = some (StableHlo.unary main_call0_c_1 main_call0_v15 ((broadcastInDim S512x100000 ![] bcast_S_S512x100000) : (⟨S_, .i64⟩ : BufTy).Contents (Elt F) → (⟨S512x100000, .i64⟩ : BufTy).Contents (Elt F))) := by sl_kernel_rfl
  have h := (lined (F := F)).at_unary 48 V ho rfl (by decide)
  exact h

theorem e50 : E V main_call0_v16 = (Host.shrui : (⟨S512x100000, .i64⟩ : BufTy).Contents (Elt F) → (⟨S512x100000, .i64⟩ : BufTy).Contents (Elt F) → (⟨S512x100000, .i64⟩ : BufTy).Contents (Elt F)) (E V main_call0_v14) (E V main_call0_v15) := by
  have ho : (ops (F := F))[49]? = some (StableHlo.binary main_call0_v14 main_call0_v15 main_call0_v16 (Host.shrui : (⟨S512x100000, .i64⟩ : BufTy).Contents (Elt F) → (⟨S512x100000, .i64⟩ : BufTy).Contents (Elt F) → (⟨S512x100000, .i64⟩ : BufTy).Contents (Elt F))) := by sl_kernel_rfl
  have h := (lined (F := F)).at_binary 49 V ho rfl (by decide) (by decide)
  exact h

theorem e51 : E V main_call0_v17 = ((trunci 32 · natLt_32_64) : (⟨S512x100000, .i64⟩ : BufTy).Contents (Elt F) → (⟨S512x100000, .i32⟩ : BufTy).Contents (Elt F)) (E V main_call0_v14) := by
  have ho : (ops (F := F))[50]? = some (StableHlo.unary main_call0_v14 main_call0_v17 ((trunci 32 · natLt_32_64) : (⟨S512x100000, .i64⟩ : BufTy).Contents (Elt F) → (⟨S512x100000, .i32⟩ : BufTy).Contents (Elt F))) := by sl_kernel_rfl
  have h := (lined (F := F)).at_unary 50 V ho rfl (by decide)
  exact h

theorem e52 : E V main_call0_v18 = ((trunci 32 · natLt_32_64) : (⟨S512x100000, .i64⟩ : BufTy).Contents (Elt F) → (⟨S512x100000, .i32⟩ : BufTy).Contents (Elt F)) (E V main_call0_v16) := by
  have ho : (ops (F := F))[51]? = some (StableHlo.unary main_call0_v16 main_call0_v18 ((trunci 32 · natLt_32_64) : (⟨S512x100000, .i64⟩ : BufTy).Contents (Elt F) → (⟨S512x100000, .i32⟩ : BufTy).Contents (Elt F))) := by sl_kernel_rfl
  have h := (lined (F := F)).at_unary 51 V ho rfl (by decide)
  exact h

theorem e53 : E V main_call0_call0_v0 = (xori : (⟨S_, .i32⟩ : BufTy).Contents (Elt F) → (⟨S_, .i32⟩ : BufTy).Contents (Elt F) → (⟨S_, .i32⟩ : BufTy).Contents (Elt F)) (E V main_call0_v5) (E V main_call0_v7) := by
  have ho : (ops (F := F))[52]? = some (StableHlo.binary main_call0_v5 main_call0_v7 main_call0_call0_v0 (xori : (⟨S_, .i32⟩ : BufTy).Contents (Elt F) → (⟨S_, .i32⟩ : BufTy).Contents (Elt F) → (⟨S_, .i32⟩ : BufTy).Contents (Elt F))) := by sl_kernel_rfl
  have h := (lined (F := F)).at_binary 52 V ho rfl (by decide) (by decide)
  exact h

theorem e54 : E V main_call0_call0_c = ((constantI S_ 32 466688986#32) : (⟨S_, .i32⟩ : BufTy).Contents (Elt F)) := by
  have ho : (ops (F := F))[53]? = some (StableHlo.nullary main_call0_call0_c ((constantI S_ 32 466688986#32) : (⟨S_, .i32⟩ : BufTy).Contents (Elt F))) := by sl_kernel_rfl
  have h := (lined (F := F)).at_nullary 53 V ho rfl
  exact h

theorem e55 : E V main_call0_call0_v1 = (xori : (⟨S_, .i32⟩ : BufTy).Contents (Elt F) → (⟨S_, .i32⟩ : BufTy).Contents (Elt F) → (⟨S_, .i32⟩ : BufTy).Contents (Elt F)) (E V main_call0_call0_v0) (E V main_call0_call0_c) := by
  have ho : (ops (F := F))[54]? = some (StableHlo.binary main_call0_call0_v0 main_call0_call0_c main_call0_call0_v1 (xori : (⟨S_, .i32⟩ : BufTy).Contents (Elt F) → (⟨S_, .i32⟩ : BufTy).Contents (Elt F) → (⟨S_, .i32⟩ : BufTy).Contents (Elt F))) := by sl_kernel_rfl
  have h := (lined (F := F)).at_binary 54 V ho rfl (by decide) (by decide)
  exact h

theorem e56 : E V main_call0_call0_v2 = ((broadcastInDim S512x100000 ![] bcast_S_S512x100000) : (⟨S_, .i32⟩ : BufTy).Contents (Elt F) → (⟨S512x100000, .i32⟩ : BufTy).Contents (Elt F)) (E V main_call0_v5) := by
  have ho : (ops (F := F))[55]? = some (StableHlo.unary main_call0_v5 main_call0_call0_v2 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 55 V ho rfl (by decide)
  exact h

theorem e57 : E V main_call0_call0_v3 = (addi : (⟨S512x100000, .i32⟩ : BufTy).Contents (Elt F) → (⟨S512x100000, .i32⟩ : BufTy).Contents (Elt F) → (⟨S512x100000, .i32⟩ : BufTy).Contents (Elt F)) (E V main_call0_v18) (E V main_call0_call0_v2) := by
  have ho : (ops (F := F))[56]? = some (StableHlo.binary main_call0_v18 main_call0_call0_v2 main_call0_call0_v3 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 56 V ho rfl (by decide) (by decide)
  exact h

theorem e58 : E V main_call0_call0_v4 = ((broadcastInDim S512x100000 ![] bcast_S_S512x100000) : (⟨S_, .i32⟩ : BufTy).Contents (Elt F) → (⟨S512x100000, .i32⟩ : BufTy).Contents (Elt F)) (E V main_call0_v7) := by
  have ho : (ops (F := F))[57]? = some (StableHlo.unary main_call0_v7 main_call0_call0_v4 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 57 V ho rfl (by decide)
  exact h

theorem e59 : E V main_call0_call0_v5 = (addi : (⟨S512x100000, .i32⟩ : BufTy).Contents (Elt F) → (⟨S512x100000, .i32⟩ : BufTy).Contents (Elt F) → (⟨S512x100000, .i32⟩ : BufTy).Contents (Elt F)) (E V main_call0_v17) (E V main_call0_call0_v4) := by
  have ho : (ops (F := F))[58]? = some (StableHlo.binary main_call0_v17 main_call0_call0_v4 main_call0_call0_v5 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 58 V ho rfl (by decide) (by decide)
  exact h

theorem e60 : E V main_call0_call0_v6 = (addi : (⟨S512x100000, .i32⟩ : BufTy).Contents (Elt F) → (⟨S512x100000, .i32⟩ : BufTy).Contents (Elt F) → (⟨S512x100000, .i32⟩ : BufTy).Contents (Elt F)) (E V main_call0_call0_v3) (E V main_call0_call0_v5) := by
  have ho : (ops (F := F))[59]? = some (StableHlo.binary main_call0_call0_v3 main_call0_call0_v5 main_call0_call0_v6 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 59 V ho rfl (by decide) (by decide)
  exact h

theorem e61 : E V main_call0_call0_c_0 = ((constantI S_ 32 13#32) : (⟨S_, .i32⟩ : BufTy).Contents (Elt F)) := by
  have ho : (ops (F := F))[60]? = some (StableHlo.nullary main_call0_call0_c_0 ((constantI S_ 32 13#32) : (⟨S_, .i32⟩ : BufTy).Contents (Elt F))) := by sl_kernel_rfl
  have h := (lined (F := F)).at_nullary 60 V ho rfl
  exact h

theorem e62 : E V main_call0_call0_v7 = ((broadcastInDim S512x100000 ![] bcast_S_S512x100000) : (⟨S_, .i32⟩ : BufTy).Contents (Elt F) → (⟨S512x100000, .i32⟩ : BufTy).Contents (Elt F)) (E V main_call0_call0_c_0) := by
  have ho : (ops (F := F))[61]? = some (StableHlo.unary main_call0_call0_c_0 main_call0_call0_v7 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 61 V ho rfl (by decide)
  exact h

theorem e63 : E V main_call0_call0_v8 = (Host.shli : (⟨S512x100000, .i32⟩ : BufTy).Contents (Elt F) → (⟨S512x100000, .i32⟩ : BufTy).Contents (Elt F) → (⟨S512x100000, .i32⟩ : BufTy).Contents (Elt F)) (E V main_call0_call0_v5) (E V main_call0_call0_v7) := by
  have ho : (ops (F := F))[62]? = some (StableHlo.binary main_call0_call0_v5 main_call0_call0_v7 main_call0_call0_v8 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 62 V ho rfl (by decide) (by decide)
  exact h

theorem e64 : E V main_call0_call0_c_1 = ((constantI S_ 32 19#32) : (⟨S_, .i32⟩ : BufTy).Contents (Elt F)) := by
  have ho : (ops (F := F))[63]? = some (StableHlo.nullary main_call0_call0_c_1 ((constantI S_ 32 19#32) : (⟨S_, .i32⟩ : BufTy).Contents (Elt F))) := by sl_kernel_rfl
  have h := (lined (F := F)).at_nullary 63 V ho rfl
  exact h

theorem e65 : E V main_call0_call0_v9 = ((broadcastInDim S512x100000 ![] bcast_S_S512x100000) : (⟨S_, .i32⟩ : BufTy).Contents (Elt F) → (⟨S512x100000, .i32⟩ : BufTy).Contents (Elt F)) (E V main_call0_call0_c_1) := by
  have ho : (ops (F := F))[64]? = some (StableHlo.unary main_call0_call0_c_1 main_call0_call0_v9 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 64 V ho rfl (by decide)
  exact h

theorem e66 : E V main_call0_call0_v10 = (Host.shrui : (⟨S512x100000, .i32⟩ : BufTy).Contents (Elt F) → (⟨S512x100000, .i32⟩ : BufTy).Contents (Elt F) → (⟨S512x100000, .i32⟩ : BufTy).Contents (Elt F)) (E V main_call0_call0_v5) (E V main_call0_call0_v9) := by
  have ho : (ops (F := F))[65]? = some (StableHlo.binary main_call0_call0_v5 main_call0_call0_v9 main_call0_call0_v10 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 65 V ho rfl (by decide) (by decide)
  exact h

theorem e67 : E V main_call0_call0_v11 = (ori : (⟨S512x100000, .i32⟩ : BufTy).Contents (Elt F) → (⟨S512x100000, .i32⟩ : BufTy).Contents (Elt F) → (⟨S512x100000, .i32⟩ : BufTy).Contents (Elt F)) (E V main_call0_call0_v8) (E V main_call0_call0_v10) := by
  have ho : (ops (F := F))[66]? = some (StableHlo.binary main_call0_call0_v8 main_call0_call0_v10 main_call0_call0_v11 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 66 V ho rfl (by decide) (by decide)
  exact h

theorem e68 : E V main_call0_call0_v12 = (xori : (⟨S512x100000, .i32⟩ : BufTy).Contents (Elt F) → (⟨S512x100000, .i32⟩ : BufTy).Contents (Elt F) → (⟨S512x100000, .i32⟩ : BufTy).Contents (Elt F)) (E V main_call0_call0_v6) (E V main_call0_call0_v11) := by
  have ho : (ops (F := F))[67]? = some (StableHlo.binary main_call0_call0_v6 main_call0_call0_v11 main_call0_call0_v12 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 67 V ho rfl (by decide) (by decide)
  exact h

theorem e69 : E V main_call0_call0_v13 = (addi : (⟨S512x100000, .i32⟩ : BufTy).Contents (Elt F) → (⟨S512x100000, .i32⟩ : BufTy).Contents (Elt F) → (⟨S512x100000, .i32⟩ : BufTy).Contents (Elt F)) (E V main_call0_call0_v6) (E V main_call0_call0_v12) := by
  have ho : (ops (F := F))[68]? = some (StableHlo.binary main_call0_call0_v6 main_call0_call0_v12 main_call0_call0_v13 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 68 V ho rfl (by decide) (by decide)
  exact h

theorem e70 : E V main_call0_call0_c_2 = ((constantI S_ 32 15#32) : (⟨S_, .i32⟩ : BufTy).Contents (Elt F)) := by
  have ho : (ops (F := F))[69]? = some (StableHlo.nullary main_call0_call0_c_2 ((constantI S_ 32 15#32) : (⟨S_, .i32⟩ : BufTy).Contents (Elt F))) := by sl_kernel_rfl
  have h := (lined (F := F)).at_nullary 69 V ho rfl
  exact h

theorem e71 : E V main_call0_call0_v14 = ((broadcastInDim S512x100000 ![] bcast_S_S512x100000) : (⟨S_, .i32⟩ : BufTy).Contents (Elt F) → (⟨S512x100000, .i32⟩ : BufTy).Contents (Elt F)) (E V main_call0_call0_c_2) := by
  have ho : (ops (F := F))[70]? = some (StableHlo.unary main_call0_call0_c_2 main_call0_call0_v14 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 70 V ho rfl (by decide)
  exact h

theorem e72 : E V main_call0_call0_v15 = (Host.shli : (⟨S512x100000, .i32⟩ : BufTy).Contents (Elt F) → (⟨S512x100000, .i32⟩ : BufTy).Contents (Elt F) → (⟨S512x100000, .i32⟩ : BufTy).Contents (Elt F)) (E V main_call0_call0_v12) (E V main_call0_call0_v14) := by
  have ho : (ops (F := F))[71]? = some (StableHlo.binary main_call0_call0_v12 main_call0_call0_v14 main_call0_call0_v15 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 71 V ho rfl (by decide) (by decide)
  exact h

theorem e73 : E V main_call0_call0_c_3 = ((constantI S_ 32 17#32) : (⟨S_, .i32⟩ : BufTy).Contents (Elt F)) := by
  have ho : (ops (F := F))[72]? = some (StableHlo.nullary main_call0_call0_c_3 ((constantI S_ 32 17#32) : (⟨S_, .i32⟩ : BufTy).Contents (Elt F))) := by sl_kernel_rfl
  have h := (lined (F := F)).at_nullary 72 V ho rfl
  exact h

theorem e74 : E V main_call0_call0_v16 = ((broadcastInDim S512x100000 ![] bcast_S_S512x100000) : (⟨S_, .i32⟩ : BufTy).Contents (Elt F) → (⟨S512x100000, .i32⟩ : BufTy).Contents (Elt F)) (E V main_call0_call0_c_3) := by
  have ho : (ops (F := F))[73]? = some (StableHlo.unary main_call0_call0_c_3 main_call0_call0_v16 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 73 V ho rfl (by decide)
  exact h

theorem e75 : E V main_call0_call0_v17 = (Host.shrui : (⟨S512x100000, .i32⟩ : BufTy).Contents (Elt F) → (⟨S512x100000, .i32⟩ : BufTy).Contents (Elt F) → (⟨S512x100000, .i32⟩ : BufTy).Contents (Elt F)) (E V main_call0_call0_v12) (E V main_call0_call0_v16) := by
  have ho : (ops (F := F))[74]? = some (StableHlo.binary main_call0_call0_v12 main_call0_call0_v16 main_call0_call0_v17 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 74 V ho rfl (by decide) (by decide)
  exact h

theorem e76 : E V main_call0_call0_v18 = (ori : (⟨S512x100000, .i32⟩ : BufTy).Contents (Elt F) → (⟨S512x100000, .i32⟩ : BufTy).Contents (Elt F) → (⟨S512x100000, .i32⟩ : BufTy).Contents (Elt F)) (E V main_call0_call0_v15) (E V main_call0_call0_v17) := by
  have ho : (ops (F := F))[75]? = some (StableHlo.binary main_call0_call0_v15 main_call0_call0_v17 main_call0_call0_v18 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 75 V ho rfl (by decide) (by decide)
  exact h

theorem e77 : E V main_call0_call0_v19 = (xori : (⟨S512x100000, .i32⟩ : BufTy).Contents (Elt F) → (⟨S512x100000, .i32⟩ : BufTy).Contents (Elt F) → (⟨S512x100000, .i32⟩ : BufTy).Contents (Elt F)) (E V main_call0_call0_v13) (E V main_call0_call0_v18) := by
  have ho : (ops (F := F))[76]? = some (StableHlo.binary main_call0_call0_v13 main_call0_call0_v18 main_call0_call0_v19 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 76 V ho rfl (by decide) (by decide)
  exact h

end Cert.Sampling.Ref
-- ==== Proof.RefEqs1.lean ====
/-
  What the buffers of the reference hold after its run: operations 77 to 153, an equation each.
-/
module

public import proofs.«01_k».proof.ReferenceIdeal
public import proofs.«01_k».proof.Proof.Line
public import Idealize.ShloMosaic.Lib.Tactic
public import proofs.«01_k».proof.Proof.RefOps

@[expose] public section

set_option maxRecDepth 100000

noncomputable section

namespace Cert.Sampling.Ref

open Idealize.ShloMosaic Idealize.ShloMosaic.StableHlo Idealize.SL.Sem Cert.ReferenceIdeal
open Cert.ReferenceIdeal.Facts₀ Cert.ReferenceIdeal.Facts

variable {F : FTy → Type} [FloatOps F] [Cert.ReferenceIdeal.Facts]

variable (V : Valuation τ sig (Elt F))

theorem e78 : E V main_call0_call0_v20 = (addi : (⟨S512x100000, .i32⟩ : BufTy).Contents (Elt F) → (⟨S512x100000, .i32⟩ : BufTy).Contents (Elt F) → (⟨S512x100000, .i32⟩ : BufTy).Contents (Elt F)) (E V main_call0_call0_v13) (E V main_call0_call0_v19) := by
  have ho : (ops (F := F))[77]? = some (StableHlo.binary main_call0_call0_v13 main_call0_call0_v19 main_call0_call0_v20 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 77 V ho rfl (by decide) (by decide)
  exact h

theorem e79 : E V main_call0_call0_c_4 = ((constantI S_ 32 26#32) : (⟨S_, .i32⟩ : BufTy).Contents (Elt F)) := by
  have ho : (ops (F := F))[78]? = some (StableHlo.nullary main_call0_call0_c_4 ((constantI S_ 32 26#32) : (⟨S_, .i32⟩ : BufTy).Contents (Elt F))) := by sl_kernel_rfl
  have h := (lined (F := F)).at_nullary 78 V ho rfl
  exact h

theorem e80 : E V main_call0_call0_v21 = ((broadcastInDim S512x100000 ![] bcast_S_S512x100000) : (⟨S_, .i32⟩ : BufTy).Contents (Elt F) → (⟨S512x100000, .i32⟩ : BufTy).Contents (Elt F)) (E V main_call0_call0_c_4) := by
  have ho : (ops (F := F))[79]? = some (StableHlo.unary main_call0_call0_c_4 main_call0_call0_v21 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 79 V ho rfl (by decide)
  exact h

theorem e81 : E V main_call0_call0_v22 = (Host.shli : (⟨S512x100000, .i32⟩ : BufTy).Contents (Elt F) → (⟨S512x100000, .i32⟩ : BufTy).Contents (Elt F) → (⟨S512x100000, .i32⟩ : BufTy).Contents (Elt F)) (E V main_call0_call0_v19) (E V main_call0_call0_v21) := by
  have ho : (ops (F := F))[80]? = some (StableHlo.binary main_call0_call0_v19 main_call0_call0_v21 main_call0_call0_v22 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 80 V ho rfl (by decide) (by decide)
  exact h

theorem e82 : E V main_call0_call0_c_5 = ((constantI S_ 32 6#32) : (⟨S_, .i32⟩ : BufTy).Contents (Elt F)) := by
  have ho : (ops (F := F))[81]? = some (StableHlo.nullary main_call0_call0_c_5 ((constantI S_ 32 6#32) : (⟨S_, .i32⟩ : BufTy).Contents (Elt F))) := by sl_kernel_rfl
  have h := (lined (F := F)).at_nullary 81 V ho rfl
  exact h

theorem e83 : E V main_call0_call0_v23 = ((broadcastInDim S512x100000 ![] bcast_S_S512x100000) : (⟨S_, .i32⟩ : BufTy).Contents (Elt F) → (⟨S512x100000, .i32⟩ : BufTy).Contents (Elt F)) (E V main_call0_call0_c_5) := by
  have ho : (ops (F := F))[82]? = some (StableHlo.unary main_call0_call0_c_5 main_call0_call0_v23 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 82 V ho rfl (by decide)
  exact h

theorem e84 : E V main_call0_call0_v24 = (Host.shrui : (⟨S512x100000, .i32⟩ : BufTy).Contents (Elt F) → (⟨S512x100000, .i32⟩ : BufTy).Contents (Elt F) → (⟨S512x100000, .i32⟩ : BufTy).Contents (Elt F)) (E V main_call0_call0_v19) (E V main_call0_call0_v23) := by
  have ho : (ops (F := F))[83]? = some (StableHlo.binary main_call0_call0_v19 main_call0_call0_v23 main_call0_call0_v24 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 83 V ho rfl (by decide) (by decide)
  exact h

theorem e85 : E V main_call0_call0_v25 = (ori : (⟨S512x100000, .i32⟩ : BufTy).Contents (Elt F) → (⟨S512x100000, .i32⟩ : BufTy).Contents (Elt F) → (⟨S512x100000, .i32⟩ : BufTy).Contents (Elt F)) (E V main_call0_call0_v22) (E V main_call0_call0_v24) := by
  have ho : (ops (F := F))[84]? = some (StableHlo.binary main_call0_call0_v22 main_call0_call0_v24 main_call0_call0_v25 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 84 V ho rfl (by decide) (by decide)
  exact h

theorem e86 : E V main_call0_call0_v26 = (xori : (⟨S512x100000, .i32⟩ : BufTy).Contents (Elt F) → (⟨S512x100000, .i32⟩ : BufTy).Contents (Elt F) → (⟨S512x100000, .i32⟩ : BufTy).Contents (Elt F)) (E V main_call0_call0_v20) (E V main_call0_call0_v25) := by
  have ho : (ops (F := F))[85]? = some (StableHlo.binary main_call0_call0_v20 main_call0_call0_v25 main_call0_call0_v26 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 85 V ho rfl (by decide) (by decide)
  exact h

theorem e87 : E V main_call0_call0_v27 = (addi : (⟨S512x100000, .i32⟩ : BufTy).Contents (Elt F) → (⟨S512x100000, .i32⟩ : BufTy).Contents (Elt F) → (⟨S512x100000, .i32⟩ : BufTy).Contents (Elt F)) (E V main_call0_call0_v20) (E V main_call0_call0_v26) := by
  have ho : (ops (F := F))[86]? = some (StableHlo.binary main_call0_call0_v20 main_call0_call0_v26 main_call0_call0_v27 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 86 V ho rfl (by decide) (by decide)
  exact h

theorem e88 : E V main_call0_call0_c_6 = ((constantI S_ 32 6#32) : (⟨S_, .i32⟩ : BufTy).Contents (Elt F)) := by
  have ho : (ops (F := F))[87]? = some (StableHlo.nullary main_call0_call0_c_6 ((constantI S_ 32 6#32) : (⟨S_, .i32⟩ : BufTy).Contents (Elt F))) := by sl_kernel_rfl
  have h := (lined (F := F)).at_nullary 87 V ho rfl
  exact h

theorem e89 : E V main_call0_call0_v28 = ((broadcastInDim S512x100000 ![] bcast_S_S512x100000) : (⟨S_, .i32⟩ : BufTy).Contents (Elt F) → (⟨S512x100000, .i32⟩ : BufTy).Contents (Elt F)) (E V main_call0_call0_c_6) := by
  have ho : (ops (F := F))[88]? = some (StableHlo.unary main_call0_call0_c_6 main_call0_call0_v28 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 88 V ho rfl (by decide)
  exact h

theorem e90 : E V main_call0_call0_v29 = (Host.shli : (⟨S512x100000, .i32⟩ : BufTy).Contents (Elt F) → (⟨S512x100000, .i32⟩ : BufTy).Contents (Elt F) → (⟨S512x100000, .i32⟩ : BufTy).Contents (Elt F)) (E V main_call0_call0_v26) (E V main_call0_call0_v28) := by
  have ho : (ops (F := F))[89]? = some (StableHlo.binary main_call0_call0_v26 main_call0_call0_v28 main_call0_call0_v29 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 89 V ho rfl (by decide) (by decide)
  exact h

theorem e91 : E V main_call0_call0_c_7 = ((constantI S_ 32 26#32) : (⟨S_, .i32⟩ : BufTy).Contents (Elt F)) := by
  have ho : (ops (F := F))[90]? = some (StableHlo.nullary main_call0_call0_c_7 ((constantI S_ 32 26#32) : (⟨S_, .i32⟩ : BufTy).Contents (Elt F))) := by sl_kernel_rfl
  have h := (lined (F := F)).at_nullary 90 V ho rfl
  exact h

theorem e92 : E V main_call0_call0_v30 = ((broadcastInDim S512x100000 ![] bcast_S_S512x100000) : (⟨S_, .i32⟩ : BufTy).Contents (Elt F) → (⟨S512x100000, .i32⟩ : BufTy).Contents (Elt F)) (E V main_call0_call0_c_7) := by
  have ho : (ops (F := F))[91]? = some (StableHlo.unary main_call0_call0_c_7 main_call0_call0_v30 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 91 V ho rfl (by decide)
  exact h

theorem e93 : E V main_call0_call0_v31 = (Host.shrui : (⟨S512x100000, .i32⟩ : BufTy).Contents (Elt F) → (⟨S512x100000, .i32⟩ : BufTy).Contents (Elt F) → (⟨S512x100000, .i32⟩ : BufTy).Contents (Elt F)) (E V main_call0_call0_v26) (E V main_call0_call0_v30) := by
  have ho : (ops (F := F))[92]? = some (StableHlo.binary main_call0_call0_v26 main_call0_call0_v30 main_call0_call0_v31 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 92 V ho rfl (by decide) (by decide)
  exact h

theorem e94 : E V main_call0_call0_v32 = (ori : (⟨S512x100000, .i32⟩ : BufTy).Contents (Elt F) → (⟨S512x100000, .i32⟩ : BufTy).Contents (Elt F) → (⟨S512x100000, .i32⟩ : BufTy).Contents (Elt F)) (E V main_call0_call0_v29) (E V main_call0_call0_v31) := by
  have ho : (ops (F := F))[93]? = some (StableHlo.binary main_call0_call0_v29 main_call0_call0_v31 main_call0_call0_v32 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 93 V ho rfl (by decide) (by decide)
  exact h

theorem e95 : E V main_call0_call0_v33 = (xori : (⟨S512x100000, .i32⟩ : BufTy).Contents (Elt F) → (⟨S512x100000, .i32⟩ : BufTy).Contents (Elt F) → (⟨S512x100000, .i32⟩ : BufTy).Contents (Elt F)) (E V main_call0_call0_v27) (E V main_call0_call0_v32) := by
  have ho : (ops (F := F))[94]? = some (StableHlo.binary main_call0_call0_v27 main_call0_call0_v32 main_call0_call0_v33 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 94 V ho rfl (by decide) (by decide)
  exact h

theorem e96 : E V main_call0_call0_v34 = ((broadcastInDim S512x100000 ![] bcast_S_S512x100000) : (⟨S_, .i32⟩ : BufTy).Contents (Elt F) → (⟨S512x100000, .i32⟩ : BufTy).Contents (Elt F)) (E V main_call0_v7) := by
  have ho : (ops (F := F))[95]? = some (StableHlo.unary main_call0_v7 main_call0_call0_v34 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 95 V ho rfl (by decide)
  exact h

theorem e97 : E V main_call0_call0_v35 = (addi : (⟨S512x100000, .i32⟩ : BufTy).Contents (Elt F) → (⟨S512x100000, .i32⟩ : BufTy).Contents (Elt F) → (⟨S512x100000, .i32⟩ : BufTy).Contents (Elt F)) (E V main_call0_call0_v27) (E V main_call0_call0_v34) := by
  have ho : (ops (F := F))[96]? = some (StableHlo.binary main_call0_call0_v27 main_call0_call0_v34 main_call0_call0_v35 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 96 V ho rfl (by decide) (by decide)
  exact h

theorem e98 : E V main_call0_call0_v36 = ((broadcastInDim S512x100000 ![] bcast_S_S512x100000) : (⟨S_, .i32⟩ : BufTy).Contents (Elt F) → (⟨S512x100000, .i32⟩ : BufTy).Contents (Elt F)) (E V main_call0_call0_v1) := by
  have ho : (ops (F := F))[97]? = some (StableHlo.unary main_call0_call0_v1 main_call0_call0_v36 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 97 V ho rfl (by decide)
  exact h

theorem e99 : E V main_call0_call0_v37 = (addi : (⟨S512x100000, .i32⟩ : BufTy).Contents (Elt F) → (⟨S512x100000, .i32⟩ : BufTy).Contents (Elt F) → (⟨S512x100000, .i32⟩ : BufTy).Contents (Elt F)) (E V main_call0_call0_v33) (E V main_call0_call0_v36) := by
  have ho : (ops (F := F))[98]? = some (StableHlo.binary main_call0_call0_v33 main_call0_call0_v36 main_call0_call0_v37 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 98 V ho rfl (by decide) (by decide)
  exact h

theorem e100 : E V main_call0_call0_c_8 = ((constantI S_ 32 1#32) : (⟨S_, .i32⟩ : BufTy).Contents (Elt F)) := by
  have ho : (ops (F := F))[99]? = some (StableHlo.nullary main_call0_call0_c_8 ((constantI S_ 32 1#32) : (⟨S_, .i32⟩ : BufTy).Contents (Elt F))) := by sl_kernel_rfl
  have h := (lined (F := F)).at_nullary 99 V ho rfl
  exact h

theorem e101 : E V main_call0_call0_v38 = ((broadcastInDim S512x100000 ![] bcast_S_S512x100000) : (⟨S_, .i32⟩ : BufTy).Contents (Elt F) → (⟨S512x100000, .i32⟩ : BufTy).Contents (Elt F)) (E V main_call0_call0_c_8) := by
  have ho : (ops (F := F))[100]? = some (StableHlo.unary main_call0_call0_c_8 main_call0_call0_v38 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 100 V ho rfl (by decide)
  exact h

theorem e102 : E V main_call0_call0_v39 = (addi : (⟨S512x100000, .i32⟩ : BufTy).Contents (Elt F) → (⟨S512x100000, .i32⟩ : BufTy).Contents (Elt F) → (⟨S512x100000, .i32⟩ : BufTy).Contents (Elt F)) (E V main_call0_call0_v37) (E V main_call0_call0_v38) := by
  have ho : (ops (F := F))[101]? = some (StableHlo.binary main_call0_call0_v37 main_call0_call0_v38 main_call0_call0_v39 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 101 V ho rfl (by decide) (by decide)
  exact h

theorem e103 : E V main_call0_call0_v40 = (addi : (⟨S512x100000, .i32⟩ : BufTy).Contents (Elt F) → (⟨S512x100000, .i32⟩ : BufTy).Contents (Elt F) → (⟨S512x100000, .i32⟩ : BufTy).Contents (Elt F)) (E V main_call0_call0_v35) (E V main_call0_call0_v39) := by
  have ho : (ops (F := F))[102]? = some (StableHlo.binary main_call0_call0_v35 main_call0_call0_v39 main_call0_call0_v40 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 102 V ho rfl (by decide) (by decide)
  exact h

theorem e104 : E V main_call0_call0_c_9 = ((constantI S_ 32 17#32) : (⟨S_, .i32⟩ : BufTy).Contents (Elt F)) := by
  have ho : (ops (F := F))[103]? = some (StableHlo.nullary main_call0_call0_c_9 ((constantI S_ 32 17#32) : (⟨S_, .i32⟩ : BufTy).Contents (Elt F))) := by sl_kernel_rfl
  have h := (lined (F := F)).at_nullary 103 V ho rfl
  exact h

theorem e105 : E V main_call0_call0_v41 = ((broadcastInDim S512x100000 ![] bcast_S_S512x100000) : (⟨S_, .i32⟩ : BufTy).Contents (Elt F) → (⟨S512x100000, .i32⟩ : BufTy).Contents (Elt F)) (E V main_call0_call0_c_9) := by
  have ho : (ops (F := F))[104]? = some (StableHlo.unary main_call0_call0_c_9 main_call0_call0_v41 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 104 V ho rfl (by decide)
  exact h

theorem e106 : E V main_call0_call0_v42 = (Host.shli : (⟨S512x100000, .i32⟩ : BufTy).Contents (Elt F) → (⟨S512x100000, .i32⟩ : BufTy).Contents (Elt F) → (⟨S512x100000, .i32⟩ : BufTy).Contents (Elt F)) (E V main_call0_call0_v39) (E V main_call0_call0_v41) := by
  have ho : (ops (F := F))[105]? = some (StableHlo.binary main_call0_call0_v39 main_call0_call0_v41 main_call0_call0_v42 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 105 V ho rfl (by decide) (by decide)
  exact h

theorem e107 : E V main_call0_call0_c_10 = ((constantI S_ 32 15#32) : (⟨S_, .i32⟩ : BufTy).Contents (Elt F)) := by
  have ho : (ops (F := F))[106]? = some (StableHlo.nullary main_call0_call0_c_10 ((constantI S_ 32 15#32) : (⟨S_, .i32⟩ : BufTy).Contents (Elt F))) := by sl_kernel_rfl
  have h := (lined (F := F)).at_nullary 106 V ho rfl
  exact h

theorem e108 : E V main_call0_call0_v43 = ((broadcastInDim S512x100000 ![] bcast_S_S512x100000) : (⟨S_, .i32⟩ : BufTy).Contents (Elt F) → (⟨S512x100000, .i32⟩ : BufTy).Contents (Elt F)) (E V main_call0_call0_c_10) := by
  have ho : (ops (F := F))[107]? = some (StableHlo.unary main_call0_call0_c_10 main_call0_call0_v43 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 107 V ho rfl (by decide)
  exact h

theorem e109 : E V main_call0_call0_v44 = (Host.shrui : (⟨S512x100000, .i32⟩ : BufTy).Contents (Elt F) → (⟨S512x100000, .i32⟩ : BufTy).Contents (Elt F) → (⟨S512x100000, .i32⟩ : BufTy).Contents (Elt F)) (E V main_call0_call0_v39) (E V main_call0_call0_v43) := by
  have ho : (ops (F := F))[108]? = some (StableHlo.binary main_call0_call0_v39 main_call0_call0_v43 main_call0_call0_v44 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 108 V ho rfl (by decide) (by decide)
  exact h

theorem e110 : E V main_call0_call0_v45 = (ori : (⟨S512x100000, .i32⟩ : BufTy).Contents (Elt F) → (⟨S512x100000, .i32⟩ : BufTy).Contents (Elt F) → (⟨S512x100000, .i32⟩ : BufTy).Contents (Elt F)) (E V main_call0_call0_v42) (E V main_call0_call0_v44) := by
  have ho : (ops (F := F))[109]? = some (StableHlo.binary main_call0_call0_v42 main_call0_call0_v44 main_call0_call0_v45 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 109 V ho rfl (by decide) (by decide)
  exact h

theorem e111 : E V main_call0_call0_v46 = (xori : (⟨S512x100000, .i32⟩ : BufTy).Contents (Elt F) → (⟨S512x100000, .i32⟩ : BufTy).Contents (Elt F) → (⟨S512x100000, .i32⟩ : BufTy).Contents (Elt F)) (E V main_call0_call0_v40) (E V main_call0_call0_v45) := by
  have ho : (ops (F := F))[110]? = some (StableHlo.binary main_call0_call0_v40 main_call0_call0_v45 main_call0_call0_v46 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 110 V ho rfl (by decide) (by decide)
  exact h

theorem e112 : E V main_call0_call0_v47 = (addi : (⟨S512x100000, .i32⟩ : BufTy).Contents (Elt F) → (⟨S512x100000, .i32⟩ : BufTy).Contents (Elt F) → (⟨S512x100000, .i32⟩ : BufTy).Contents (Elt F)) (E V main_call0_call0_v40) (E V main_call0_call0_v46) := by
  have ho : (ops (F := F))[111]? = some (StableHlo.binary main_call0_call0_v40 main_call0_call0_v46 main_call0_call0_v47 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 111 V ho rfl (by decide) (by decide)
  exact h

theorem e113 : E V main_call0_call0_c_11 = ((constantI S_ 32 29#32) : (⟨S_, .i32⟩ : BufTy).Contents (Elt F)) := by
  have ho : (ops (F := F))[112]? = some (StableHlo.nullary main_call0_call0_c_11 ((constantI S_ 32 29#32) : (⟨S_, .i32⟩ : BufTy).Contents (Elt F))) := by sl_kernel_rfl
  have h := (lined (F := F)).at_nullary 112 V ho rfl
  exact h

theorem e114 : E V main_call0_call0_v48 = ((broadcastInDim S512x100000 ![] bcast_S_S512x100000) : (⟨S_, .i32⟩ : BufTy).Contents (Elt F) → (⟨S512x100000, .i32⟩ : BufTy).Contents (Elt F)) (E V main_call0_call0_c_11) := by
  have ho : (ops (F := F))[113]? = some (StableHlo.unary main_call0_call0_c_11 main_call0_call0_v48 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 113 V ho rfl (by decide)
  exact h

theorem e115 : E V main_call0_call0_v49 = (Host.shli : (⟨S512x100000, .i32⟩ : BufTy).Contents (Elt F) → (⟨S512x100000, .i32⟩ : BufTy).Contents (Elt F) → (⟨S512x100000, .i32⟩ : BufTy).Contents (Elt F)) (E V main_call0_call0_v46) (E V main_call0_call0_v48) := by
  have ho : (ops (F := F))[114]? = some (StableHlo.binary main_call0_call0_v46 main_call0_call0_v48 main_call0_call0_v49 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 114 V ho rfl (by decide) (by decide)
  exact h

theorem e116 : E V main_call0_call0_c_12 = ((constantI S_ 32 3#32) : (⟨S_, .i32⟩ : BufTy).Contents (Elt F)) := by
  have ho : (ops (F := F))[115]? = some (StableHlo.nullary main_call0_call0_c_12 ((constantI S_ 32 3#32) : (⟨S_, .i32⟩ : BufTy).Contents (Elt F))) := by sl_kernel_rfl
  have h := (lined (F := F)).at_nullary 115 V ho rfl
  exact h

theorem e117 : E V main_call0_call0_v50 = ((broadcastInDim S512x100000 ![] bcast_S_S512x100000) : (⟨S_, .i32⟩ : BufTy).Contents (Elt F) → (⟨S512x100000, .i32⟩ : BufTy).Contents (Elt F)) (E V main_call0_call0_c_12) := by
  have ho : (ops (F := F))[116]? = some (StableHlo.unary main_call0_call0_c_12 main_call0_call0_v50 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 116 V ho rfl (by decide)
  exact h

theorem e118 : E V main_call0_call0_v51 = (Host.shrui : (⟨S512x100000, .i32⟩ : BufTy).Contents (Elt F) → (⟨S512x100000, .i32⟩ : BufTy).Contents (Elt F) → (⟨S512x100000, .i32⟩ : BufTy).Contents (Elt F)) (E V main_call0_call0_v46) (E V main_call0_call0_v50) := by
  have ho : (ops (F := F))[117]? = some (StableHlo.binary main_call0_call0_v46 main_call0_call0_v50 main_call0_call0_v51 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 117 V ho rfl (by decide) (by decide)
  exact h

theorem e119 : E V main_call0_call0_v52 = (ori : (⟨S512x100000, .i32⟩ : BufTy).Contents (Elt F) → (⟨S512x100000, .i32⟩ : BufTy).Contents (Elt F) → (⟨S512x100000, .i32⟩ : BufTy).Contents (Elt F)) (E V main_call0_call0_v49) (E V main_call0_call0_v51) := by
  have ho : (ops (F := F))[118]? = some (StableHlo.binary main_call0_call0_v49 main_call0_call0_v51 main_call0_call0_v52 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 118 V ho rfl (by decide) (by decide)
  exact h

theorem e120 : E V main_call0_call0_v53 = (xori : (⟨S512x100000, .i32⟩ : BufTy).Contents (Elt F) → (⟨S512x100000, .i32⟩ : BufTy).Contents (Elt F) → (⟨S512x100000, .i32⟩ : BufTy).Contents (Elt F)) (E V main_call0_call0_v47) (E V main_call0_call0_v52) := by
  have ho : (ops (F := F))[119]? = some (StableHlo.binary main_call0_call0_v47 main_call0_call0_v52 main_call0_call0_v53 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 119 V ho rfl (by decide) (by decide)
  exact h

theorem e121 : E V main_call0_call0_v54 = (addi : (⟨S512x100000, .i32⟩ : BufTy).Contents (Elt F) → (⟨S512x100000, .i32⟩ : BufTy).Contents (Elt F) → (⟨S512x100000, .i32⟩ : BufTy).Contents (Elt F)) (E V main_call0_call0_v47) (E V main_call0_call0_v53) := by
  have ho : (ops (F := F))[120]? = some (StableHlo.binary main_call0_call0_v47 main_call0_call0_v53 main_call0_call0_v54 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 120 V ho rfl (by decide) (by decide)
  exact h

theorem e122 : E V main_call0_call0_c_13 = ((constantI S_ 32 16#32) : (⟨S_, .i32⟩ : BufTy).Contents (Elt F)) := by
  have ho : (ops (F := F))[121]? = some (StableHlo.nullary main_call0_call0_c_13 ((constantI S_ 32 16#32) : (⟨S_, .i32⟩ : BufTy).Contents (Elt F))) := by sl_kernel_rfl
  have h := (lined (F := F)).at_nullary 121 V ho rfl
  exact h

theorem e123 : E V main_call0_call0_v55 = ((broadcastInDim S512x100000 ![] bcast_S_S512x100000) : (⟨S_, .i32⟩ : BufTy).Contents (Elt F) → (⟨S512x100000, .i32⟩ : BufTy).Contents (Elt F)) (E V main_call0_call0_c_13) := by
  have ho : (ops (F := F))[122]? = some (StableHlo.unary main_call0_call0_c_13 main_call0_call0_v55 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 122 V ho rfl (by decide)
  exact h

theorem e124 : E V main_call0_call0_v56 = (Host.shli : (⟨S512x100000, .i32⟩ : BufTy).Contents (Elt F) → (⟨S512x100000, .i32⟩ : BufTy).Contents (Elt F) → (⟨S512x100000, .i32⟩ : BufTy).Contents (Elt F)) (E V main_call0_call0_v53) (E V main_call0_call0_v55) := by
  have ho : (ops (F := F))[123]? = some (StableHlo.binary main_call0_call0_v53 main_call0_call0_v55 main_call0_call0_v56 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 123 V ho rfl (by decide) (by decide)
  exact h

theorem e125 : E V main_call0_call0_c_14 = ((constantI S_ 32 16#32) : (⟨S_, .i32⟩ : BufTy).Contents (Elt F)) := by
  have ho : (ops (F := F))[124]? = some (StableHlo.nullary main_call0_call0_c_14 ((constantI S_ 32 16#32) : (⟨S_, .i32⟩ : BufTy).Contents (Elt F))) := by sl_kernel_rfl
  have h := (lined (F := F)).at_nullary 124 V ho rfl
  exact h

theorem e126 : E V main_call0_call0_v57 = ((broadcastInDim S512x100000 ![] bcast_S_S512x100000) : (⟨S_, .i32⟩ : BufTy).Contents (Elt F) → (⟨S512x100000, .i32⟩ : BufTy).Contents (Elt F)) (E V main_call0_call0_c_14) := by
  have ho : (ops (F := F))[125]? = some (StableHlo.unary main_call0_call0_c_14 main_call0_call0_v57 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 125 V ho rfl (by decide)
  exact h

theorem e127 : E V main_call0_call0_v58 = (Host.shrui : (⟨S512x100000, .i32⟩ : BufTy).Contents (Elt F) → (⟨S512x100000, .i32⟩ : BufTy).Contents (Elt F) → (⟨S512x100000, .i32⟩ : BufTy).Contents (Elt F)) (E V main_call0_call0_v53) (E V main_call0_call0_v57) := by
  have ho : (ops (F := F))[126]? = some (StableHlo.binary main_call0_call0_v53 main_call0_call0_v57 main_call0_call0_v58 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 126 V ho rfl (by decide) (by decide)
  exact h

theorem e128 : E V main_call0_call0_v59 = (ori : (⟨S512x100000, .i32⟩ : BufTy).Contents (Elt F) → (⟨S512x100000, .i32⟩ : BufTy).Contents (Elt F) → (⟨S512x100000, .i32⟩ : BufTy).Contents (Elt F)) (E V main_call0_call0_v56) (E V main_call0_call0_v58) := by
  have ho : (ops (F := F))[127]? = some (StableHlo.binary main_call0_call0_v56 main_call0_call0_v58 main_call0_call0_v59 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 127 V ho rfl (by decide) (by decide)
  exact h

theorem e129 : E V main_call0_call0_v60 = (xori : (⟨S512x100000, .i32⟩ : BufTy).Contents (Elt F) → (⟨S512x100000, .i32⟩ : BufTy).Contents (Elt F) → (⟨S512x100000, .i32⟩ : BufTy).Contents (Elt F)) (E V main_call0_call0_v54) (E V main_call0_call0_v59) := by
  have ho : (ops (F := F))[128]? = some (StableHlo.binary main_call0_call0_v54 main_call0_call0_v59 main_call0_call0_v60 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 128 V ho rfl (by decide) (by decide)
  exact h

theorem e130 : E V main_call0_call0_v61 = (addi : (⟨S512x100000, .i32⟩ : BufTy).Contents (Elt F) → (⟨S512x100000, .i32⟩ : BufTy).Contents (Elt F) → (⟨S512x100000, .i32⟩ : BufTy).Contents (Elt F)) (E V main_call0_call0_v54) (E V main_call0_call0_v60) := by
  have ho : (ops (F := F))[129]? = some (StableHlo.binary main_call0_call0_v54 main_call0_call0_v60 main_call0_call0_v61 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 129 V ho rfl (by decide) (by decide)
  exact h

theorem e131 : E V main_call0_call0_c_15 = ((constantI S_ 32 24#32) : (⟨S_, .i32⟩ : BufTy).Contents (Elt F)) := by
  have ho : (ops (F := F))[130]? = some (StableHlo.nullary main_call0_call0_c_15 ((constantI S_ 32 24#32) : (⟨S_, .i32⟩ : BufTy).Contents (Elt F))) := by sl_kernel_rfl
  have h := (lined (F := F)).at_nullary 130 V ho rfl
  exact h

theorem e132 : E V main_call0_call0_v62 = ((broadcastInDim S512x100000 ![] bcast_S_S512x100000) : (⟨S_, .i32⟩ : BufTy).Contents (Elt F) → (⟨S512x100000, .i32⟩ : BufTy).Contents (Elt F)) (E V main_call0_call0_c_15) := by
  have ho : (ops (F := F))[131]? = some (StableHlo.unary main_call0_call0_c_15 main_call0_call0_v62 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 131 V ho rfl (by decide)
  exact h

theorem e133 : E V main_call0_call0_v63 = (Host.shli : (⟨S512x100000, .i32⟩ : BufTy).Contents (Elt F) → (⟨S512x100000, .i32⟩ : BufTy).Contents (Elt F) → (⟨S512x100000, .i32⟩ : BufTy).Contents (Elt F)) (E V main_call0_call0_v60) (E V main_call0_call0_v62) := by
  have ho : (ops (F := F))[132]? = some (StableHlo.binary main_call0_call0_v60 main_call0_call0_v62 main_call0_call0_v63 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 132 V ho rfl (by decide) (by decide)
  exact h

theorem e134 : E V main_call0_call0_c_16 = ((constantI S_ 32 8#32) : (⟨S_, .i32⟩ : BufTy).Contents (Elt F)) := by
  have ho : (ops (F := F))[133]? = some (StableHlo.nullary main_call0_call0_c_16 ((constantI S_ 32 8#32) : (⟨S_, .i32⟩ : BufTy).Contents (Elt F))) := by sl_kernel_rfl
  have h := (lined (F := F)).at_nullary 133 V ho rfl
  exact h

theorem e135 : E V main_call0_call0_v64 = ((broadcastInDim S512x100000 ![] bcast_S_S512x100000) : (⟨S_, .i32⟩ : BufTy).Contents (Elt F) → (⟨S512x100000, .i32⟩ : BufTy).Contents (Elt F)) (E V main_call0_call0_c_16) := by
  have ho : (ops (F := F))[134]? = some (StableHlo.unary main_call0_call0_c_16 main_call0_call0_v64 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 134 V ho rfl (by decide)
  exact h

theorem e136 : E V main_call0_call0_v65 = (Host.shrui : (⟨S512x100000, .i32⟩ : BufTy).Contents (Elt F) → (⟨S512x100000, .i32⟩ : BufTy).Contents (Elt F) → (⟨S512x100000, .i32⟩ : BufTy).Contents (Elt F)) (E V main_call0_call0_v60) (E V main_call0_call0_v64) := by
  have ho : (ops (F := F))[135]? = some (StableHlo.binary main_call0_call0_v60 main_call0_call0_v64 main_call0_call0_v65 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 135 V ho rfl (by decide) (by decide)
  exact h

theorem e137 : E V main_call0_call0_v66 = (ori : (⟨S512x100000, .i32⟩ : BufTy).Contents (Elt F) → (⟨S512x100000, .i32⟩ : BufTy).Contents (Elt F) → (⟨S512x100000, .i32⟩ : BufTy).Contents (Elt F)) (E V main_call0_call0_v63) (E V main_call0_call0_v65) := by
  have ho : (ops (F := F))[136]? = some (StableHlo.binary main_call0_call0_v63 main_call0_call0_v65 main_call0_call0_v66 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 136 V ho rfl (by decide) (by decide)
  exact h

theorem e138 : E V main_call0_call0_v67 = (xori : (⟨S512x100000, .i32⟩ : BufTy).Contents (Elt F) → (⟨S512x100000, .i32⟩ : BufTy).Contents (Elt F) → (⟨S512x100000, .i32⟩ : BufTy).Contents (Elt F)) (E V main_call0_call0_v61) (E V main_call0_call0_v66) := by
  have ho : (ops (F := F))[137]? = some (StableHlo.binary main_call0_call0_v61 main_call0_call0_v66 main_call0_call0_v67 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 137 V ho rfl (by decide) (by decide)
  exact h

theorem e139 : E V main_call0_call0_v68 = ((broadcastInDim S512x100000 ![] bcast_S_S512x100000) : (⟨S_, .i32⟩ : BufTy).Contents (Elt F) → (⟨S512x100000, .i32⟩ : BufTy).Contents (Elt F)) (E V main_call0_call0_v1) := by
  have ho : (ops (F := F))[138]? = some (StableHlo.unary main_call0_call0_v1 main_call0_call0_v68 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 138 V ho rfl (by decide)
  exact h

theorem e140 : E V main_call0_call0_v69 = (addi : (⟨S512x100000, .i32⟩ : BufTy).Contents (Elt F) → (⟨S512x100000, .i32⟩ : BufTy).Contents (Elt F) → (⟨S512x100000, .i32⟩ : BufTy).Contents (Elt F)) (E V main_call0_call0_v61) (E V main_call0_call0_v68) := by
  have ho : (ops (F := F))[139]? = some (StableHlo.binary main_call0_call0_v61 main_call0_call0_v68 main_call0_call0_v69 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 139 V ho rfl (by decide) (by decide)
  exact h

theorem e141 : E V main_call0_call0_v70 = ((broadcastInDim S512x100000 ![] bcast_S_S512x100000) : (⟨S_, .i32⟩ : BufTy).Contents (Elt F) → (⟨S512x100000, .i32⟩ : BufTy).Contents (Elt F)) (E V main_call0_v5) := by
  have ho : (ops (F := F))[140]? = some (StableHlo.unary main_call0_v5 main_call0_call0_v70 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 140 V ho rfl (by decide)
  exact h

theorem e142 : E V main_call0_call0_v71 = (addi : (⟨S512x100000, .i32⟩ : BufTy).Contents (Elt F) → (⟨S512x100000, .i32⟩ : BufTy).Contents (Elt F) → (⟨S512x100000, .i32⟩ : BufTy).Contents (Elt F)) (E V main_call0_call0_v67) (E V main_call0_call0_v70) := by
  have ho : (ops (F := F))[141]? = some (StableHlo.binary main_call0_call0_v67 main_call0_call0_v70 main_call0_call0_v71 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 141 V ho rfl (by decide) (by decide)
  exact h

theorem e143 : E V main_call0_call0_c_17 = ((constantI S_ 32 2#32) : (⟨S_, .i32⟩ : BufTy).Contents (Elt F)) := by
  have ho : (ops (F := F))[142]? = some (StableHlo.nullary main_call0_call0_c_17 ((constantI S_ 32 2#32) : (⟨S_, .i32⟩ : BufTy).Contents (Elt F))) := by sl_kernel_rfl
  have h := (lined (F := F)).at_nullary 142 V ho rfl
  exact h

theorem e144 : E V main_call0_call0_v72 = ((broadcastInDim S512x100000 ![] bcast_S_S512x100000) : (⟨S_, .i32⟩ : BufTy).Contents (Elt F) → (⟨S512x100000, .i32⟩ : BufTy).Contents (Elt F)) (E V main_call0_call0_c_17) := by
  have ho : (ops (F := F))[143]? = some (StableHlo.unary main_call0_call0_c_17 main_call0_call0_v72 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 143 V ho rfl (by decide)
  exact h

theorem e145 : E V main_call0_call0_v73 = (addi : (⟨S512x100000, .i32⟩ : BufTy).Contents (Elt F) → (⟨S512x100000, .i32⟩ : BufTy).Contents (Elt F) → (⟨S512x100000, .i32⟩ : BufTy).Contents (Elt F)) (E V main_call0_call0_v71) (E V main_call0_call0_v72) := by
  have ho : (ops (F := F))[144]? = some (StableHlo.binary main_call0_call0_v71 main_call0_call0_v72 main_call0_call0_v73 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 144 V ho rfl (by decide) (by decide)
  exact h

theorem e146 : E V main_call0_call0_v74 = (addi : (⟨S512x100000, .i32⟩ : BufTy).Contents (Elt F) → (⟨S512x100000, .i32⟩ : BufTy).Contents (Elt F) → (⟨S512x100000, .i32⟩ : BufTy).Contents (Elt F)) (E V main_call0_call0_v69) (E V main_call0_call0_v73) := by
  have ho : (ops (F := F))[145]? = some (StableHlo.binary main_call0_call0_v69 main_call0_call0_v73 main_call0_call0_v74 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 145 V ho rfl (by decide) (by decide)
  exact h

theorem e147 : E V main_call0_call0_c_18 = ((constantI S_ 32 13#32) : (⟨S_, .i32⟩ : BufTy).Contents (Elt F)) := by
  have ho : (ops (F := F))[146]? = some (StableHlo.nullary main_call0_call0_c_18 ((constantI S_ 32 13#32) : (⟨S_, .i32⟩ : BufTy).Contents (Elt F))) := by sl_kernel_rfl
  have h := (lined (F := F)).at_nullary 146 V ho rfl
  exact h

theorem e148 : E V main_call0_call0_v75 = ((broadcastInDim S512x100000 ![] bcast_S_S512x100000) : (⟨S_, .i32⟩ : BufTy).Contents (Elt F) → (⟨S512x100000, .i32⟩ : BufTy).Contents (Elt F)) (E V main_call0_call0_c_18) := by
  have ho : (ops (F := F))[147]? = some (StableHlo.unary main_call0_call0_c_18 main_call0_call0_v75 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 147 V ho rfl (by decide)
  exact h

theorem e149 : E V main_call0_call0_v76 = (Host.shli : (⟨S512x100000, .i32⟩ : BufTy).Contents (Elt F) → (⟨S512x100000, .i32⟩ : BufTy).Contents (Elt F) → (⟨S512x100000, .i32⟩ : BufTy).Contents (Elt F)) (E V main_call0_call0_v73) (E V main_call0_call0_v75) := by
  have ho : (ops (F := F))[148]? = some (StableHlo.binary main_call0_call0_v73 main_call0_call0_v75 main_call0_call0_v76 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 148 V ho rfl (by decide) (by decide)
  exact h

theorem e150 : E V main_call0_call0_c_19 = ((constantI S_ 32 19#32) : (⟨S_, .i32⟩ : BufTy).Contents (Elt F)) := by
  have ho : (ops (F := F))[149]? = some (StableHlo.nullary main_call0_call0_c_19 ((constantI S_ 32 19#32) : (⟨S_, .i32⟩ : BufTy).Contents (Elt F))) := by sl_kernel_rfl
  have h := (lined (F := F)).at_nullary 149 V ho rfl
  exact h

theorem e151 : E V main_call0_call0_v77 = ((broadcastInDim S512x100000 ![] bcast_S_S512x100000) : (⟨S_, .i32⟩ : BufTy).Contents (Elt F) → (⟨S512x100000, .i32⟩ : BufTy).Contents (Elt F)) (E V main_call0_call0_c_19) := by
  have ho : (ops (F := F))[150]? = some (StableHlo.unary main_call0_call0_c_19 main_call0_call0_v77 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 150 V ho rfl (by decide)
  exact h

theorem e152 : E V main_call0_call0_v78 = (Host.shrui : (⟨S512x100000, .i32⟩ : BufTy).Contents (Elt F) → (⟨S512x100000, .i32⟩ : BufTy).Contents (Elt F) → (⟨S512x100000, .i32⟩ : BufTy).Contents (Elt F)) (E V main_call0_call0_v73) (E V main_call0_call0_v77) := by
  have ho : (ops (F := F))[151]? = some (StableHlo.binary main_call0_call0_v73 main_call0_call0_v77 main_call0_call0_v78 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 151 V ho rfl (by decide) (by decide)
  exact h

theorem e153 : E V main_call0_call0_v79 = (ori : (⟨S512x100000, .i32⟩ : BufTy).Contents (Elt F) → (⟨S512x100000, .i32⟩ : BufTy).Contents (Elt F) → (⟨S512x100000, .i32⟩ : BufTy).Contents (Elt F)) (E V main_call0_call0_v76) (E V main_call0_call0_v78) := by
  have ho : (ops (F := F))[152]? = some (StableHlo.binary main_call0_call0_v76 main_call0_call0_v78 main_call0_call0_v79 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 152 V ho rfl (by decide) (by decide)
  exact h

theorem e154 : E V main_call0_call0_v80 = (xori : (⟨S512x100000, .i32⟩ : BufTy).Contents (Elt F) → (⟨S512x100000, .i32⟩ : BufTy).Contents (Elt F) → (⟨S512x100000, .i32⟩ : BufTy).Contents (Elt F)) (E V main_call0_call0_v74) (E V main_call0_call0_v79) := by
  have ho : (ops (F := F))[153]? = some (StableHlo.binary main_call0_call0_v74 main_call0_call0_v79 main_call0_call0_v80 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 153 V ho rfl (by decide) (by decide)
  exact h

end Cert.Sampling.Ref
-- ==== Proof.RefEqs2.lean ====
/-
  What the buffers of the reference hold after its run: operations 154 to 230, an equation each.
-/
module

public import proofs.«01_k».proof.ReferenceIdeal
public import proofs.«01_k».proof.Proof.Line
public import Idealize.ShloMosaic.Lib.Tactic
public import proofs.«01_k».proof.Proof.RefOps

@[expose] public section

set_option maxRecDepth 100000

noncomputable section

namespace Cert.Sampling.Ref

open Idealize.ShloMosaic Idealize.ShloMosaic.StableHlo Idealize.SL.Sem Cert.ReferenceIdeal
open Cert.ReferenceIdeal.Facts₀ Cert.ReferenceIdeal.Facts

variable {F : FTy → Type} [FloatOps F] [Cert.ReferenceIdeal.Facts]

variable (V : Valuation τ sig (Elt F))

theorem e155 : E V main_call0_call0_v81 = (addi : (⟨S512x100000, .i32⟩ : BufTy).Contents (Elt F) → (⟨S512x100000, .i32⟩ : BufTy).Contents (Elt F) → (⟨S512x100000, .i32⟩ : BufTy).Contents (Elt F)) (E V main_call0_call0_v74) (E V main_call0_call0_v80) := by
  have ho : (ops (F := F))[154]? = some (StableHlo.binary main_call0_call0_v74 main_call0_call0_v80 main_call0_call0_v81 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 154 V ho rfl (by decide) (by decide)
  exact h

theorem e156 : E V main_call0_call0_c_20 = ((constantI S_ 32 15#32) : (⟨S_, .i32⟩ : BufTy).Contents (Elt F)) := by
  have ho : (ops (F := F))[155]? = some (StableHlo.nullary main_call0_call0_c_20 ((constantI S_ 32 15#32) : (⟨S_, .i32⟩ : BufTy).Contents (Elt F))) := by sl_kernel_rfl
  have h := (lined (F := F)).at_nullary 155 V ho rfl
  exact h

theorem e157 : E V main_call0_call0_v82 = ((broadcastInDim S512x100000 ![] bcast_S_S512x100000) : (⟨S_, .i32⟩ : BufTy).Contents (Elt F) → (⟨S512x100000, .i32⟩ : BufTy).Contents (Elt F)) (E V main_call0_call0_c_20) := by
  have ho : (ops (F := F))[156]? = some (StableHlo.unary main_call0_call0_c_20 main_call0_call0_v82 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 156 V ho rfl (by decide)
  exact h

theorem e158 : E V main_call0_call0_v83 = (Host.shli : (⟨S512x100000, .i32⟩ : BufTy).Contents (Elt F) → (⟨S512x100000, .i32⟩ : BufTy).Contents (Elt F) → (⟨S512x100000, .i32⟩ : BufTy).Contents (Elt F)) (E V main_call0_call0_v80) (E V main_call0_call0_v82) := by
  have ho : (ops (F := F))[157]? = some (StableHlo.binary main_call0_call0_v80 main_call0_call0_v82 main_call0_call0_v83 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 157 V ho rfl (by decide) (by decide)
  exact h

theorem e159 : E V main_call0_call0_c_21 = ((constantI S_ 32 17#32) : (⟨S_, .i32⟩ : BufTy).Contents (Elt F)) := by
  have ho : (ops (F := F))[158]? = some (StableHlo.nullary main_call0_call0_c_21 ((constantI S_ 32 17#32) : (⟨S_, .i32⟩ : BufTy).Contents (Elt F))) := by sl_kernel_rfl
  have h := (lined (F := F)).at_nullary 158 V ho rfl
  exact h

theorem e160 : E V main_call0_call0_v84 = ((broadcastInDim S512x100000 ![] bcast_S_S512x100000) : (⟨S_, .i32⟩ : BufTy).Contents (Elt F) → (⟨S512x100000, .i32⟩ : BufTy).Contents (Elt F)) (E V main_call0_call0_c_21) := by
  have ho : (ops (F := F))[159]? = some (StableHlo.unary main_call0_call0_c_21 main_call0_call0_v84 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 159 V ho rfl (by decide)
  exact h

theorem e161 : E V main_call0_call0_v85 = (Host.shrui : (⟨S512x100000, .i32⟩ : BufTy).Contents (Elt F) → (⟨S512x100000, .i32⟩ : BufTy).Contents (Elt F) → (⟨S512x100000, .i32⟩ : BufTy).Contents (Elt F)) (E V main_call0_call0_v80) (E V main_call0_call0_v84) := by
  have ho : (ops (F := F))[160]? = some (StableHlo.binary main_call0_call0_v80 main_call0_call0_v84 main_call0_call0_v85 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 160 V ho rfl (by decide) (by decide)
  exact h

theorem e162 : E V main_call0_call0_v86 = (ori : (⟨S512x100000, .i32⟩ : BufTy).Contents (Elt F) → (⟨S512x100000, .i32⟩ : BufTy).Contents (Elt F) → (⟨S512x100000, .i32⟩ : BufTy).Contents (Elt F)) (E V main_call0_call0_v83) (E V main_call0_call0_v85) := by
  have ho : (ops (F := F))[161]? = some (StableHlo.binary main_call0_call0_v83 main_call0_call0_v85 main_call0_call0_v86 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 161 V ho rfl (by decide) (by decide)
  exact h

theorem e163 : E V main_call0_call0_v87 = (xori : (⟨S512x100000, .i32⟩ : BufTy).Contents (Elt F) → (⟨S512x100000, .i32⟩ : BufTy).Contents (Elt F) → (⟨S512x100000, .i32⟩ : BufTy).Contents (Elt F)) (E V main_call0_call0_v81) (E V main_call0_call0_v86) := by
  have ho : (ops (F := F))[162]? = some (StableHlo.binary main_call0_call0_v81 main_call0_call0_v86 main_call0_call0_v87 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 162 V ho rfl (by decide) (by decide)
  exact h

theorem e164 : E V main_call0_call0_v88 = (addi : (⟨S512x100000, .i32⟩ : BufTy).Contents (Elt F) → (⟨S512x100000, .i32⟩ : BufTy).Contents (Elt F) → (⟨S512x100000, .i32⟩ : BufTy).Contents (Elt F)) (E V main_call0_call0_v81) (E V main_call0_call0_v87) := by
  have ho : (ops (F := F))[163]? = some (StableHlo.binary main_call0_call0_v81 main_call0_call0_v87 main_call0_call0_v88 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 163 V ho rfl (by decide) (by decide)
  exact h

theorem e165 : E V main_call0_call0_c_22 = ((constantI S_ 32 26#32) : (⟨S_, .i32⟩ : BufTy).Contents (Elt F)) := by
  have ho : (ops (F := F))[164]? = some (StableHlo.nullary main_call0_call0_c_22 ((constantI S_ 32 26#32) : (⟨S_, .i32⟩ : BufTy).Contents (Elt F))) := by sl_kernel_rfl
  have h := (lined (F := F)).at_nullary 164 V ho rfl
  exact h

theorem e166 : E V main_call0_call0_v89 = ((broadcastInDim S512x100000 ![] bcast_S_S512x100000) : (⟨S_, .i32⟩ : BufTy).Contents (Elt F) → (⟨S512x100000, .i32⟩ : BufTy).Contents (Elt F)) (E V main_call0_call0_c_22) := by
  have ho : (ops (F := F))[165]? = some (StableHlo.unary main_call0_call0_c_22 main_call0_call0_v89 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 165 V ho rfl (by decide)
  exact h

theorem e167 : E V main_call0_call0_v90 = (Host.shli : (⟨S512x100000, .i32⟩ : BufTy).Contents (Elt F) → (⟨S512x100000, .i32⟩ : BufTy).Contents (Elt F) → (⟨S512x100000, .i32⟩ : BufTy).Contents (Elt F)) (E V main_call0_call0_v87) (E V main_call0_call0_v89) := by
  have ho : (ops (F := F))[166]? = some (StableHlo.binary main_call0_call0_v87 main_call0_call0_v89 main_call0_call0_v90 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 166 V ho rfl (by decide) (by decide)
  exact h

theorem e168 : E V main_call0_call0_c_23 = ((constantI S_ 32 6#32) : (⟨S_, .i32⟩ : BufTy).Contents (Elt F)) := by
  have ho : (ops (F := F))[167]? = some (StableHlo.nullary main_call0_call0_c_23 ((constantI S_ 32 6#32) : (⟨S_, .i32⟩ : BufTy).Contents (Elt F))) := by sl_kernel_rfl
  have h := (lined (F := F)).at_nullary 167 V ho rfl
  exact h

theorem e169 : E V main_call0_call0_v91 = ((broadcastInDim S512x100000 ![] bcast_S_S512x100000) : (⟨S_, .i32⟩ : BufTy).Contents (Elt F) → (⟨S512x100000, .i32⟩ : BufTy).Contents (Elt F)) (E V main_call0_call0_c_23) := by
  have ho : (ops (F := F))[168]? = some (StableHlo.unary main_call0_call0_c_23 main_call0_call0_v91 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 168 V ho rfl (by decide)
  exact h

theorem e170 : E V main_call0_call0_v92 = (Host.shrui : (⟨S512x100000, .i32⟩ : BufTy).Contents (Elt F) → (⟨S512x100000, .i32⟩ : BufTy).Contents (Elt F) → (⟨S512x100000, .i32⟩ : BufTy).Contents (Elt F)) (E V main_call0_call0_v87) (E V main_call0_call0_v91) := by
  have ho : (ops (F := F))[169]? = some (StableHlo.binary main_call0_call0_v87 main_call0_call0_v91 main_call0_call0_v92 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 169 V ho rfl (by decide) (by decide)
  exact h

theorem e171 : E V main_call0_call0_v93 = (ori : (⟨S512x100000, .i32⟩ : BufTy).Contents (Elt F) → (⟨S512x100000, .i32⟩ : BufTy).Contents (Elt F) → (⟨S512x100000, .i32⟩ : BufTy).Contents (Elt F)) (E V main_call0_call0_v90) (E V main_call0_call0_v92) := by
  have ho : (ops (F := F))[170]? = some (StableHlo.binary main_call0_call0_v90 main_call0_call0_v92 main_call0_call0_v93 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 170 V ho rfl (by decide) (by decide)
  exact h

theorem e172 : E V main_call0_call0_v94 = (xori : (⟨S512x100000, .i32⟩ : BufTy).Contents (Elt F) → (⟨S512x100000, .i32⟩ : BufTy).Contents (Elt F) → (⟨S512x100000, .i32⟩ : BufTy).Contents (Elt F)) (E V main_call0_call0_v88) (E V main_call0_call0_v93) := by
  have ho : (ops (F := F))[171]? = some (StableHlo.binary main_call0_call0_v88 main_call0_call0_v93 main_call0_call0_v94 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 171 V ho rfl (by decide) (by decide)
  exact h

theorem e173 : E V main_call0_call0_v95 = (addi : (⟨S512x100000, .i32⟩ : BufTy).Contents (Elt F) → (⟨S512x100000, .i32⟩ : BufTy).Contents (Elt F) → (⟨S512x100000, .i32⟩ : BufTy).Contents (Elt F)) (E V main_call0_call0_v88) (E V main_call0_call0_v94) := by
  have ho : (ops (F := F))[172]? = some (StableHlo.binary main_call0_call0_v88 main_call0_call0_v94 main_call0_call0_v95 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 172 V ho rfl (by decide) (by decide)
  exact h

theorem e174 : E V main_call0_call0_c_24 = ((constantI S_ 32 6#32) : (⟨S_, .i32⟩ : BufTy).Contents (Elt F)) := by
  have ho : (ops (F := F))[173]? = some (StableHlo.nullary main_call0_call0_c_24 ((constantI S_ 32 6#32) : (⟨S_, .i32⟩ : BufTy).Contents (Elt F))) := by sl_kernel_rfl
  have h := (lined (F := F)).at_nullary 173 V ho rfl
  exact h

theorem e175 : E V main_call0_call0_v96 = ((broadcastInDim S512x100000 ![] bcast_S_S512x100000) : (⟨S_, .i32⟩ : BufTy).Contents (Elt F) → (⟨S512x100000, .i32⟩ : BufTy).Contents (Elt F)) (E V main_call0_call0_c_24) := by
  have ho : (ops (F := F))[174]? = some (StableHlo.unary main_call0_call0_c_24 main_call0_call0_v96 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 174 V ho rfl (by decide)
  exact h

theorem e176 : E V main_call0_call0_v97 = (Host.shli : (⟨S512x100000, .i32⟩ : BufTy).Contents (Elt F) → (⟨S512x100000, .i32⟩ : BufTy).Contents (Elt F) → (⟨S512x100000, .i32⟩ : BufTy).Contents (Elt F)) (E V main_call0_call0_v94) (E V main_call0_call0_v96) := by
  have ho : (ops (F := F))[175]? = some (StableHlo.binary main_call0_call0_v94 main_call0_call0_v96 main_call0_call0_v97 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 175 V ho rfl (by decide) (by decide)
  exact h

theorem e177 : E V main_call0_call0_c_25 = ((constantI S_ 32 26#32) : (⟨S_, .i32⟩ : BufTy).Contents (Elt F)) := by
  have ho : (ops (F := F))[176]? = some (StableHlo.nullary main_call0_call0_c_25 ((constantI S_ 32 26#32) : (⟨S_, .i32⟩ : BufTy).Contents (Elt F))) := by sl_kernel_rfl
  have h := (lined (F := F)).at_nullary 176 V ho rfl
  exact h

theorem e178 : E V main_call0_call0_v98 = ((broadcastInDim S512x100000 ![] bcast_S_S512x100000) : (⟨S_, .i32⟩ : BufTy).Contents (Elt F) → (⟨S512x100000, .i32⟩ : BufTy).Contents (Elt F)) (E V main_call0_call0_c_25) := by
  have ho : (ops (F := F))[177]? = some (StableHlo.unary main_call0_call0_c_25 main_call0_call0_v98 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 177 V ho rfl (by decide)
  exact h

theorem e179 : E V main_call0_call0_v99 = (Host.shrui : (⟨S512x100000, .i32⟩ : BufTy).Contents (Elt F) → (⟨S512x100000, .i32⟩ : BufTy).Contents (Elt F) → (⟨S512x100000, .i32⟩ : BufTy).Contents (Elt F)) (E V main_call0_call0_v94) (E V main_call0_call0_v98) := by
  have ho : (ops (F := F))[178]? = some (StableHlo.binary main_call0_call0_v94 main_call0_call0_v98 main_call0_call0_v99 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 178 V ho rfl (by decide) (by decide)
  exact h

theorem e180 : E V main_call0_call0_v100 = (ori : (⟨S512x100000, .i32⟩ : BufTy).Contents (Elt F) → (⟨S512x100000, .i32⟩ : BufTy).Contents (Elt F) → (⟨S512x100000, .i32⟩ : BufTy).Contents (Elt F)) (E V main_call0_call0_v97) (E V main_call0_call0_v99) := by
  have ho : (ops (F := F))[179]? = some (StableHlo.binary main_call0_call0_v97 main_call0_call0_v99 main_call0_call0_v100 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 179 V ho rfl (by decide) (by decide)
  exact h

theorem e181 : E V main_call0_call0_v101 = (xori : (⟨S512x100000, .i32⟩ : BufTy).Contents (Elt F) → (⟨S512x100000, .i32⟩ : BufTy).Contents (Elt F) → (⟨S512x100000, .i32⟩ : BufTy).Contents (Elt F)) (E V main_call0_call0_v95) (E V main_call0_call0_v100) := by
  have ho : (ops (F := F))[180]? = some (StableHlo.binary main_call0_call0_v95 main_call0_call0_v100 main_call0_call0_v101 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 180 V ho rfl (by decide) (by decide)
  exact h

theorem e182 : E V main_call0_call0_v102 = ((broadcastInDim S512x100000 ![] bcast_S_S512x100000) : (⟨S_, .i32⟩ : BufTy).Contents (Elt F) → (⟨S512x100000, .i32⟩ : BufTy).Contents (Elt F)) (E V main_call0_v5) := by
  have ho : (ops (F := F))[181]? = some (StableHlo.unary main_call0_v5 main_call0_call0_v102 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 181 V ho rfl (by decide)
  exact h

theorem e183 : E V main_call0_call0_v103 = (addi : (⟨S512x100000, .i32⟩ : BufTy).Contents (Elt F) → (⟨S512x100000, .i32⟩ : BufTy).Contents (Elt F) → (⟨S512x100000, .i32⟩ : BufTy).Contents (Elt F)) (E V main_call0_call0_v95) (E V main_call0_call0_v102) := by
  have ho : (ops (F := F))[182]? = some (StableHlo.binary main_call0_call0_v95 main_call0_call0_v102 main_call0_call0_v103 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 182 V ho rfl (by decide) (by decide)
  exact h

theorem e184 : E V main_call0_call0_v104 = ((broadcastInDim S512x100000 ![] bcast_S_S512x100000) : (⟨S_, .i32⟩ : BufTy).Contents (Elt F) → (⟨S512x100000, .i32⟩ : BufTy).Contents (Elt F)) (E V main_call0_v7) := by
  have ho : (ops (F := F))[183]? = some (StableHlo.unary main_call0_v7 main_call0_call0_v104 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 183 V ho rfl (by decide)
  exact h

theorem e185 : E V main_call0_call0_v105 = (addi : (⟨S512x100000, .i32⟩ : BufTy).Contents (Elt F) → (⟨S512x100000, .i32⟩ : BufTy).Contents (Elt F) → (⟨S512x100000, .i32⟩ : BufTy).Contents (Elt F)) (E V main_call0_call0_v101) (E V main_call0_call0_v104) := by
  have ho : (ops (F := F))[184]? = some (StableHlo.binary main_call0_call0_v101 main_call0_call0_v104 main_call0_call0_v105 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 184 V ho rfl (by decide) (by decide)
  exact h

theorem e186 : E V main_call0_call0_c_26 = ((constantI S_ 32 3#32) : (⟨S_, .i32⟩ : BufTy).Contents (Elt F)) := by
  have ho : (ops (F := F))[185]? = some (StableHlo.nullary main_call0_call0_c_26 ((constantI S_ 32 3#32) : (⟨S_, .i32⟩ : BufTy).Contents (Elt F))) := by sl_kernel_rfl
  have h := (lined (F := F)).at_nullary 185 V ho rfl
  exact h

theorem e187 : E V main_call0_call0_v106 = ((broadcastInDim S512x100000 ![] bcast_S_S512x100000) : (⟨S_, .i32⟩ : BufTy).Contents (Elt F) → (⟨S512x100000, .i32⟩ : BufTy).Contents (Elt F)) (E V main_call0_call0_c_26) := by
  have ho : (ops (F := F))[186]? = some (StableHlo.unary main_call0_call0_c_26 main_call0_call0_v106 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 186 V ho rfl (by decide)
  exact h

theorem e188 : E V main_call0_call0_v107 = (addi : (⟨S512x100000, .i32⟩ : BufTy).Contents (Elt F) → (⟨S512x100000, .i32⟩ : BufTy).Contents (Elt F) → (⟨S512x100000, .i32⟩ : BufTy).Contents (Elt F)) (E V main_call0_call0_v105) (E V main_call0_call0_v106) := by
  have ho : (ops (F := F))[187]? = some (StableHlo.binary main_call0_call0_v105 main_call0_call0_v106 main_call0_call0_v107 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 187 V ho rfl (by decide) (by decide)
  exact h

theorem e189 : E V main_call0_call0_v108 = (addi : (⟨S512x100000, .i32⟩ : BufTy).Contents (Elt F) → (⟨S512x100000, .i32⟩ : BufTy).Contents (Elt F) → (⟨S512x100000, .i32⟩ : BufTy).Contents (Elt F)) (E V main_call0_call0_v103) (E V main_call0_call0_v107) := by
  have ho : (ops (F := F))[188]? = some (StableHlo.binary main_call0_call0_v103 main_call0_call0_v107 main_call0_call0_v108 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 188 V ho rfl (by decide) (by decide)
  exact h

theorem e190 : E V main_call0_call0_c_27 = ((constantI S_ 32 17#32) : (⟨S_, .i32⟩ : BufTy).Contents (Elt F)) := by
  have ho : (ops (F := F))[189]? = some (StableHlo.nullary main_call0_call0_c_27 ((constantI S_ 32 17#32) : (⟨S_, .i32⟩ : BufTy).Contents (Elt F))) := by sl_kernel_rfl
  have h := (lined (F := F)).at_nullary 189 V ho rfl
  exact h

theorem e191 : E V main_call0_call0_v109 = ((broadcastInDim S512x100000 ![] bcast_S_S512x100000) : (⟨S_, .i32⟩ : BufTy).Contents (Elt F) → (⟨S512x100000, .i32⟩ : BufTy).Contents (Elt F)) (E V main_call0_call0_c_27) := by
  have ho : (ops (F := F))[190]? = some (StableHlo.unary main_call0_call0_c_27 main_call0_call0_v109 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 190 V ho rfl (by decide)
  exact h

theorem e192 : E V main_call0_call0_v110 = (Host.shli : (⟨S512x100000, .i32⟩ : BufTy).Contents (Elt F) → (⟨S512x100000, .i32⟩ : BufTy).Contents (Elt F) → (⟨S512x100000, .i32⟩ : BufTy).Contents (Elt F)) (E V main_call0_call0_v107) (E V main_call0_call0_v109) := by
  have ho : (ops (F := F))[191]? = some (StableHlo.binary main_call0_call0_v107 main_call0_call0_v109 main_call0_call0_v110 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 191 V ho rfl (by decide) (by decide)
  exact h

theorem e193 : E V main_call0_call0_c_28 = ((constantI S_ 32 15#32) : (⟨S_, .i32⟩ : BufTy).Contents (Elt F)) := by
  have ho : (ops (F := F))[192]? = some (StableHlo.nullary main_call0_call0_c_28 ((constantI S_ 32 15#32) : (⟨S_, .i32⟩ : BufTy).Contents (Elt F))) := by sl_kernel_rfl
  have h := (lined (F := F)).at_nullary 192 V ho rfl
  exact h

theorem e194 : E V main_call0_call0_v111 = ((broadcastInDim S512x100000 ![] bcast_S_S512x100000) : (⟨S_, .i32⟩ : BufTy).Contents (Elt F) → (⟨S512x100000, .i32⟩ : BufTy).Contents (Elt F)) (E V main_call0_call0_c_28) := by
  have ho : (ops (F := F))[193]? = some (StableHlo.unary main_call0_call0_c_28 main_call0_call0_v111 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 193 V ho rfl (by decide)
  exact h

theorem e195 : E V main_call0_call0_v112 = (Host.shrui : (⟨S512x100000, .i32⟩ : BufTy).Contents (Elt F) → (⟨S512x100000, .i32⟩ : BufTy).Contents (Elt F) → (⟨S512x100000, .i32⟩ : BufTy).Contents (Elt F)) (E V main_call0_call0_v107) (E V main_call0_call0_v111) := by
  have ho : (ops (F := F))[194]? = some (StableHlo.binary main_call0_call0_v107 main_call0_call0_v111 main_call0_call0_v112 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 194 V ho rfl (by decide) (by decide)
  exact h

theorem e196 : E V main_call0_call0_v113 = (ori : (⟨S512x100000, .i32⟩ : BufTy).Contents (Elt F) → (⟨S512x100000, .i32⟩ : BufTy).Contents (Elt F) → (⟨S512x100000, .i32⟩ : BufTy).Contents (Elt F)) (E V main_call0_call0_v110) (E V main_call0_call0_v112) := by
  have ho : (ops (F := F))[195]? = some (StableHlo.binary main_call0_call0_v110 main_call0_call0_v112 main_call0_call0_v113 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 195 V ho rfl (by decide) (by decide)
  exact h

theorem e197 : E V main_call0_call0_v114 = (xori : (⟨S512x100000, .i32⟩ : BufTy).Contents (Elt F) → (⟨S512x100000, .i32⟩ : BufTy).Contents (Elt F) → (⟨S512x100000, .i32⟩ : BufTy).Contents (Elt F)) (E V main_call0_call0_v108) (E V main_call0_call0_v113) := by
  have ho : (ops (F := F))[196]? = some (StableHlo.binary main_call0_call0_v108 main_call0_call0_v113 main_call0_call0_v114 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 196 V ho rfl (by decide) (by decide)
  exact h

theorem e198 : E V main_call0_call0_v115 = (addi : (⟨S512x100000, .i32⟩ : BufTy).Contents (Elt F) → (⟨S512x100000, .i32⟩ : BufTy).Contents (Elt F) → (⟨S512x100000, .i32⟩ : BufTy).Contents (Elt F)) (E V main_call0_call0_v108) (E V main_call0_call0_v114) := by
  have ho : (ops (F := F))[197]? = some (StableHlo.binary main_call0_call0_v108 main_call0_call0_v114 main_call0_call0_v115 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 197 V ho rfl (by decide) (by decide)
  exact h

theorem e199 : E V main_call0_call0_c_29 = ((constantI S_ 32 29#32) : (⟨S_, .i32⟩ : BufTy).Contents (Elt F)) := by
  have ho : (ops (F := F))[198]? = some (StableHlo.nullary main_call0_call0_c_29 ((constantI S_ 32 29#32) : (⟨S_, .i32⟩ : BufTy).Contents (Elt F))) := by sl_kernel_rfl
  have h := (lined (F := F)).at_nullary 198 V ho rfl
  exact h

theorem e200 : E V main_call0_call0_v116 = ((broadcastInDim S512x100000 ![] bcast_S_S512x100000) : (⟨S_, .i32⟩ : BufTy).Contents (Elt F) → (⟨S512x100000, .i32⟩ : BufTy).Contents (Elt F)) (E V main_call0_call0_c_29) := by
  have ho : (ops (F := F))[199]? = some (StableHlo.unary main_call0_call0_c_29 main_call0_call0_v116 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 199 V ho rfl (by decide)
  exact h

theorem e201 : E V main_call0_call0_v117 = (Host.shli : (⟨S512x100000, .i32⟩ : BufTy).Contents (Elt F) → (⟨S512x100000, .i32⟩ : BufTy).Contents (Elt F) → (⟨S512x100000, .i32⟩ : BufTy).Contents (Elt F)) (E V main_call0_call0_v114) (E V main_call0_call0_v116) := by
  have ho : (ops (F := F))[200]? = some (StableHlo.binary main_call0_call0_v114 main_call0_call0_v116 main_call0_call0_v117 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 200 V ho rfl (by decide) (by decide)
  exact h

theorem e202 : E V main_call0_call0_c_30 = ((constantI S_ 32 3#32) : (⟨S_, .i32⟩ : BufTy).Contents (Elt F)) := by
  have ho : (ops (F := F))[201]? = some (StableHlo.nullary main_call0_call0_c_30 ((constantI S_ 32 3#32) : (⟨S_, .i32⟩ : BufTy).Contents (Elt F))) := by sl_kernel_rfl
  have h := (lined (F := F)).at_nullary 201 V ho rfl
  exact h

theorem e203 : E V main_call0_call0_v118 = ((broadcastInDim S512x100000 ![] bcast_S_S512x100000) : (⟨S_, .i32⟩ : BufTy).Contents (Elt F) → (⟨S512x100000, .i32⟩ : BufTy).Contents (Elt F)) (E V main_call0_call0_c_30) := by
  have ho : (ops (F := F))[202]? = some (StableHlo.unary main_call0_call0_c_30 main_call0_call0_v118 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 202 V ho rfl (by decide)
  exact h

theorem e204 : E V main_call0_call0_v119 = (Host.shrui : (⟨S512x100000, .i32⟩ : BufTy).Contents (Elt F) → (⟨S512x100000, .i32⟩ : BufTy).Contents (Elt F) → (⟨S512x100000, .i32⟩ : BufTy).Contents (Elt F)) (E V main_call0_call0_v114) (E V main_call0_call0_v118) := by
  have ho : (ops (F := F))[203]? = some (StableHlo.binary main_call0_call0_v114 main_call0_call0_v118 main_call0_call0_v119 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 203 V ho rfl (by decide) (by decide)
  exact h

theorem e205 : E V main_call0_call0_v120 = (ori : (⟨S512x100000, .i32⟩ : BufTy).Contents (Elt F) → (⟨S512x100000, .i32⟩ : BufTy).Contents (Elt F) → (⟨S512x100000, .i32⟩ : BufTy).Contents (Elt F)) (E V main_call0_call0_v117) (E V main_call0_call0_v119) := by
  have ho : (ops (F := F))[204]? = some (StableHlo.binary main_call0_call0_v117 main_call0_call0_v119 main_call0_call0_v120 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 204 V ho rfl (by decide) (by decide)
  exact h

theorem e206 : E V main_call0_call0_v121 = (xori : (⟨S512x100000, .i32⟩ : BufTy).Contents (Elt F) → (⟨S512x100000, .i32⟩ : BufTy).Contents (Elt F) → (⟨S512x100000, .i32⟩ : BufTy).Contents (Elt F)) (E V main_call0_call0_v115) (E V main_call0_call0_v120) := by
  have ho : (ops (F := F))[205]? = some (StableHlo.binary main_call0_call0_v115 main_call0_call0_v120 main_call0_call0_v121 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 205 V ho rfl (by decide) (by decide)
  exact h

theorem e207 : E V main_call0_call0_v122 = (addi : (⟨S512x100000, .i32⟩ : BufTy).Contents (Elt F) → (⟨S512x100000, .i32⟩ : BufTy).Contents (Elt F) → (⟨S512x100000, .i32⟩ : BufTy).Contents (Elt F)) (E V main_call0_call0_v115) (E V main_call0_call0_v121) := by
  have ho : (ops (F := F))[206]? = some (StableHlo.binary main_call0_call0_v115 main_call0_call0_v121 main_call0_call0_v122 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 206 V ho rfl (by decide) (by decide)
  exact h

theorem e208 : E V main_call0_call0_c_31 = ((constantI S_ 32 16#32) : (⟨S_, .i32⟩ : BufTy).Contents (Elt F)) := by
  have ho : (ops (F := F))[207]? = some (StableHlo.nullary main_call0_call0_c_31 ((constantI S_ 32 16#32) : (⟨S_, .i32⟩ : BufTy).Contents (Elt F))) := by sl_kernel_rfl
  have h := (lined (F := F)).at_nullary 207 V ho rfl
  exact h

theorem e209 : E V main_call0_call0_v123 = ((broadcastInDim S512x100000 ![] bcast_S_S512x100000) : (⟨S_, .i32⟩ : BufTy).Contents (Elt F) → (⟨S512x100000, .i32⟩ : BufTy).Contents (Elt F)) (E V main_call0_call0_c_31) := by
  have ho : (ops (F := F))[208]? = some (StableHlo.unary main_call0_call0_c_31 main_call0_call0_v123 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 208 V ho rfl (by decide)
  exact h

theorem e210 : E V main_call0_call0_v124 = (Host.shli : (⟨S512x100000, .i32⟩ : BufTy).Contents (Elt F) → (⟨S512x100000, .i32⟩ : BufTy).Contents (Elt F) → (⟨S512x100000, .i32⟩ : BufTy).Contents (Elt F)) (E V main_call0_call0_v121) (E V main_call0_call0_v123) := by
  have ho : (ops (F := F))[209]? = some (StableHlo.binary main_call0_call0_v121 main_call0_call0_v123 main_call0_call0_v124 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 209 V ho rfl (by decide) (by decide)
  exact h

theorem e211 : E V main_call0_call0_c_32 = ((constantI S_ 32 16#32) : (⟨S_, .i32⟩ : BufTy).Contents (Elt F)) := by
  have ho : (ops (F := F))[210]? = some (StableHlo.nullary main_call0_call0_c_32 ((constantI S_ 32 16#32) : (⟨S_, .i32⟩ : BufTy).Contents (Elt F))) := by sl_kernel_rfl
  have h := (lined (F := F)).at_nullary 210 V ho rfl
  exact h

theorem e212 : E V main_call0_call0_v125 = ((broadcastInDim S512x100000 ![] bcast_S_S512x100000) : (⟨S_, .i32⟩ : BufTy).Contents (Elt F) → (⟨S512x100000, .i32⟩ : BufTy).Contents (Elt F)) (E V main_call0_call0_c_32) := by
  have ho : (ops (F := F))[211]? = some (StableHlo.unary main_call0_call0_c_32 main_call0_call0_v125 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 211 V ho rfl (by decide)
  exact h

theorem e213 : E V main_call0_call0_v126 = (Host.shrui : (⟨S512x100000, .i32⟩ : BufTy).Contents (Elt F) → (⟨S512x100000, .i32⟩ : BufTy).Contents (Elt F) → (⟨S512x100000, .i32⟩ : BufTy).Contents (Elt F)) (E V main_call0_call0_v121) (E V main_call0_call0_v125) := by
  have ho : (ops (F := F))[212]? = some (StableHlo.binary main_call0_call0_v121 main_call0_call0_v125 main_call0_call0_v126 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 212 V ho rfl (by decide) (by decide)
  exact h

theorem e214 : E V main_call0_call0_v127 = (ori : (⟨S512x100000, .i32⟩ : BufTy).Contents (Elt F) → (⟨S512x100000, .i32⟩ : BufTy).Contents (Elt F) → (⟨S512x100000, .i32⟩ : BufTy).Contents (Elt F)) (E V main_call0_call0_v124) (E V main_call0_call0_v126) := by
  have ho : (ops (F := F))[213]? = some (StableHlo.binary main_call0_call0_v124 main_call0_call0_v126 main_call0_call0_v127 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 213 V ho rfl (by decide) (by decide)
  exact h

theorem e215 : E V main_call0_call0_v128 = (xori : (⟨S512x100000, .i32⟩ : BufTy).Contents (Elt F) → (⟨S512x100000, .i32⟩ : BufTy).Contents (Elt F) → (⟨S512x100000, .i32⟩ : BufTy).Contents (Elt F)) (E V main_call0_call0_v122) (E V main_call0_call0_v127) := by
  have ho : (ops (F := F))[214]? = some (StableHlo.binary main_call0_call0_v122 main_call0_call0_v127 main_call0_call0_v128 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 214 V ho rfl (by decide) (by decide)
  exact h

theorem e216 : E V main_call0_call0_v129 = (addi : (⟨S512x100000, .i32⟩ : BufTy).Contents (Elt F) → (⟨S512x100000, .i32⟩ : BufTy).Contents (Elt F) → (⟨S512x100000, .i32⟩ : BufTy).Contents (Elt F)) (E V main_call0_call0_v122) (E V main_call0_call0_v128) := by
  have ho : (ops (F := F))[215]? = some (StableHlo.binary main_call0_call0_v122 main_call0_call0_v128 main_call0_call0_v129 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 215 V ho rfl (by decide) (by decide)
  exact h

theorem e217 : E V main_call0_call0_c_33 = ((constantI S_ 32 24#32) : (⟨S_, .i32⟩ : BufTy).Contents (Elt F)) := by
  have ho : (ops (F := F))[216]? = some (StableHlo.nullary main_call0_call0_c_33 ((constantI S_ 32 24#32) : (⟨S_, .i32⟩ : BufTy).Contents (Elt F))) := by sl_kernel_rfl
  have h := (lined (F := F)).at_nullary 216 V ho rfl
  exact h

theorem e218 : E V main_call0_call0_v130 = ((broadcastInDim S512x100000 ![] bcast_S_S512x100000) : (⟨S_, .i32⟩ : BufTy).Contents (Elt F) → (⟨S512x100000, .i32⟩ : BufTy).Contents (Elt F)) (E V main_call0_call0_c_33) := by
  have ho : (ops (F := F))[217]? = some (StableHlo.unary main_call0_call0_c_33 main_call0_call0_v130 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 217 V ho rfl (by decide)
  exact h

theorem e219 : E V main_call0_call0_v131 = (Host.shli : (⟨S512x100000, .i32⟩ : BufTy).Contents (Elt F) → (⟨S512x100000, .i32⟩ : BufTy).Contents (Elt F) → (⟨S512x100000, .i32⟩ : BufTy).Contents (Elt F)) (E V main_call0_call0_v128) (E V main_call0_call0_v130) := by
  have ho : (ops (F := F))[218]? = some (StableHlo.binary main_call0_call0_v128 main_call0_call0_v130 main_call0_call0_v131 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 218 V ho rfl (by decide) (by decide)
  exact h

theorem e220 : E V main_call0_call0_c_34 = ((constantI S_ 32 8#32) : (⟨S_, .i32⟩ : BufTy).Contents (Elt F)) := by
  have ho : (ops (F := F))[219]? = some (StableHlo.nullary main_call0_call0_c_34 ((constantI S_ 32 8#32) : (⟨S_, .i32⟩ : BufTy).Contents (Elt F))) := by sl_kernel_rfl
  have h := (lined (F := F)).at_nullary 219 V ho rfl
  exact h

theorem e221 : E V main_call0_call0_v132 = ((broadcastInDim S512x100000 ![] bcast_S_S512x100000) : (⟨S_, .i32⟩ : BufTy).Contents (Elt F) → (⟨S512x100000, .i32⟩ : BufTy).Contents (Elt F)) (E V main_call0_call0_c_34) := by
  have ho : (ops (F := F))[220]? = some (StableHlo.unary main_call0_call0_c_34 main_call0_call0_v132 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 220 V ho rfl (by decide)
  exact h

theorem e222 : E V main_call0_call0_v133 = (Host.shrui : (⟨S512x100000, .i32⟩ : BufTy).Contents (Elt F) → (⟨S512x100000, .i32⟩ : BufTy).Contents (Elt F) → (⟨S512x100000, .i32⟩ : BufTy).Contents (Elt F)) (E V main_call0_call0_v128) (E V main_call0_call0_v132) := by
  have ho : (ops (F := F))[221]? = some (StableHlo.binary main_call0_call0_v128 main_call0_call0_v132 main_call0_call0_v133 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 221 V ho rfl (by decide) (by decide)
  exact h

theorem e223 : E V main_call0_call0_v134 = (ori : (⟨S512x100000, .i32⟩ : BufTy).Contents (Elt F) → (⟨S512x100000, .i32⟩ : BufTy).Contents (Elt F) → (⟨S512x100000, .i32⟩ : BufTy).Contents (Elt F)) (E V main_call0_call0_v131) (E V main_call0_call0_v133) := by
  have ho : (ops (F := F))[222]? = some (StableHlo.binary main_call0_call0_v131 main_call0_call0_v133 main_call0_call0_v134 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 222 V ho rfl (by decide) (by decide)
  exact h

theorem e224 : E V main_call0_call0_v135 = (xori : (⟨S512x100000, .i32⟩ : BufTy).Contents (Elt F) → (⟨S512x100000, .i32⟩ : BufTy).Contents (Elt F) → (⟨S512x100000, .i32⟩ : BufTy).Contents (Elt F)) (E V main_call0_call0_v129) (E V main_call0_call0_v134) := by
  have ho : (ops (F := F))[223]? = some (StableHlo.binary main_call0_call0_v129 main_call0_call0_v134 main_call0_call0_v135 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 223 V ho rfl (by decide) (by decide)
  exact h

theorem e225 : E V main_call0_call0_v136 = ((broadcastInDim S512x100000 ![] bcast_S_S512x100000) : (⟨S_, .i32⟩ : BufTy).Contents (Elt F) → (⟨S512x100000, .i32⟩ : BufTy).Contents (Elt F)) (E V main_call0_v7) := by
  have ho : (ops (F := F))[224]? = some (StableHlo.unary main_call0_v7 main_call0_call0_v136 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 224 V ho rfl (by decide)
  exact h

theorem e226 : E V main_call0_call0_v137 = (addi : (⟨S512x100000, .i32⟩ : BufTy).Contents (Elt F) → (⟨S512x100000, .i32⟩ : BufTy).Contents (Elt F) → (⟨S512x100000, .i32⟩ : BufTy).Contents (Elt F)) (E V main_call0_call0_v129) (E V main_call0_call0_v136) := by
  have ho : (ops (F := F))[225]? = some (StableHlo.binary main_call0_call0_v129 main_call0_call0_v136 main_call0_call0_v137 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 225 V ho rfl (by decide) (by decide)
  exact h

theorem e227 : E V main_call0_call0_v138 = ((broadcastInDim S512x100000 ![] bcast_S_S512x100000) : (⟨S_, .i32⟩ : BufTy).Contents (Elt F) → (⟨S512x100000, .i32⟩ : BufTy).Contents (Elt F)) (E V main_call0_call0_v1) := by
  have ho : (ops (F := F))[226]? = some (StableHlo.unary main_call0_call0_v1 main_call0_call0_v138 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 226 V ho rfl (by decide)
  exact h

theorem e228 : E V main_call0_call0_v139 = (addi : (⟨S512x100000, .i32⟩ : BufTy).Contents (Elt F) → (⟨S512x100000, .i32⟩ : BufTy).Contents (Elt F) → (⟨S512x100000, .i32⟩ : BufTy).Contents (Elt F)) (E V main_call0_call0_v135) (E V main_call0_call0_v138) := by
  have ho : (ops (F := F))[227]? = some (StableHlo.binary main_call0_call0_v135 main_call0_call0_v138 main_call0_call0_v139 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 227 V ho rfl (by decide) (by decide)
  exact h

theorem e229 : E V main_call0_call0_c_35 = ((constantI S_ 32 4#32) : (⟨S_, .i32⟩ : BufTy).Contents (Elt F)) := by
  have ho : (ops (F := F))[228]? = some (StableHlo.nullary main_call0_call0_c_35 ((constantI S_ 32 4#32) : (⟨S_, .i32⟩ : BufTy).Contents (Elt F))) := by sl_kernel_rfl
  have h := (lined (F := F)).at_nullary 228 V ho rfl
  exact h

theorem e230 : E V main_call0_call0_v140 = ((broadcastInDim S512x100000 ![] bcast_S_S512x100000) : (⟨S_, .i32⟩ : BufTy).Contents (Elt F) → (⟨S512x100000, .i32⟩ : BufTy).Contents (Elt F)) (E V main_call0_call0_c_35) := by
  have ho : (ops (F := F))[229]? = some (StableHlo.unary main_call0_call0_c_35 main_call0_call0_v140 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 229 V ho rfl (by decide)
  exact h

theorem e231 : E V main_call0_call0_v141 = (addi : (⟨S512x100000, .i32⟩ : BufTy).Contents (Elt F) → (⟨S512x100000, .i32⟩ : BufTy).Contents (Elt F) → (⟨S512x100000, .i32⟩ : BufTy).Contents (Elt F)) (E V main_call0_call0_v139) (E V main_call0_call0_v140) := by
  have ho : (ops (F := F))[230]? = some (StableHlo.binary main_call0_call0_v139 main_call0_call0_v140 main_call0_call0_v141 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 230 V ho rfl (by decide) (by decide)
  exact h

end Cert.Sampling.Ref
-- ==== Proof.RefEqs3.lean ====
/-
  What the buffers of the reference hold after its run: operations 231 to 306, an equation each.
-/
module

public import proofs.«01_k».proof.ReferenceIdeal
public import proofs.«01_k».proof.Proof.Line
public import Idealize.ShloMosaic.Lib.Tactic
public import proofs.«01_k».proof.Proof.RefOps

@[expose] public section

set_option maxRecDepth 100000

noncomputable section

namespace Cert.Sampling.Ref

open Idealize.ShloMosaic Idealize.ShloMosaic.StableHlo Idealize.SL.Sem Cert.ReferenceIdeal
open Cert.ReferenceIdeal.Facts₀ Cert.ReferenceIdeal.Facts

variable {F : FTy → Type} [FloatOps F] [Cert.ReferenceIdeal.Facts]

variable (V : Valuation τ sig (Elt F))

theorem e232 : E V main_call0_call0_v142 = (addi : (⟨S512x100000, .i32⟩ : BufTy).Contents (Elt F) → (⟨S512x100000, .i32⟩ : BufTy).Contents (Elt F) → (⟨S512x100000, .i32⟩ : BufTy).Contents (Elt F)) (E V main_call0_call0_v137) (E V main_call0_call0_v141) := by
  have ho : (ops (F := F))[231]? = some (StableHlo.binary main_call0_call0_v137 main_call0_call0_v141 main_call0_call0_v142 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 231 V ho rfl (by decide) (by decide)
  exact h

theorem e233 : E V main_call0_call0_c_36 = ((constantI S_ 32 13#32) : (⟨S_, .i32⟩ : BufTy).Contents (Elt F)) := by
  have ho : (ops (F := F))[232]? = some (StableHlo.nullary main_call0_call0_c_36 ((constantI S_ 32 13#32) : (⟨S_, .i32⟩ : BufTy).Contents (Elt F))) := by sl_kernel_rfl
  have h := (lined (F := F)).at_nullary 232 V ho rfl
  exact h

theorem e234 : E V main_call0_call0_v143 = ((broadcastInDim S512x100000 ![] bcast_S_S512x100000) : (⟨S_, .i32⟩ : BufTy).Contents (Elt F) → (⟨S512x100000, .i32⟩ : BufTy).Contents (Elt F)) (E V main_call0_call0_c_36) := by
  have ho : (ops (F := F))[233]? = some (StableHlo.unary main_call0_call0_c_36 main_call0_call0_v143 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 233 V ho rfl (by decide)
  exact h

theorem e235 : E V main_call0_call0_v144 = (Host.shli : (⟨S512x100000, .i32⟩ : BufTy).Contents (Elt F) → (⟨S512x100000, .i32⟩ : BufTy).Contents (Elt F) → (⟨S512x100000, .i32⟩ : BufTy).Contents (Elt F)) (E V main_call0_call0_v141) (E V main_call0_call0_v143) := by
  have ho : (ops (F := F))[234]? = some (StableHlo.binary main_call0_call0_v141 main_call0_call0_v143 main_call0_call0_v144 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 234 V ho rfl (by decide) (by decide)
  exact h

theorem e236 : E V main_call0_call0_c_37 = ((constantI S_ 32 19#32) : (⟨S_, .i32⟩ : BufTy).Contents (Elt F)) := by
  have ho : (ops (F := F))[235]? = some (StableHlo.nullary main_call0_call0_c_37 ((constantI S_ 32 19#32) : (⟨S_, .i32⟩ : BufTy).Contents (Elt F))) := by sl_kernel_rfl
  have h := (lined (F := F)).at_nullary 235 V ho rfl
  exact h

theorem e237 : E V main_call0_call0_v145 = ((broadcastInDim S512x100000 ![] bcast_S_S512x100000) : (⟨S_, .i32⟩ : BufTy).Contents (Elt F) → (⟨S512x100000, .i32⟩ : BufTy).Contents (Elt F)) (E V main_call0_call0_c_37) := by
  have ho : (ops (F := F))[236]? = some (StableHlo.unary main_call0_call0_c_37 main_call0_call0_v145 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 236 V ho rfl (by decide)
  exact h

theorem e238 : E V main_call0_call0_v146 = (Host.shrui : (⟨S512x100000, .i32⟩ : BufTy).Contents (Elt F) → (⟨S512x100000, .i32⟩ : BufTy).Contents (Elt F) → (⟨S512x100000, .i32⟩ : BufTy).Contents (Elt F)) (E V main_call0_call0_v141) (E V main_call0_call0_v145) := by
  have ho : (ops (F := F))[237]? = some (StableHlo.binary main_call0_call0_v141 main_call0_call0_v145 main_call0_call0_v146 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 237 V ho rfl (by decide) (by decide)
  exact h

theorem e239 : E V main_call0_call0_v147 = (ori : (⟨S512x100000, .i32⟩ : BufTy).Contents (Elt F) → (⟨S512x100000, .i32⟩ : BufTy).Contents (Elt F) → (⟨S512x100000, .i32⟩ : BufTy).Contents (Elt F)) (E V main_call0_call0_v144) (E V main_call0_call0_v146) := by
  have ho : (ops (F := F))[238]? = some (StableHlo.binary main_call0_call0_v144 main_call0_call0_v146 main_call0_call0_v147 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 238 V ho rfl (by decide) (by decide)
  exact h

theorem e240 : E V main_call0_call0_v148 = (xori : (⟨S512x100000, .i32⟩ : BufTy).Contents (Elt F) → (⟨S512x100000, .i32⟩ : BufTy).Contents (Elt F) → (⟨S512x100000, .i32⟩ : BufTy).Contents (Elt F)) (E V main_call0_call0_v142) (E V main_call0_call0_v147) := by
  have ho : (ops (F := F))[239]? = some (StableHlo.binary main_call0_call0_v142 main_call0_call0_v147 main_call0_call0_v148 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 239 V ho rfl (by decide) (by decide)
  exact h

theorem e241 : E V main_call0_call0_v149 = (addi : (⟨S512x100000, .i32⟩ : BufTy).Contents (Elt F) → (⟨S512x100000, .i32⟩ : BufTy).Contents (Elt F) → (⟨S512x100000, .i32⟩ : BufTy).Contents (Elt F)) (E V main_call0_call0_v142) (E V main_call0_call0_v148) := by
  have ho : (ops (F := F))[240]? = some (StableHlo.binary main_call0_call0_v142 main_call0_call0_v148 main_call0_call0_v149 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 240 V ho rfl (by decide) (by decide)
  exact h

theorem e242 : E V main_call0_call0_c_38 = ((constantI S_ 32 15#32) : (⟨S_, .i32⟩ : BufTy).Contents (Elt F)) := by
  have ho : (ops (F := F))[241]? = some (StableHlo.nullary main_call0_call0_c_38 ((constantI S_ 32 15#32) : (⟨S_, .i32⟩ : BufTy).Contents (Elt F))) := by sl_kernel_rfl
  have h := (lined (F := F)).at_nullary 241 V ho rfl
  exact h

theorem e243 : E V main_call0_call0_v150 = ((broadcastInDim S512x100000 ![] bcast_S_S512x100000) : (⟨S_, .i32⟩ : BufTy).Contents (Elt F) → (⟨S512x100000, .i32⟩ : BufTy).Contents (Elt F)) (E V main_call0_call0_c_38) := by
  have ho : (ops (F := F))[242]? = some (StableHlo.unary main_call0_call0_c_38 main_call0_call0_v150 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 242 V ho rfl (by decide)
  exact h

theorem e244 : E V main_call0_call0_v151 = (Host.shli : (⟨S512x100000, .i32⟩ : BufTy).Contents (Elt F) → (⟨S512x100000, .i32⟩ : BufTy).Contents (Elt F) → (⟨S512x100000, .i32⟩ : BufTy).Contents (Elt F)) (E V main_call0_call0_v148) (E V main_call0_call0_v150) := by
  have ho : (ops (F := F))[243]? = some (StableHlo.binary main_call0_call0_v148 main_call0_call0_v150 main_call0_call0_v151 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 243 V ho rfl (by decide) (by decide)
  exact h

theorem e245 : E V main_call0_call0_c_39 = ((constantI S_ 32 17#32) : (⟨S_, .i32⟩ : BufTy).Contents (Elt F)) := by
  have ho : (ops (F := F))[244]? = some (StableHlo.nullary main_call0_call0_c_39 ((constantI S_ 32 17#32) : (⟨S_, .i32⟩ : BufTy).Contents (Elt F))) := by sl_kernel_rfl
  have h := (lined (F := F)).at_nullary 244 V ho rfl
  exact h

theorem e246 : E V main_call0_call0_v152 = ((broadcastInDim S512x100000 ![] bcast_S_S512x100000) : (⟨S_, .i32⟩ : BufTy).Contents (Elt F) → (⟨S512x100000, .i32⟩ : BufTy).Contents (Elt F)) (E V main_call0_call0_c_39) := by
  have ho : (ops (F := F))[245]? = some (StableHlo.unary main_call0_call0_c_39 main_call0_call0_v152 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 245 V ho rfl (by decide)
  exact h

theorem e247 : E V main_call0_call0_v153 = (Host.shrui : (⟨S512x100000, .i32⟩ : BufTy).Contents (Elt F) → (⟨S512x100000, .i32⟩ : BufTy).Contents (Elt F) → (⟨S512x100000, .i32⟩ : BufTy).Contents (Elt F)) (E V main_call0_call0_v148) (E V main_call0_call0_v152) := by
  have ho : (ops (F := F))[246]? = some (StableHlo.binary main_call0_call0_v148 main_call0_call0_v152 main_call0_call0_v153 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 246 V ho rfl (by decide) (by decide)
  exact h

theorem e248 : E V main_call0_call0_v154 = (ori : (⟨S512x100000, .i32⟩ : BufTy).Contents (Elt F) → (⟨S512x100000, .i32⟩ : BufTy).Contents (Elt F) → (⟨S512x100000, .i32⟩ : BufTy).Contents (Elt F)) (E V main_call0_call0_v151) (E V main_call0_call0_v153) := by
  have ho : (ops (F := F))[247]? = some (StableHlo.binary main_call0_call0_v151 main_call0_call0_v153 main_call0_call0_v154 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 247 V ho rfl (by decide) (by decide)
  exact h

theorem e249 : E V main_call0_call0_v155 = (xori : (⟨S512x100000, .i32⟩ : BufTy).Contents (Elt F) → (⟨S512x100000, .i32⟩ : BufTy).Contents (Elt F) → (⟨S512x100000, .i32⟩ : BufTy).Contents (Elt F)) (E V main_call0_call0_v149) (E V main_call0_call0_v154) := by
  have ho : (ops (F := F))[248]? = some (StableHlo.binary main_call0_call0_v149 main_call0_call0_v154 main_call0_call0_v155 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 248 V ho rfl (by decide) (by decide)
  exact h

theorem e250 : E V main_call0_call0_v156 = (addi : (⟨S512x100000, .i32⟩ : BufTy).Contents (Elt F) → (⟨S512x100000, .i32⟩ : BufTy).Contents (Elt F) → (⟨S512x100000, .i32⟩ : BufTy).Contents (Elt F)) (E V main_call0_call0_v149) (E V main_call0_call0_v155) := by
  have ho : (ops (F := F))[249]? = some (StableHlo.binary main_call0_call0_v149 main_call0_call0_v155 main_call0_call0_v156 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 249 V ho rfl (by decide) (by decide)
  exact h

theorem e251 : E V main_call0_call0_c_40 = ((constantI S_ 32 26#32) : (⟨S_, .i32⟩ : BufTy).Contents (Elt F)) := by
  have ho : (ops (F := F))[250]? = some (StableHlo.nullary main_call0_call0_c_40 ((constantI S_ 32 26#32) : (⟨S_, .i32⟩ : BufTy).Contents (Elt F))) := by sl_kernel_rfl
  have h := (lined (F := F)).at_nullary 250 V ho rfl
  exact h

theorem e252 : E V main_call0_call0_v157 = ((broadcastInDim S512x100000 ![] bcast_S_S512x100000) : (⟨S_, .i32⟩ : BufTy).Contents (Elt F) → (⟨S512x100000, .i32⟩ : BufTy).Contents (Elt F)) (E V main_call0_call0_c_40) := by
  have ho : (ops (F := F))[251]? = some (StableHlo.unary main_call0_call0_c_40 main_call0_call0_v157 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 251 V ho rfl (by decide)
  exact h

theorem e253 : E V main_call0_call0_v158 = (Host.shli : (⟨S512x100000, .i32⟩ : BufTy).Contents (Elt F) → (⟨S512x100000, .i32⟩ : BufTy).Contents (Elt F) → (⟨S512x100000, .i32⟩ : BufTy).Contents (Elt F)) (E V main_call0_call0_v155) (E V main_call0_call0_v157) := by
  have ho : (ops (F := F))[252]? = some (StableHlo.binary main_call0_call0_v155 main_call0_call0_v157 main_call0_call0_v158 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 252 V ho rfl (by decide) (by decide)
  exact h

theorem e254 : E V main_call0_call0_c_41 = ((constantI S_ 32 6#32) : (⟨S_, .i32⟩ : BufTy).Contents (Elt F)) := by
  have ho : (ops (F := F))[253]? = some (StableHlo.nullary main_call0_call0_c_41 ((constantI S_ 32 6#32) : (⟨S_, .i32⟩ : BufTy).Contents (Elt F))) := by sl_kernel_rfl
  have h := (lined (F := F)).at_nullary 253 V ho rfl
  exact h

theorem e255 : E V main_call0_call0_v159 = ((broadcastInDim S512x100000 ![] bcast_S_S512x100000) : (⟨S_, .i32⟩ : BufTy).Contents (Elt F) → (⟨S512x100000, .i32⟩ : BufTy).Contents (Elt F)) (E V main_call0_call0_c_41) := by
  have ho : (ops (F := F))[254]? = some (StableHlo.unary main_call0_call0_c_41 main_call0_call0_v159 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 254 V ho rfl (by decide)
  exact h

theorem e256 : E V main_call0_call0_v160 = (Host.shrui : (⟨S512x100000, .i32⟩ : BufTy).Contents (Elt F) → (⟨S512x100000, .i32⟩ : BufTy).Contents (Elt F) → (⟨S512x100000, .i32⟩ : BufTy).Contents (Elt F)) (E V main_call0_call0_v155) (E V main_call0_call0_v159) := by
  have ho : (ops (F := F))[255]? = some (StableHlo.binary main_call0_call0_v155 main_call0_call0_v159 main_call0_call0_v160 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 255 V ho rfl (by decide) (by decide)
  exact h

theorem e257 : E V main_call0_call0_v161 = (ori : (⟨S512x100000, .i32⟩ : BufTy).Contents (Elt F) → (⟨S512x100000, .i32⟩ : BufTy).Contents (Elt F) → (⟨S512x100000, .i32⟩ : BufTy).Contents (Elt F)) (E V main_call0_call0_v158) (E V main_call0_call0_v160) := by
  have ho : (ops (F := F))[256]? = some (StableHlo.binary main_call0_call0_v158 main_call0_call0_v160 main_call0_call0_v161 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 256 V ho rfl (by decide) (by decide)
  exact h

theorem e258 : E V main_call0_call0_v162 = (xori : (⟨S512x100000, .i32⟩ : BufTy).Contents (Elt F) → (⟨S512x100000, .i32⟩ : BufTy).Contents (Elt F) → (⟨S512x100000, .i32⟩ : BufTy).Contents (Elt F)) (E V main_call0_call0_v156) (E V main_call0_call0_v161) := by
  have ho : (ops (F := F))[257]? = some (StableHlo.binary main_call0_call0_v156 main_call0_call0_v161 main_call0_call0_v162 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 257 V ho rfl (by decide) (by decide)
  exact h

theorem e259 : E V main_call0_call0_v163 = (addi : (⟨S512x100000, .i32⟩ : BufTy).Contents (Elt F) → (⟨S512x100000, .i32⟩ : BufTy).Contents (Elt F) → (⟨S512x100000, .i32⟩ : BufTy).Contents (Elt F)) (E V main_call0_call0_v156) (E V main_call0_call0_v162) := by
  have ho : (ops (F := F))[258]? = some (StableHlo.binary main_call0_call0_v156 main_call0_call0_v162 main_call0_call0_v163 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 258 V ho rfl (by decide) (by decide)
  exact h

theorem e260 : E V main_call0_call0_c_42 = ((constantI S_ 32 6#32) : (⟨S_, .i32⟩ : BufTy).Contents (Elt F)) := by
  have ho : (ops (F := F))[259]? = some (StableHlo.nullary main_call0_call0_c_42 ((constantI S_ 32 6#32) : (⟨S_, .i32⟩ : BufTy).Contents (Elt F))) := by sl_kernel_rfl
  have h := (lined (F := F)).at_nullary 259 V ho rfl
  exact h

theorem e261 : E V main_call0_call0_v164 = ((broadcastInDim S512x100000 ![] bcast_S_S512x100000) : (⟨S_, .i32⟩ : BufTy).Contents (Elt F) → (⟨S512x100000, .i32⟩ : BufTy).Contents (Elt F)) (E V main_call0_call0_c_42) := by
  have ho : (ops (F := F))[260]? = some (StableHlo.unary main_call0_call0_c_42 main_call0_call0_v164 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 260 V ho rfl (by decide)
  exact h

theorem e262 : E V main_call0_call0_v165 = (Host.shli : (⟨S512x100000, .i32⟩ : BufTy).Contents (Elt F) → (⟨S512x100000, .i32⟩ : BufTy).Contents (Elt F) → (⟨S512x100000, .i32⟩ : BufTy).Contents (Elt F)) (E V main_call0_call0_v162) (E V main_call0_call0_v164) := by
  have ho : (ops (F := F))[261]? = some (StableHlo.binary main_call0_call0_v162 main_call0_call0_v164 main_call0_call0_v165 (Host.shli : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 261 V ho rfl (by decide) (by decide)
  exact h

theorem e263 : E V main_call0_call0_c_43 = ((constantI S_ 32 26#32) : (⟨S_, .i32⟩ : BufTy).Contents (Elt F)) := by
  have ho : (ops (F := F))[262]? = some (StableHlo.nullary main_call0_call0_c_43 ((constantI S_ 32 26#32) : (⟨S_, .i32⟩ : BufTy).Contents (Elt F))) := by sl_kernel_rfl
  have h := (lined (F := F)).at_nullary 262 V ho rfl
  exact h

theorem e264 : E V main_call0_call0_v166 = ((broadcastInDim S512x100000 ![] bcast_S_S512x100000) : (⟨S_, .i32⟩ : BufTy).Contents (Elt F) → (⟨S512x100000, .i32⟩ : BufTy).Contents (Elt F)) (E V main_call0_call0_c_43) := by
  have ho : (ops (F := F))[263]? = some (StableHlo.unary main_call0_call0_c_43 main_call0_call0_v166 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 263 V ho rfl (by decide)
  exact h

theorem e265 : E V main_call0_call0_v167 = (Host.shrui : (⟨S512x100000, .i32⟩ : BufTy).Contents (Elt F) → (⟨S512x100000, .i32⟩ : BufTy).Contents (Elt F) → (⟨S512x100000, .i32⟩ : BufTy).Contents (Elt F)) (E V main_call0_call0_v162) (E V main_call0_call0_v166) := by
  have ho : (ops (F := F))[264]? = some (StableHlo.binary main_call0_call0_v162 main_call0_call0_v166 main_call0_call0_v167 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 264 V ho rfl (by decide) (by decide)
  exact h

theorem e266 : E V main_call0_call0_v168 = (ori : (⟨S512x100000, .i32⟩ : BufTy).Contents (Elt F) → (⟨S512x100000, .i32⟩ : BufTy).Contents (Elt F) → (⟨S512x100000, .i32⟩ : BufTy).Contents (Elt F)) (E V main_call0_call0_v165) (E V main_call0_call0_v167) := by
  have ho : (ops (F := F))[265]? = some (StableHlo.binary main_call0_call0_v165 main_call0_call0_v167 main_call0_call0_v168 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 265 V ho rfl (by decide) (by decide)
  exact h

theorem e267 : E V main_call0_call0_v169 = (xori : (⟨S512x100000, .i32⟩ : BufTy).Contents (Elt F) → (⟨S512x100000, .i32⟩ : BufTy).Contents (Elt F) → (⟨S512x100000, .i32⟩ : BufTy).Contents (Elt F)) (E V main_call0_call0_v163) (E V main_call0_call0_v168) := by
  have ho : (ops (F := F))[266]? = some (StableHlo.binary main_call0_call0_v163 main_call0_call0_v168 main_call0_call0_v169 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 266 V ho rfl (by decide) (by decide)
  exact h

theorem e268 : E V main_call0_call0_v170 = ((broadcastInDim S512x100000 ![] bcast_S_S512x100000) : (⟨S_, .i32⟩ : BufTy).Contents (Elt F) → (⟨S512x100000, .i32⟩ : BufTy).Contents (Elt F)) (E V main_call0_call0_v1) := by
  have ho : (ops (F := F))[267]? = some (StableHlo.unary main_call0_call0_v1 main_call0_call0_v170 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 267 V ho rfl (by decide)
  exact h

theorem e269 : E V main_call0_v19_0 = (addi : (⟨S512x100000, .i32⟩ : BufTy).Contents (Elt F) → (⟨S512x100000, .i32⟩ : BufTy).Contents (Elt F) → (⟨S512x100000, .i32⟩ : BufTy).Contents (Elt F)) (E V main_call0_call0_v163) (E V main_call0_call0_v170) := by
  have ho : (ops (F := F))[268]? = some (StableHlo.binary main_call0_call0_v163 main_call0_call0_v170 main_call0_v19_0 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 268 V ho rfl (by decide) (by decide)
  exact h

theorem e270 : E V main_call0_call0_v172 = ((broadcastInDim S512x100000 ![] bcast_S_S512x100000) : (⟨S_, .i32⟩ : BufTy).Contents (Elt F) → (⟨S512x100000, .i32⟩ : BufTy).Contents (Elt F)) (E V main_call0_v5) := by
  have ho : (ops (F := F))[269]? = some (StableHlo.unary main_call0_v5 main_call0_call0_v172 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 269 V ho rfl (by decide)
  exact h

theorem e271 : E V main_call0_call0_v173 = (addi : (⟨S512x100000, .i32⟩ : BufTy).Contents (Elt F) → (⟨S512x100000, .i32⟩ : BufTy).Contents (Elt F) → (⟨S512x100000, .i32⟩ : BufTy).Contents (Elt F)) (E V main_call0_call0_v169) (E V main_call0_call0_v172) := by
  have ho : (ops (F := F))[270]? = some (StableHlo.binary main_call0_call0_v169 main_call0_call0_v172 main_call0_call0_v173 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 270 V ho rfl (by decide) (by decide)
  exact h

theorem e272 : E V main_call0_call0_c_44 = ((constantI S_ 32 5#32) : (⟨S_, .i32⟩ : BufTy).Contents (Elt F)) := by
  have ho : (ops (F := F))[271]? = some (StableHlo.nullary main_call0_call0_c_44 ((constantI S_ 32 5#32) : (⟨S_, .i32⟩ : BufTy).Contents (Elt F))) := by sl_kernel_rfl
  have h := (lined (F := F)).at_nullary 271 V ho rfl
  exact h

theorem e273 : E V main_call0_call0_v174 = ((broadcastInDim S512x100000 ![] bcast_S_S512x100000) : (⟨S_, .i32⟩ : BufTy).Contents (Elt F) → (⟨S512x100000, .i32⟩ : BufTy).Contents (Elt F)) (E V main_call0_call0_c_44) := by
  have ho : (ops (F := F))[272]? = some (StableHlo.unary main_call0_call0_c_44 main_call0_call0_v174 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 272 V ho rfl (by decide)
  exact h

theorem e274 : E V main_call0_v19_1 = (addi : (⟨S512x100000, .i32⟩ : BufTy).Contents (Elt F) → (⟨S512x100000, .i32⟩ : BufTy).Contents (Elt F) → (⟨S512x100000, .i32⟩ : BufTy).Contents (Elt F)) (E V main_call0_call0_v173) (E V main_call0_call0_v174) := by
  have ho : (ops (F := F))[273]? = some (StableHlo.binary main_call0_call0_v173 main_call0_call0_v174 main_call0_v19_1 (addi : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 273 V ho rfl (by decide) (by decide)
  exact h

theorem e275 : E V main_call0_v20 = (xori : (⟨S512x100000, .i32⟩ : BufTy).Contents (Elt F) → (⟨S512x100000, .i32⟩ : BufTy).Contents (Elt F) → (⟨S512x100000, .i32⟩ : BufTy).Contents (Elt F)) (E V main_call0_v19_0) (E V main_call0_v19_1) := by
  have ho : (ops (F := F))[274]? = some (StableHlo.binary main_call0_v19_0 main_call0_v19_1 main_call0_v20 (xori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 274 V ho rfl (by decide) (by decide)
  exact h

theorem e276 : E V main_call0_c_2 = ((constantI S_ 32 9#32) : (⟨S_, .i32⟩ : BufTy).Contents (Elt F)) := by
  have ho : (ops (F := F))[275]? = some (StableHlo.nullary main_call0_c_2 ((constantI S_ 32 9#32) : (⟨S_, .i32⟩ : BufTy).Contents (Elt F))) := by sl_kernel_rfl
  have h := (lined (F := F)).at_nullary 275 V ho rfl
  exact h

theorem e277 : E V main_call0_v21 = ((broadcastInDim S512x100000 ![] bcast_S_S512x100000) : (⟨S_, .i32⟩ : BufTy).Contents (Elt F) → (⟨S512x100000, .i32⟩ : BufTy).Contents (Elt F)) (E V main_call0_c_2) := by
  have ho : (ops (F := F))[276]? = some (StableHlo.unary main_call0_c_2 main_call0_v21 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 276 V ho rfl (by decide)
  exact h

theorem e278 : E V main_call0_v22 = (Host.shrui : (⟨S512x100000, .i32⟩ : BufTy).Contents (Elt F) → (⟨S512x100000, .i32⟩ : BufTy).Contents (Elt F) → (⟨S512x100000, .i32⟩ : BufTy).Contents (Elt F)) (E V main_call0_v20) (E V main_call0_v21) := by
  have ho : (ops (F := F))[277]? = some (StableHlo.binary main_call0_v20 main_call0_v21 main_call0_v22 (Host.shrui : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 277 V ho rfl (by decide) (by decide)
  exact h

theorem e279 : E V main_call0_c_3 = ((constantI S_ 32 1065353216#32) : (⟨S_, .i32⟩ : BufTy).Contents (Elt F)) := by
  have ho : (ops (F := F))[278]? = some (StableHlo.nullary main_call0_c_3 ((constantI S_ 32 1065353216#32) : (⟨S_, .i32⟩ : BufTy).Contents (Elt F))) := by sl_kernel_rfl
  have h := (lined (F := F)).at_nullary 278 V ho rfl
  exact h

theorem e280 : E V main_call0_v23 = ((broadcastInDim S512x100000 ![] bcast_S_S512x100000) : (⟨S_, .i32⟩ : BufTy).Contents (Elt F) → (⟨S512x100000, .i32⟩ : BufTy).Contents (Elt F)) (E V main_call0_c_3) := by
  have ho : (ops (F := F))[279]? = some (StableHlo.unary main_call0_c_3 main_call0_v23 ((broadcastInDim S512x100000 ![] bcast_S_S512x100000) : (⟨S_, .i32⟩ : BufTy).Contents (Elt F) → (⟨S512x100000, .i32⟩ : BufTy).Contents (Elt F))) := by sl_kernel_rfl
  have h := (lined (F := F)).at_unary 279 V ho rfl (by decide)
  exact h

theorem e281 : E V main_call0_v24 = (ori : (⟨S512x100000, .i32⟩ : BufTy).Contents (Elt F) → (⟨S512x100000, .i32⟩ : BufTy).Contents (Elt F) → (⟨S512x100000, .i32⟩ : BufTy).Contents (Elt F)) (E V main_call0_v22) (E V main_call0_v23) := by
  have ho : (ops (F := F))[280]? = some (StableHlo.binary main_call0_v22 main_call0_v23 main_call0_v24 (ori : (⟨S512x100000, .i32⟩ : BufTy).Contents (Elt F) → (⟨S512x100000, .i32⟩ : BufTy).Contents (Elt F) → (⟨S512x100000, .i32⟩ : BufTy).Contents (Elt F))) := by sl_kernel_rfl
  have h := (lined (F := F)).at_binary 280 V ho rfl (by decide) (by decide)
  exact h

theorem e282 : E V main_call0_v25 = ((bitcastToFloat .f32) : (⟨S512x100000, .i32⟩ : BufTy).Contents (Elt F) → (⟨S512x100000, .f32⟩ : BufTy).Contents (Elt F)) (E V main_call0_v24) := by
  have ho : (ops (F := F))[281]? = some (StableHlo.unary main_call0_v24 main_call0_v25 ((bitcastToFloat .f32) : (⟨S512x100000, .i32⟩ : BufTy).Contents (Elt F) → (⟨S512x100000, .f32⟩ : BufTy).Contents (Elt F))) := by sl_kernel_rfl
  have h := (lined (F := F)).at_unary 281 V ho rfl (by decide)
  exact h

theorem e283 : E V main_call0_cst = ((constant S_ .f32 0x3F800000#32) : (⟨S_, .f32⟩ : BufTy).Contents (Elt F)) := by
  have ho : (ops (F := F))[282]? = some (StableHlo.nullary main_call0_cst ((constant S_ .f32 0x3F800000#32) : (⟨S_, .f32⟩ : BufTy).Contents (Elt F))) := by sl_kernel_rfl
  have h := (lined (F := F)).at_nullary 282 V ho rfl
  exact h

theorem e284 : E V main_call0_v26 = ((broadcastInDim S512x100000 ![] bcast_S_S512x100000) : (⟨S_, .f32⟩ : BufTy).Contents (Elt F) → (⟨S512x100000, .f32⟩ : BufTy).Contents (Elt F)) (E V main_call0_cst) := by
  have ho : (ops (F := F))[283]? = some (StableHlo.unary main_call0_cst main_call0_v26 ((broadcastInDim S512x100000 ![] bcast_S_S512x100000) : (⟨S_, .f32⟩ : BufTy).Contents (Elt F) → (⟨S512x100000, .f32⟩ : BufTy).Contents (Elt F))) := by sl_kernel_rfl
  have h := (lined (F := F)).at_unary 283 V ho rfl (by decide)
  exact h

theorem e285 : E V main_call0_v27 = (subf : (⟨S512x100000, .f32⟩ : BufTy).Contents (Elt F) → (⟨S512x100000, .f32⟩ : BufTy).Contents (Elt F) → (⟨S512x100000, .f32⟩ : BufTy).Contents (Elt F)) (E V main_call0_v25) (E V main_call0_v26) := by
  have ho : (ops (F := F))[284]? = some (StableHlo.binary main_call0_v25 main_call0_v26 main_call0_v27 (subf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 284 V ho rfl (by decide) (by decide)
  exact h

theorem e286 : E V main_call0_v28 = (subf : (⟨S1x1, .f32⟩ : BufTy).Contents (Elt F) → (⟨S1x1, .f32⟩ : BufTy).Contents (Elt F) → (⟨S1x1, .f32⟩ : BufTy).Contents (Elt F)) (E V main_call0_v3) (E V main_call0_v2) := by
  have ho : (ops (F := F))[285]? = some (StableHlo.binary main_call0_v3 main_call0_v2 main_call0_v28 (subf : (⟨S1x1, .f32⟩ : BufTy).Contents (Elt F) → (⟨S1x1, .f32⟩ : BufTy).Contents (Elt F) → (⟨S1x1, .f32⟩ : BufTy).Contents (Elt F))) := by sl_kernel_rfl
  have h := (lined (F := F)).at_binary 285 V ho rfl (by decide) (by decide)
  exact h

theorem e287 : E V main_call0_v29 = ((broadcastInDim S512x100000 ![0, 1] bcast_S1x1_S512x100000_0_1) : (⟨S1x1, .f32⟩ : BufTy).Contents (Elt F) → (⟨S512x100000, .f32⟩ : BufTy).Contents (Elt F)) (E V main_call0_v28) := by
  have ho : (ops (F := F))[286]? = some (StableHlo.unary main_call0_v28 main_call0_v29 ((broadcastInDim S512x100000 ![0, 1] bcast_S1x1_S512x100000_0_1) : (⟨S1x1, .f32⟩ : BufTy).Contents (Elt F) → (⟨S512x100000, .f32⟩ : BufTy).Contents (Elt F))) := by sl_kernel_rfl
  have h := (lined (F := F)).at_unary 286 V ho rfl (by decide)
  exact h

theorem e288 : E V main_call0_v30 = (mulf : (⟨S512x100000, .f32⟩ : BufTy).Contents (Elt F) → (⟨S512x100000, .f32⟩ : BufTy).Contents (Elt F) → (⟨S512x100000, .f32⟩ : BufTy).Contents (Elt F)) (E V main_call0_v27) (E V main_call0_v29) := by
  have ho : (ops (F := F))[287]? = some (StableHlo.binary main_call0_v27 main_call0_v29 main_call0_v30 (mulf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 287 V ho rfl (by decide) (by decide)
  exact h

theorem e289 : E V main_call0_v31 = ((broadcastInDim S512x100000 ![0, 1] bcast_S1x1_S512x100000_0_1) : (⟨S1x1, .f32⟩ : BufTy).Contents (Elt F) → (⟨S512x100000, .f32⟩ : BufTy).Contents (Elt F)) (E V main_call0_v2) := by
  have ho : (ops (F := F))[288]? = some (StableHlo.unary main_call0_v2 main_call0_v31 ((broadcastInDim S512x100000 ![0, 1] bcast_S1x1_S512x100000_0_1) : (⟨S1x1, .f32⟩ : BufTy).Contents (Elt F) → (⟨S512x100000, .f32⟩ : BufTy).Contents (Elt F))) := by sl_kernel_rfl
  have h := (lined (F := F)).at_unary 288 V ho rfl (by decide)
  exact h

theorem e290 : E V main_call0_v32 = (addf : (⟨S512x100000, .f32⟩ : BufTy).Contents (Elt F) → (⟨S512x100000, .f32⟩ : BufTy).Contents (Elt F) → (⟨S512x100000, .f32⟩ : BufTy).Contents (Elt F)) (E V main_call0_v30) (E V main_call0_v31) := by
  have ho : (ops (F := F))[289]? = some (StableHlo.binary main_call0_v30 main_call0_v31 main_call0_v32 (addf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 289 V ho rfl (by decide) (by decide)
  exact h

theorem e291 : E V main_call0_v33 = ((broadcastInDim S512x100000 ![0, 1] bcast_S1x1_S512x100000_0_1) : (⟨S1x1, .f32⟩ : BufTy).Contents (Elt F) → (⟨S512x100000, .f32⟩ : BufTy).Contents (Elt F)) (E V main_call0_v2) := by
  have ho : (ops (F := F))[290]? = some (StableHlo.unary main_call0_v2 main_call0_v33 ((broadcastInDim S512x100000 ![0, 1] bcast_S1x1_S512x100000_0_1) : (⟨S1x1, .f32⟩ : BufTy).Contents (Elt F) → (⟨S512x100000, .f32⟩ : BufTy).Contents (Elt F))) := by sl_kernel_rfl
  have h := (lined (F := F)).at_unary 290 V ho rfl (by decide)
  exact h

theorem e292 : E V main_v21 = (maximumf : (⟨S512x100000, .f32⟩ : BufTy).Contents (Elt F) → (⟨S512x100000, .f32⟩ : BufTy).Contents (Elt F) → (⟨S512x100000, .f32⟩ : BufTy).Contents (Elt F)) (E V main_call0_v33) (E V main_call0_v32) := by
  have ho : (ops (F := F))[291]? = some (StableHlo.binary main_call0_v33 main_call0_v32 main_v21 (maximumf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 291 V ho rfl (by decide) (by decide)
  exact h

theorem e293 : E V main_cst_7 = (constant S_ .f32 0x00800000#32) := by
  have ho : (ops (F := F))[292]? = some (StableHlo.nullary main_cst_7 (constant S_ .f32 0x00800000#32)) := by sl_kernel_rfl
  have h := (lined (F := F)).at_nullary 292 V ho rfl
  exact h

theorem e294 : E V main_v22 = (broadcastInDim S512x100000 ![] bcast_S_S512x100000 : (⟨S_, .f32⟩ : BufTy).Contents (Elt F) → (⟨S512x100000, .f32⟩ : BufTy).Contents (Elt F)) (E V main_cst_7) := by
  have ho : (ops (F := F))[293]? = some (StableHlo.unary main_cst_7 main_v22 (broadcastInDim S512x100000 ![] bcast_S_S512x100000 : (⟨S_, .f32⟩ : BufTy).Contents (Elt F) → (⟨S512x100000, .f32⟩ : BufTy).Contents (Elt F))) := by sl_kernel_rfl
  have h := (lined (F := F)).at_unary 293 V ho rfl (by decide)
  exact h

theorem e295 : E V main_v23 = (maximumf : (⟨S512x100000, .f32⟩ : BufTy).Contents (Elt F) → (⟨S512x100000, .f32⟩ : BufTy).Contents (Elt F) → (⟨S512x100000, .f32⟩ : BufTy).Contents (Elt F)) (E V main_v21) (E V main_v22) := by
  have ho : (ops (F := F))[294]? = some (StableHlo.binary main_v21 main_v22 main_v23 (maximumf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 294 V ho rfl (by decide) (by decide)
  exact h

theorem e296 : E V main_v24 = (Host.log : (⟨S512x100000, .f32⟩ : BufTy).Contents (Elt F) → (⟨S512x100000, .f32⟩ : BufTy).Contents (Elt F)) (E V main_v23) := by
  have ho : (ops (F := F))[295]? = some (StableHlo.unary main_v23 main_v24 (Host.log : (⟨S512x100000, .f32⟩ : BufTy).Contents (Elt F) → (⟨S512x100000, .f32⟩ : BufTy).Contents (Elt F))) := by sl_kernel_rfl
  have h := (lined (F := F)).at_unary 295 V ho rfl (by decide)
  exact h

theorem e297 : E V main_v25 = (Host.negf : (⟨S512x100000, .f32⟩ : BufTy).Contents (Elt F) → (⟨S512x100000, .f32⟩ : BufTy).Contents (Elt F)) (E V main_v24) := by
  have ho : (ops (F := F))[296]? = some (StableHlo.unary main_v24 main_v25 (Host.negf : (⟨S512x100000, .f32⟩ : BufTy).Contents (Elt F) → (⟨S512x100000, .f32⟩ : BufTy).Contents (Elt F))) := by sl_kernel_rfl
  have h := (lined (F := F)).at_unary 296 V ho rfl (by decide)
  exact h

theorem e298 : E V main_v26 = (Host.log : (⟨S512x100000, .f32⟩ : BufTy).Contents (Elt F) → (⟨S512x100000, .f32⟩ : BufTy).Contents (Elt F)) (E V main_v25) := by
  have ho : (ops (F := F))[297]? = some (StableHlo.unary main_v25 main_v26 (Host.log : (⟨S512x100000, .f32⟩ : BufTy).Contents (Elt F) → (⟨S512x100000, .f32⟩ : BufTy).Contents (Elt F))) := by sl_kernel_rfl
  have h := (lined (F := F)).at_unary 297 V ho rfl (by decide)
  exact h

theorem e299 : E V main_v27 = (Host.negf : (⟨S512x100000, .f32⟩ : BufTy).Contents (Elt F) → (⟨S512x100000, .f32⟩ : BufTy).Contents (Elt F)) (E V main_v26) := by
  have ho : (ops (F := F))[298]? = some (StableHlo.unary main_v26 main_v27 (Host.negf : (⟨S512x100000, .f32⟩ : BufTy).Contents (Elt F) → (⟨S512x100000, .f32⟩ : BufTy).Contents (Elt F))) := by sl_kernel_rfl
  have h := (lined (F := F)).at_unary 298 V ho rfl (by decide)
  exact h

theorem e300 : E V main_v28 = (Host.log : (⟨S512x100000, .f32⟩ : BufTy).Contents (Elt F) → (⟨S512x100000, .f32⟩ : BufTy).Contents (Elt F)) (E V main_v13) := by
  have ho : (ops (F := F))[299]? = some (StableHlo.unary main_v13 main_v28 (Host.log : (⟨S512x100000, .f32⟩ : BufTy).Contents (Elt F) → (⟨S512x100000, .f32⟩ : BufTy).Contents (Elt F))) := by sl_kernel_rfl
  have h := (lined (F := F)).at_unary 299 V ho rfl (by decide)
  exact h

theorem e301 : E V main_v29 = (addf : (⟨S512x100000, .f32⟩ : BufTy).Contents (Elt F) → (⟨S512x100000, .f32⟩ : BufTy).Contents (Elt F) → (⟨S512x100000, .f32⟩ : BufTy).Contents (Elt F)) (E V main_v28) (E V main_v27) := by
  have ho : (ops (F := F))[300]? = some (StableHlo.binary main_v28 main_v27 main_v29 (addf : (⟨S512x100000, .f32⟩ : BufTy).Contents (Elt F) → (⟨S512x100000, .f32⟩ : BufTy).Contents (Elt F) → (⟨S512x100000, .f32⟩ : BufTy).Contents (Elt F))) := by sl_kernel_rfl
  have h := (lined (F := F)).at_binary 300 V ho rfl (by decide) (by decide)
  exact h

theorem e302 : E V main_call1_v0 = ((iotaInDim S512x100000 32 1) : (⟨S512x100000, .i32⟩ : BufTy).Contents (Elt F)) := by
  have ho : (ops (F := F))[301]? = some (StableHlo.nullary main_call1_v0 ((iotaInDim S512x100000 32 1) : (⟨S512x100000, .i32⟩ : BufTy).Contents (Elt F))) := by sl_kernel_rfl
  have h := (lined (F := F)).at_nullary 301 V ho rfl
  exact h

theorem e303 : E V main_call1_cst = ((constant S_ .f32 0xFF800000#32) : (⟨S_, .f32⟩ : BufTy).Contents (Elt F)) := by
  have ho : (ops (F := F))[302]? = some (StableHlo.nullary main_call1_cst ((constant S_ .f32 0xFF800000#32) : (⟨S_, .f32⟩ : BufTy).Contents (Elt F))) := by sl_kernel_rfl
  have h := (lined (F := F)).at_nullary 302 V ho rfl
  exact h

theorem e304 : E V main_call1_c = ((constantI S_ 32 0#32) : (⟨S_, .i32⟩ : BufTy).Contents (Elt F)) := by
  have ho : (ops (F := F))[303]? = some (StableHlo.nullary main_call1_c ((constantI S_ 32 0#32) : (⟨S_, .i32⟩ : BufTy).Contents (Elt F))) := by sl_kernel_rfl
  have h := (lined (F := F)).at_nullary 303 V ho rfl
  exact h

theorem e305 : E V main_call1_v1_0 = ((fun x y u v j => (Host.argReduce reducer_argmax_f32_i32 x y u v reducesTo_S512x100000_S512_d1 h_S_ j).1) : (⟨S512x100000, .f32⟩ : BufTy).Contents (Elt F) → (⟨S512x100000, .i32⟩ : BufTy).Contents (Elt F) → (⟨S_, .f32⟩ : BufTy).Contents (Elt F) → (⟨S_, .i32⟩ : BufTy).Contents (Elt F) → (⟨S512, .f32⟩ : BufTy).Contents (Elt F)) (E V main_v29) (E V main_call1_v0) (E V main_call1_cst) (E V main_call1_c) := by
  have ho : (ops (F := F))[304]? = some (StableHlo.quaternary main_v29 main_call1_v0 main_call1_cst main_call1_c main_call1_v1_0 ((fun x y u v j => (Host.argReduce reducer_argmax_f32_i32 x y u v reducesTo_S512x100000_S512_d1 h_S_ j).1) : (⟨S512x100000, .f32⟩ : BufTy).Contents (Elt F) → (⟨S512x100000, .i32⟩ : BufTy).Contents (Elt F) → (⟨S_, .f32⟩ : BufTy).Contents (Elt F) → (⟨S_, .i32⟩ : BufTy).Contents (Elt F) → (⟨S512, .f32⟩ : BufTy).Contents (Elt F))) := by sl_kernel_rfl
  have h := (lined (F := F)).at_quaternary 304 V ho rfl (by decide) (by decide) (by decide) (by decide)
  exact h

theorem e306 : E V main_v30 = ((fun x y u v j => (Host.argReduce reducer_argmax_f32_i32 x y u v reducesTo_S512x100000_S512_d1 h_S_ j).2) : (⟨S512x100000, .f32⟩ : BufTy).Contents (Elt F) → (⟨S512x100000, .i32⟩ : BufTy).Contents (Elt F) → (⟨S_, .f32⟩ : BufTy).Contents (Elt F) → (⟨S_, .i32⟩ : BufTy).Contents (Elt F) → (⟨S512, .i32⟩ : BufTy).Contents (Elt F)) (E V main_v29) (E V main_call1_v0) (E V main_call1_cst) (E V main_call1_c) := by
  have ho : (ops (F := F))[305]? = some (StableHlo.quaternary main_v29 main_call1_v0 main_call1_cst main_call1_c main_v30 ((fun x y u v j => (Host.argReduce reducer_argmax_f32_i32 x y u v reducesTo_S512x100000_S512_d1 h_S_ j).2) : (⟨S512x100000, .f32⟩ : BufTy).Contents (Elt F) → (⟨S512x100000, .i32⟩ : BufTy).Contents (Elt F) → (⟨S_, .f32⟩ : BufTy).Contents (Elt F) → (⟨S_, .i32⟩ : BufTy).Contents (Elt F) → (⟨S512, .i32⟩ : BufTy).Contents (Elt F))) := by sl_kernel_rfl
  have h := (lined (F := F)).at_quaternary 305 V ho rfl (by decide) (by decide) (by decide) (by decide)
  exact h

theorem e307 : E V main_v31 = shapeCast S64x1x8 (E V main_v30 : (⟨S512, .i32⟩ : BufTy).Contents (Elt F)) shapeCasts_S512_S64x1x8 := by
  have ho : (ops (F := F))[306]? = some (StableHlo.reshape main_v30 main_v31 (rfl : (.i32 : EltTy) = .i32) shapeCasts_S512_S64x1x8) := by sl_kernel_rfl
  have h := (lined (F := F)).at_reshape 306 V ho rfl (by decide)
  exact h

end Cert.Sampling.Ref
-- ==== Proof.RefBits.lean ====
/-
  The random bits of the reference: the buffers of its generator at one index, round by round, are the generator of
  `Threefry` at the word whose number is the logit's.
-/
module

public import proofs.«01_k».proof.Proof.RefEqs0
public import proofs.«01_k».proof.Proof.RefEqs1
public import proofs.«01_k».proof.Proof.RefEqs2
public import proofs.«01_k».proof.Proof.RefEqs3
public import proofs.«01_k».proof.Proof.Threefry
public import Idealize.ShloMosaic.Lib.Pipeline.Value

@[expose] public section

set_option maxRecDepth 10000

noncomputable section

namespace Cert.Sampling.Ref

open Idealize.ShloMosaic Idealize.ShloMosaic.StableHlo Idealize.SL.Sem Cert.ReferenceIdeal
open Cert.ReferenceIdeal.Facts₀ Cert.ReferenceIdeal.Facts

variable {F : FTy → Type} [FloatOps F] [Cert.ReferenceIdeal.Facts]

/-- The nine operations of a round, at one index. -/
theorem round_of (a b : BitVec 32) (ha : a.toNat < 32) (hb : b.toNat < 32)
    {x y x' y' l r o ab bb : IVec S512x100000 32} {ca cb : IVec S_ 32}
    (h1 : x' = addi x y) (h2 : ca = constantI S_ 32 a) (h3 : ab = broadcastInDim S512x100000 ![] bcast_S_S512x100000 ca)
    (h4 : l = Host.shli y ab) (h5 : cb = constantI S_ 32 b) (h6 : bb = broadcastInDim S512x100000 ![] bcast_S_S512x100000 cb)
    (h7 : r = Host.shrui y bb) (h8 : o = ori l r) (h9 : y' = xori x' o) (ix : S512x100000.Idx) :
    (x' ix, y' ix) = rnd a b (x ix, y ix) := by
  subst h9 h8 h7 h6 h5 h4 h3 h2 h1
  refine Prod.ext rfl ?_
  show IntOp.xori _ (IntOp.ori (IntOp.shli .host (y ix) a) (IntOp.shrui .host (y ix) b))
    = IntOp.xori (IntOp.ori (IntOp.shli .vector (y ix) a) (IntOp.shrui .vector (y ix) b)) _
  simp only [IntOp.shli, IntOp.shrui, ha, hb, if_true]
  exact BitVec.xor_comm _ _

/-- The seven operations that add the key words and the step's number, at one index. -/
theorem inj_of (k l n : BitVec 32)
    {x y x' y1 y' kb lb nb : IVec S512x100000 32} {K L N : IVec S_ 32} (hK : ∀ j, K j = k) (hL : ∀ j, L j = l)
    (h1 : kb = broadcastInDim S512x100000 ![] bcast_S_S512x100000 K) (h2 : x' = addi x kb)
    (h3 : lb = broadcastInDim S512x100000 ![] bcast_S_S512x100000 L) (h4 : y1 = addi y lb)
    (h5 : N = constantI S_ 32 n) (h6 : nb = broadcastInDim S512x100000 ![] bcast_S_S512x100000 N) (h7 : y' = addi y1 nb)
    (ix : S512x100000.Idx) :
    (x' ix, y' ix) = inj k (l + n) (x ix, y ix) := by
  subst h7 h6 h5 h4 h3 h2 h1
  refine Prod.ext ?_ ?_
  · show x ix + K _ = x ix + k
    rw [hK]
  · show y ix + L _ + n = y ix + (l + n)
    rw [hL, BitVec.add_assoc]

/-- The generator as the reference runs it is the generator. -/
theorem bits_eq (z : BitVec 32) :
    let p := inj 466689008#32 (0#32 + 5#32) (grpA (inj 42#32 (466689008#32 + 4#32) (grpB (inj 0#32 (42#32 + 3#32)
      (grpA (inj 466689008#32 (0#32 + 2#32) (grpB (inj 42#32 (466689008#32 + 1#32) (grpA (0#32, z))))))))))
    IntOp.xori p.1 p.2 = bits z := by
  have h0 : grpA (0#32, z) = grpA0 z := by
    unfold grpA grpA0
    congr 3
    show (0#32 + z, IntOp.xori (rot 13#32 19#32 z) (0#32 + z)) = _
    rw [BitVec.zero_add]
  have h3 : ∀ q : BitVec 32 × BitVec 32, inj 0#32 (42#32 + 3#32) q = (q.1, IntOp.addi q.2 45#32) := fun q => by
    show (q.1 + 0#32, q.2 + (42#32 + 3#32)) = (q.1, q.2 + 45#32)
    rw [BitVec.add_zero]
    rfl
  unfold bits
  rw [h0, h3]
  rfl

/-- The one index of a scalar. -/
theorem idx0 (j : S_.Idx) : j = fun k => k.elim0 := funext fun k => k.elim0

variable (V : Valuation τ sig (Elt F))

/-- The one index of a one-element array. -/
theorem idx1 (i : S1.Idx) : i = fun k => ⟨0, (i k).pos⟩ := funext fun k => Fin.ext (by
  have h1 : (i k).val < S1.size k := (i k).isLt
  have h2 : S1.size k = 1 := by
    have : k = (0 : Fin 1) := Subsingleton.elim (α := Fin 1) _ _
    rw [this]; rfl
  show (i k).val = 0
  omega)

/-- A scalar read of a one-element array. -/
theorem cast_one {X : S1.Idx → BitVec 32} {w : BitVec 32} (h : ∀ i, X i = w) (j : S_.Idx) :
    shapeCast S_ X shapeCasts_S1_S_ j = w := by
  have hX : X = fun _ => w := funext h
  rw [hX]
  unfold shapeCast
  rfl

theorem key0 (j : S_.Idx) : E V main_call0_v5 j = 0#32 := by
  rw [e36]
  refine cast_one (fun i => ?_) j
  rw [idx1 i]
  rw [e35, e28, e23, e22, e21, e20, e19, e27, e26, e25, e24, e19]
  sl_kernel_rfl

/-- The second word of two joined. -/
theorem second (A B : IVec S1 32) (w : BitVec 32) (hB : ∀ k, B k = w) (i : S1.Idx) :
    extractStridedSlice S1 ![1] (concatenate S2 0 [⟨S1, A⟩, ⟨S1, B⟩] concatenates_S1_S1_S2_d0) slices_S2_S1_1 i = w := by
  unfold extractStridedSlice
  refine (concatenate_pair_apply_right (t := S2) (s₁ := S1) (s₂ := S1) 0 A B concatenates_S1_S1_S2_d0 _ rfl rfl i ?_ ?_).trans (hB i)
  · intro b hb
    exact absurd (Subsingleton.elim (α := Fin 1) _ _) hb
  · show (i 0).val + 1 = 1 + (i 0).val
    omega

theorem key1 (j : S_.Idx) : E V main_call0_v7 j = 42#32 := by
  rw [e38]
  refine cast_one (fun i => ?_) j
  rw [e37, e28]
  refine second _ _ _ (fun k => ?_) i
  rw [e27, e26, e25, e24, e19]
  show IntOp.andi 42#32 4294967295#32 = 42#32
  decide

theorem key2 (j : S_.Idx) : E V main_call0_call0_v1 j = 466689008#32 := by
  rw [e55, e54, e53]
  show IntOp.xori (IntOp.xori (E V main_call0_v5 j) (E V main_call0_v7 j)) 466688986#32 = _
  rw [key0, key1]
  rfl

/-- The number of a logit as a 64-bit word. -/
theorem counter (ix : S512x100000.Idx) :
    E V main_call0_v14 ix = BitVec.ofNat 64 ((ix 0).val * 100000 + (ix 1).val) := by
  rw [e47, e46, e45, e44, e43, e42, e41, e40, e39]
  show 100000#64 * BitVec.ofNat 64 (ix 0).val + 1#64 * BitVec.ofNat 64 (ix 1).val = _
  apply BitVec.eq_of_toNat_eq
  simp only [BitVec.toNat_add, BitVec.toNat_mul, BitVec.toNat_ofNat]
  omega

/-- The two words of the generator's counter, the key's first two words added. -/
theorem words (ix : S512x100000.Idx) :
    (E V main_call0_call0_v3 ix, E V main_call0_call0_v5 ix)
      = (0#32, BitVec.ofNat 32 ((ix 0).val * 100000 + (ix 1).val) + 42#32) := by
  have h0 : (ix 0).val < 512 := (ix 0).isLt
  have h1 : (ix 1).val < 100000 := (ix 1).isLt
  have hn : (ix 0).val * 100000 + (ix 1).val < 2 ^ 32 := by omega
  have hc := counter V ix
  generalize (ix 0).val * 100000 + (ix 1).val = n at hn hc ⊢
  rw [e57, e56, e52, e50, e49, e48, e59, e58, e51]
  refine Prod.ext ?_ ?_
  · show (IntOp.shrui .host (E V main_call0_v14 ix) 32#64).setWidth 32 + E V main_call0_v5 _ = 0#32
    rw [key0, hc, BitVec.add_zero]
    rw [IntOp.shrui, if_pos (by decide)]
    apply BitVec.eq_of_toNat_eq
    simp only [BitVec.toNat_setWidth, BitVec.toNat_ushiftRight,
      BitVec.ushiftRight_eq', BitVec.toNat_ofNat, Nat.shiftRight_eq_div_pow]
    have h64 : n % 2 ^ 64 = n := Nat.mod_eq_of_lt (lt_trans hn (by decide))
    have h32 : (2 : Nat) ^ (32 % 2 ^ 64) = 2 ^ 32 := rfl
    rw [h64, h32, Nat.div_eq_of_lt hn]
  · show (E V main_call0_v14 ix).setWidth 32 + E V main_call0_v7 _ = _
    rw [key1, hc]
    congr 1
    apply BitVec.eq_of_toNat_eq
    simp only [BitVec.toNat_setWidth, BitVec.toNat_ofNat]
    omega

theorem step0 (ix : S512x100000.Idx) :
    (E V main_call0_call0_v6 ix, E V main_call0_call0_v12 ix) = rnd 13#32 19#32 (E V main_call0_call0_v3 ix, E V main_call0_call0_v5 ix) :=
  round_of 13#32 19#32 (by decide) (by decide) (e60 V) (e61 V) (e62 V) (e63 V) (e64 V) (e65 V) (e66 V) (e67 V) (e68 V) ix

theorem step1 (ix : S512x100000.Idx) :
    (E V main_call0_call0_v13 ix, E V main_call0_call0_v19 ix) = rnd 15#32 17#32 (E V main_call0_call0_v6 ix, E V main_call0_call0_v12 ix) :=
  round_of 15#32 17#32 (by decide) (by decide) (e69 V) (e70 V) (e71 V) (e72 V) (e73 V) (e74 V) (e75 V) (e76 V) (e77 V) ix

theorem step2 (ix : S512x100000.Idx) :
    (E V main_call0_call0_v20 ix, E V main_call0_call0_v26 ix) = rnd 26#32 6#32 (E V main_call0_call0_v13 ix, E V main_call0_call0_v19 ix) :=
  round_of 26#32 6#32 (by decide) (by decide) (e78 V) (e79 V) (e80 V) (e81 V) (e82 V) (e83 V) (e84 V) (e85 V) (e86 V) ix

theorem step3 (ix : S512x100000.Idx) :
    (E V main_call0_call0_v27 ix, E V main_call0_call0_v33 ix) = rnd 6#32 26#32 (E V main_call0_call0_v20 ix, E V main_call0_call0_v26 ix) :=
  round_of 6#32 26#32 (by decide) (by decide) (e87 V) (e88 V) (e89 V) (e90 V) (e91 V) (e92 V) (e93 V) (e94 V) (e95 V) ix

theorem step4 (ix : S512x100000.Idx) :
    (E V main_call0_call0_v35 ix, E V main_call0_call0_v39 ix) = inj 42#32 (466689008#32 + 1#32) (E V main_call0_call0_v27 ix, E V main_call0_call0_v33 ix) :=
  inj_of 42#32 466689008#32 1#32 (key1 V) (key2 V) (e96 V) (e97 V) (e98 V) (e99 V) (e100 V) (e101 V) (e102 V) ix

theorem step5 (ix : S512x100000.Idx) :
    (E V main_call0_call0_v40 ix, E V main_call0_call0_v46 ix) = rnd 17#32 15#32 (E V main_call0_call0_v35 ix, E V main_call0_call0_v39 ix) :=
  round_of 17#32 15#32 (by decide) (by decide) (e103 V) (e104 V) (e105 V) (e106 V) (e107 V) (e108 V) (e109 V) (e110 V) (e111 V) ix

theorem step6 (ix : S512x100000.Idx) :
    (E V main_call0_call0_v47 ix, E V main_call0_call0_v53 ix) = rnd 29#32 3#32 (E V main_call0_call0_v40 ix, E V main_call0_call0_v46 ix) :=
  round_of 29#32 3#32 (by decide) (by decide) (e112 V) (e113 V) (e114 V) (e115 V) (e116 V) (e117 V) (e118 V) (e119 V) (e120 V) ix

theorem step7 (ix : S512x100000.Idx) :
    (E V main_call0_call0_v54 ix, E V main_call0_call0_v60 ix) = rnd 16#32 16#32 (E V main_call0_call0_v47 ix, E V main_call0_call0_v53 ix) :=
  round_of 16#32 16#32 (by decide) (by decide) (e121 V) (e122 V) (e123 V) (e124 V) (e125 V) (e126 V) (e127 V) (e128 V) (e129 V) ix

theorem step8 (ix : S512x100000.Idx) :
    (E V main_call0_call0_v61 ix, E V main_call0_call0_v67 ix) = rnd 24#32 8#32 (E V main_call0_call0_v54 ix, E V main_call0_call0_v60 ix) :=
  round_of 24#32 8#32 (by decide) (by decide) (e130 V) (e131 V) (e132 V) (e133 V) (e134 V) (e135 V) (e136 V) (e137 V) (e138 V) ix

theorem step9 (ix : S512x100000.Idx) :
    (E V main_call0_call0_v69 ix, E V main_call0_call0_v73 ix) = inj 466689008#32 (0#32 + 2#32) (E V main_call0_call0_v61 ix, E V main_call0_call0_v67 ix) :=
  inj_of 466689008#32 0#32 2#32 (key2 V) (key0 V) (e139 V) (e140 V) (e141 V) (e142 V) (e143 V) (e144 V) (e145 V) ix

theorem step10 (ix : S512x100000.Idx) :
    (E V main_call0_call0_v74 ix, E V main_call0_call0_v80 ix) = rnd 13#32 19#32 (E V main_call0_call0_v69 ix, E V main_call0_call0_v73 ix) :=
  round_of 13#32 19#32 (by decide) (by decide) (e146 V) (e147 V) (e148 V) (e149 V) (e150 V) (e151 V) (e152 V) (e153 V) (e154 V) ix

theorem step11 (ix : S512x100000.Idx) :
    (E V main_call0_call0_v81 ix, E V main_call0_call0_v87 ix) = rnd 15#32 17#32 (E V main_call0_call0_v74 ix, E V main_call0_call0_v80 ix) :=
  round_of 15#32 17#32 (by decide) (by decide) (e155 V) (e156 V) (e157 V) (e158 V) (e159 V) (e160 V) (e161 V) (e162 V) (e163 V) ix

theorem step12 (ix : S512x100000.Idx) :
    (E V main_call0_call0_v88 ix, E V main_call0_call0_v94 ix) = rnd 26#32 6#32 (E V main_call0_call0_v81 ix, E V main_call0_call0_v87 ix) :=
  round_of 26#32 6#32 (by decide) (by decide) (e164 V) (e165 V) (e166 V) (e167 V) (e168 V) (e169 V) (e170 V) (e171 V) (e172 V) ix

theorem step13 (ix : S512x100000.Idx) :
    (E V main_call0_call0_v95 ix, E V main_call0_call0_v101 ix) = rnd 6#32 26#32 (E V main_call0_call0_v88 ix, E V main_call0_call0_v94 ix) :=
  round_of 6#32 26#32 (by decide) (by decide) (e173 V) (e174 V) (e175 V) (e176 V) (e177 V) (e178 V) (e179 V) (e180 V) (e181 V) ix

theorem step14 (ix : S512x100000.Idx) :
    (E V main_call0_call0_v103 ix, E V main_call0_call0_v107 ix) = inj 0#32 (42#32 + 3#32) (E V main_call0_call0_v95 ix, E V main_call0_call0_v101 ix) :=
  inj_of 0#32 42#32 3#32 (key0 V) (key1 V) (e182 V) (e183 V) (e184 V) (e185 V) (e186 V) (e187 V) (e188 V) ix

theorem step15 (ix : S512x100000.Idx) :
    (E V main_call0_call0_v108 ix, E V main_call0_call0_v114 ix) = rnd 17#32 15#32 (E V main_call0_call0_v103 ix, E V main_call0_call0_v107 ix) :=
  round_of 17#32 15#32 (by decide) (by decide) (e189 V) (e190 V) (e191 V) (e192 V) (e193 V) (e194 V) (e195 V) (e196 V) (e197 V) ix

theorem step16 (ix : S512x100000.Idx) :
    (E V main_call0_call0_v115 ix, E V main_call0_call0_v121 ix) = rnd 29#32 3#32 (E V main_call0_call0_v108 ix, E V main_call0_call0_v114 ix) :=
  round_of 29#32 3#32 (by decide) (by decide) (e198 V) (e199 V) (e200 V) (e201 V) (e202 V) (e203 V) (e204 V) (e205 V) (e206 V) ix

theorem step17 (ix : S512x100000.Idx) :
    (E V main_call0_call0_v122 ix, E V main_call0_call0_v128 ix) = rnd 16#32 16#32 (E V main_call0_call0_v115 ix, E V main_call0_call0_v121 ix) :=
  round_of 16#32 16#32 (by decide) (by decide) (e207 V) (e208 V) (e209 V) (e210 V) (e211 V) (e212 V) (e213 V) (e214 V) (e215 V) ix

theorem step18 (ix : S512x100000.Idx) :
    (E V main_call0_call0_v129 ix, E V main_call0_call0_v135 ix) = rnd 24#32 8#32 (E V main_call0_call0_v122 ix, E V main_call0_call0_v128 ix) :=
  round_of 24#32 8#32 (by decide) (by decide) (e216 V) (e217 V) (e218 V) (e219 V) (e220 V) (e221 V) (e222 V) (e223 V) (e224 V) ix

theorem step19 (ix : S512x100000.Idx) :
    (E V main_call0_call0_v137 ix, E V main_call0_call0_v141 ix) = inj 42#32 (466689008#32 + 4#32) (E V main_call0_call0_v129 ix, E V main_call0_call0_v135 ix) :=
  inj_of 42#32 466689008#32 4#32 (key1 V) (key2 V) (e225 V) (e226 V) (e227 V) (e228 V) (e229 V) (e230 V) (e231 V) ix

theorem step20 (ix : S512x100000.Idx) :
    (E V main_call0_call0_v142 ix, E V main_call0_call0_v148 ix) = rnd 13#32 19#32 (E V main_call0_call0_v137 ix, E V main_call0_call0_v141 ix) :=
  round_of 13#32 19#32 (by decide) (by decide) (e232 V) (e233 V) (e234 V) (e235 V) (e236 V) (e237 V) (e238 V) (e239 V) (e240 V) ix

theorem step21 (ix : S512x100000.Idx) :
    (E V main_call0_call0_v149 ix, E V main_call0_call0_v155 ix) = rnd 15#32 17#32 (E V main_call0_call0_v142 ix, E V main_call0_call0_v148 ix) :=
  round_of 15#32 17#32 (by decide) (by decide) (e241 V) (e242 V) (e243 V) (e244 V) (e245 V) (e246 V) (e247 V) (e248 V) (e249 V) ix

theorem step22 (ix : S512x100000.Idx) :
    (E V main_call0_call0_v156 ix, E V main_call0_call0_v162 ix) = rnd 26#32 6#32 (E V main_call0_call0_v149 ix, E V main_call0_call0_v155 ix) :=
  round_of 26#32 6#32 (by decide) (by decide) (e250 V) (e251 V) (e252 V) (e253 V) (e254 V) (e255 V) (e256 V) (e257 V) (e258 V) ix

theorem step23 (ix : S512x100000.Idx) :
    (E V main_call0_call0_v163 ix, E V main_call0_call0_v169 ix) = rnd 6#32 26#32 (E V main_call0_call0_v156 ix, E V main_call0_call0_v162 ix) :=
  round_of 6#32 26#32 (by decide) (by decide) (e259 V) (e260 V) (e261 V) (e262 V) (e263 V) (e264 V) (e265 V) (e266 V) (e267 V) ix

theorem step24 (ix : S512x100000.Idx) :
    (E V main_call0_v19_0 ix, E V main_call0_v19_1 ix) = inj 466689008#32 (0#32 + 5#32) (E V main_call0_call0_v163 ix, E V main_call0_call0_v169 ix) :=
  inj_of 466689008#32 0#32 5#32 (key2 V) (key0 V) (e268 V) (e269 V) (e270 V) (e271 V) (e272 V) (e273 V) (e274 V) ix

/-- The random bits of the reference at a logit's index. -/
theorem bits_ref (ix : S512x100000.Idx) :
    E V main_call0_v20 ix = bits (BitVec.ofNat 32 ((ix 0).val * 100000 + (ix 1).val) + 42#32) := by
  rw [e275, ← bits_eq]
  show IntOp.xori (E V main_call0_v19_0 ix, E V main_call0_v19_1 ix).1 (E V main_call0_v19_0 ix, E V main_call0_v19_1 ix).2 = _
  rw [step24, step23, step22, step21, step20, step19, step18, step17, step16, step15, step14, step13, step12, step11, step10, step9, step8, step7, step6, step5, step4, step3, step2, step1, step0, words]
  rfl

end Cert.Sampling.Ref
-- ==== Proof.RefValue.lean ====
/-
  The reference's result over the extended reals: at every row, the first index at which the logit plus its Gumbel number
  is largest.
-/
module

public import proofs.«01_k».proof.Proof.RefBits
public import proofs.«01_k».proof.Proof.ArgMath
public import Idealize.ShloMosaic.Lib.IdealHost
public import Idealize.ShloMosaic.Lib.ValueIdx

@[expose] public section

set_option maxRecDepth 10000

noncomputable section

namespace Cert.Sampling

open Idealize.ShloMosaic

theorem ofBits_ninf : Ideal.ofBits .f32 0xFF800000#32 = ⊥ := by
  simp [Ideal.ofBits, Ideal.ieee]

theorem ofBits_tiny : 0 ≤ Ideal.ofBits .f32 0x00800000#32 := by
  simp [Ideal.ofBits, Ideal.ieee, -EReal.coe_mul]

/-- The reducer of the reference's arg-max returns the better of its two pairs. -/
theorem better_reducer : Better (Cert.ReferenceIdeal.reducer_argmax_f32_i32 (F := Ideal)) := by
  rintro ⟨a, i⟩ ⟨b, j⟩
  unfold Cert.ReferenceIdeal.reducer_argmax_f32_i32
  simp only [Ideal.cmpf_def, Ideal.cmp, Scalar.select, IntOp.ori, IntOp.andi, IntOp.cmpi, Dom]
  rcases lt_trichotomy a b with h | h | h
  · right
    have h1 : ¬ b < a := lt_asymm h
    have h2 : a ≠ b := ne_of_lt h
    simp [h, h1, h2]
  · subst h
    by_cases hij : i.toInt < j.toInt
    · left
      simp [hij, BitVec.slt, hij.le]
    · right
      simp [hij, BitVec.slt, not_lt.mp hij]
  · left
    have h1 : a ≠ b := ne_of_gt h
    simp [h, h1]

namespace Ref

open Idealize.ShloMosaic.StableHlo Idealize.SL.Sem Cert.ReferenceIdeal Idealize.ShloMosaic.ValueIdx
open Cert.ReferenceIdeal.Facts₀ Cert.ReferenceIdeal.Facts

variable [Cert.ReferenceIdeal.Facts]

variable (V : Valuation τ sig (Elt Ideal))

theorem red1 : S512x100000.Reduces [1] S512 := by decide

theorem lift_eq (r : Fin 512) (c : Fin 100000) : red1.lift (ix1 r) c = ix2 r c := by
  funext a
  apply Fin.ext
  match a with
  | ⟨0, _⟩ => rfl
  | ⟨1, _⟩ => rfl

/-- The reference's Gumbel numbers, from its random bits: the steps one by one. -/
theorem gum_of {w b21 w22 b23 w24 : IVec S512x100000 32} {c2 c3 : IVec S_ 32} {k0 k1 k26 t7 : FVec Ideal S_ .f32}
    {l2 l3 l28 : FVec Ideal S1x1 .f32}
    {f25 f26 f27 f29 f30 f31 f32 f33 u21 u22 u23 u24 u25 u26 u27 : FVec Ideal S512x100000 .f32}
    (h29 : k0 = constant S_ .f32 0x00000000#32) (h30 : k1 = constant S_ .f32 0x3F800000#32)
    (h33 : l2 = broadcastInDim S1x1 ![] bcast_S_S1x1 k0) (h34 : l3 = broadcastInDim S1x1 ![] bcast_S_S1x1 k1)
    (h276 : c2 = constantI S_ 32 9#32) (h277 : b21 = broadcastInDim S512x100000 ![] bcast_S_S512x100000 c2)
    (h278 : w22 = Host.shrui w b21) (h279 : c3 = constantI S_ 32 1065353216#32)
    (h280 : b23 = broadcastInDim S512x100000 ![] bcast_S_S512x100000 c3) (h281 : w24 = ori w22 b23)
    (h282 : f25 = bitcastToFloat .f32 w24) (h283 : k26 = constant S_ .f32 0x3F800000#32)
    (h284 : f26 = broadcastInDim S512x100000 ![] bcast_S_S512x100000 k26) (h285 : f27 = subf f25 f26)
    (h286 : l28 = subf l3 l2) (h287 : f29 = broadcastInDim S512x100000 ![0, 1] bcast_S1x1_S512x100000_0_1 l28)
    (h288 : f30 = mulf f27 f29) (h289 : f31 = broadcastInDim S512x100000 ![0, 1] bcast_S1x1_S512x100000_0_1 l2)
    (h290 : f32 = addf f30 f31) (h291 : f33 = broadcastInDim S512x100000 ![0, 1] bcast_S1x1_S512x100000_0_1 l2)
    (h292 : u21 = maximumf f33 f32) (h293 : t7 = constant S_ .f32 0x00800000#32)
    (h294 : u22 = broadcastInDim S512x100000 ![] bcast_S_S512x100000 t7) (h295 : u23 = maximumf u21 u22)
    (h296 : u24 = Host.log u23) (h297 : u25 = Host.negf u24) (h298 : u26 = Host.log u25) (h299 : u27 = Host.negf u26)
    (ix : S512x100000.Idx) : u27 ix = gumOf (F := Ideal) (w ix) := by
  have e0 : ∀ j, l2 j = (0 : EReal) := fun j => by
    rw [h33, h29]; exact Ideal.ofBits_zero_f32
  have e1 : ∀ j, l3 j = (1 : EReal) := fun j => by
    rw [h34, h30]; exact Ideal.ofBits_one_f32
  have es : ∀ j, l28 j = (1 : EReal) := fun j => by
    rw [h286]
    show l3 j - l2 j = (1 : EReal)
    rw [e0, e1]; exact sub_zero _
  have e27 : f27 ix = Ideal.ofBits .f32 (IntOp.ori (IntOp.shrui .vector (w ix) 9#32) 1065353216#32)
      - Ideal.ofBits .f32 0x3F800000#32 := by
    rw [h285, h284, h283, h282, h281, h280, h279, h278, h277, h276]
    rfl
  have e32 : f32 ix = f27 ix := by
    rw [h290, h288, h287, h289]
    show f27 ix * l28 _ + l2 _ = f27 ix
    rw [es, e0, add_zero, mul_one]
  have e23 : u23 ix = max (f27 ix) (Ideal.ofBits .f32 0x00800000#32) := by
    rw [h295, h292, h294, h293, h291]
    show max (max (l2 _) (f32 ix)) (Ideal.ofBits .f32 0x00800000#32) = _
    rw [e0, e32, max_comm (0 : EReal), max_assoc, max_eq_right ofBits_tiny]
  have e : u27 ix = -(Ideal.log (-(Ideal.log (u23 ix)))) := by
    rw [h299, h298, h297, h296]
    rfl
  rw [e, e23, e27]
  show _ = (Ideal.ofBits .f32 0x00000000#32 : EReal) - Ideal.log ((Ideal.ofBits .f32 0x00000000#32 : EReal) - Ideal.log _)
  rw [Ideal.ofBits_zero_f32, zero_sub, zero_sub]
  rfl

/-- A row's value at a column, spread from a vector over the rows. -/
theorem spread {x : S512.Idx → EReal} (r : Fin 512) (c : Fin 100000) :
    broadcastInDim S512x100000 ![0, 1] bcast_S512x1_S512x100000_0_1 (broadcastInDim S512x1 ![0] bcast_S512_S512x1_0 x) (ix2 r c)
      = x (ix1 r) := by
  rw [broadcastInDim_apply _ _ _ _ (ix2 r 0) (fun a => by
    match a with
    | ⟨0, _⟩ => rfl
    | ⟨1, _⟩ => rfl)]
  rw [broadcastInDim_apply _ _ _ _ (ix1 r) (fun a => by
    match a with
    | ⟨0, _⟩ => rfl)]

/-- The columns of a row are the lifts of the row. -/
theorem lift_row (x : S512x100000.Idx → EReal) (r : Fin 512) :
    (fun c : Fin (S512x100000.size 1) => x (red1.lift (ix1 r) c)) = fun c : Fin 100000 => x (ix2 r c) :=
  funext fun c => congrArg x (lift_eq r c)

/-- The host's maximum over a row, from −∞, -/
theorem max_row (x : FVec Ideal S512x100000 .f32) (r : Fin 512) :
    Host.reduce FloatOps.maximumf x (constant S_ .f32 0xFF800000#32) reducesTo_S512x100000_S512_d1 h_S_ (ix1 r)
      = (Finset.univ : Finset (Fin 100000)).fold max (⊥ : EReal) (fun c => x (ix2 r c)) := by
  refine (Host.reduce_eq_fold_single (α := EReal) max x _ _ red1 h_S_ (ix1 r)).trans ?_
  refine (congrArg (fun b => Finset.fold max b _ _) ofBits_ninf).trans ?_
  exact congrArg (fun f => Finset.fold max (⊥ : EReal) f Finset.univ) (lift_row x r)

/-- and its sum over a row, from zero. -/
theorem sum_row (x : FVec Ideal S512x100000 .f32) (r : Fin 512) :
    Host.reduceAdd x (constant S_ .f32 0x00000000#32) reducesTo_S512x100000_S512_d1 h_S_ (ix1 r)
      = ∑ c : Fin 100000, (x (ix2 r c) : EReal) := by
  refine (Ideal.hostReduceAdd_single reducesTo_S512x100000_S512_d1 red1 x (Ideal.ofBits .f32 0x00000000#32) (ix1 r)).trans ?_
  rw [Ideal.ofBits_zero_f32, zero_add]
  exact congrArg (fun f => Finset.sum Finset.univ f) (lift_row x r)

/-- The reference's scores: the logarithm of the softmax of the logits, plus the Gumbel numbers, is the logits plus the
    Gumbel numbers plus one real number a row. -/
theorem score_of {k1 k0 k2 z : FVec Ideal S_ .f32} {a0 a1 a2 a7 a8 a9 a12 a13 a28 a27 a29 : FVec Ideal S512x100000 .f32}
    {b3 b4 b5 b10 : FVec Ideal S512 .f32} {d6 d11 : FVec Ideal S512x1 .f32}
    (h2 : k1 = constant S_ .f32 0x3F800000#32) (h3 : a1 = broadcastInDim S512x100000 ![] bcast_S_S512x100000 k1)
    (h4 : a2 = Host.divf a0 a1) (h5 : k0 = constant S_ .f32 0xFF800000#32)
    (h6 : b3 = Host.reduce FloatOps.maximumf a2 k0 reducesTo_S512x100000_S512_d1 h_S_)
    (h7 : k2 = constant S_ .f32 0xFF800000#32) (h8 : b4 = broadcastInDim S512 ![] bcast_S_S512 k2)
    (h9 : b5 = maximumf b4 b3) (h10 : d6 = broadcastInDim S512x1 ![0] bcast_S512_S512x1_0 b5)
    (h11 : a7 = broadcastInDim S512x100000 ![0, 1] bcast_S512x1_S512x100000_0_1 d6) (h12 : a8 = subf a2 a7)
    (h13 : a9 = Host.exp a8) (h14 : z = constant S_ .f32 0x00000000#32)
    (h15 : b10 = Host.reduceAdd a9 z reducesTo_S512x100000_S512_d1 h_S_)
    (h16 : d11 = broadcastInDim S512x1 ![0] bcast_S512_S512x1_0 b10)
    (h17 : a12 = broadcastInDim S512x100000 ![0, 1] bcast_S512x1_S512x100000_0_1 d11) (h18 : a13 = Host.divf a9 a12)
    (h300 : a28 = Host.log a13) (h301 : a29 = addf a28 a27)
    (r : Fin 512) (hx : ∀ c : Fin 100000, a0 (ix2 r c) ≠ (⊤ : EReal)) :
    ∃ K : ℝ, ∀ c : Fin 100000, a29 (ix2 r c) = (a0 (ix2 r c) + a27 (ix2 r c)) + (K : EReal) := by
  have e2 : ∀ ix, a2 ix = a0 ix := fun ix => by
    rw [h4, h3, h2]
    show Ideal.div (a0 ix) (Ideal.ofBits .f32 0x3F800000#32) = _
    rw [Ideal.ofBits_one_f32, Ideal.div, if_neg one_ne_zero, ← EReal.coe_one, ← EReal.coe_inv, inv_one, EReal.coe_one]
    exact mul_one _
  have e5 : b5 (ix1 r) = (Finset.univ : Finset (Fin 100000)).fold max (⊥ : EReal) (fun c => a0 (ix2 r c)) := by
    have h : b5 (ix1 r) = max (Ideal.ofBits .f32 0xFF800000#32) (b3 (ix1 r)) := by rw [h9, h8, h7]; rfl
    rw [h, h6, h5, max_row, ofBits_ninf, max_eq_right bot_le, show a2 = a0 from funext e2]
  have e9 : ∀ c : Fin 100000, a9 (ix2 r c) = Ideal.exp (a0 (ix2 r c) - b5 (ix1 r)) := fun c => by
    rw [h13, h12, h11, h10]
    show Ideal.exp (a2 (ix2 r c) - _) = _
    rw [spread, e2]
  have e10 : b10 (ix1 r) = ∑ c : Fin 100000, Ideal.exp (a0 (ix2 r c) - b5 (ix1 r)) := by
    rw [h15, h14, sum_row]
    exact Finset.sum_congr rfl fun c _ => e9 c
  have e29 : ∀ c : Fin 100000, a29 (ix2 r c) = Ideal.log (Ideal.div (Ideal.exp (a0 (ix2 r c) - b5 (ix1 r)))
      (∑ d : Fin 100000, Ideal.exp (a0 (ix2 r d) - b5 (ix1 r)))) + a27 (ix2 r c) := fun c => by
    rw [h301, h300, h18, h17, h16]
    show Ideal.log (Ideal.div (a9 (ix2 r c)) _) + a27 (ix2 r c) = _
    rw [spread, e10, e9]
  have hle : ∀ c : Fin 100000, a0 (ix2 r c) ≤ b5 (ix1 r) := fun c => by
    rw [e5]
    exact (Finset.le_fold_max _).mpr (.inr ⟨c, Finset.mem_univ _, le_refl _⟩)
  have hmem : b5 (ix1 r) = (⊥ : EReal) ∨ ∃ c : Fin 100000, b5 (ix1 r) = a0 (ix2 r c) := by
    rw [e5]
    rcases (Finset.le_fold_max _).mp (le_refl (Finset.fold max (⊥ : EReal) (fun c : Fin 100000 => a0 (ix2 r c)) Finset.univ)) with h | ⟨c, _, h⟩
    · exact .inl (le_bot_iff.mp h)
    · exact .inr ⟨c, le_antisymm h ((Finset.le_fold_max _).mpr (.inr ⟨c, Finset.mem_univ _, le_refl _⟩))⟩
  obtain ⟨K, hK⟩ := log_softmax (fun c : Fin 100000 => a0 (ix2 r c)) hx _ hle hmem
  refine ⟨K, fun c => ?_⟩
  rw [e29, hK c, add_assoc, add_assoc, add_comm (a27 (ix2 r c))]

/-- The arg-max of the reference finds the first largest index of any row. -/
theorem arg_of (x : FVec Ideal S512x100000 .f32) (r : Fin 512) :
    IsArg (fun c : Fin 100000 => x (ix2 r c)) (Host.argReduce reducer_argmax_f32_i32 x (iotaInDim S512x100000 32 1)
      (constant S_ .f32 0xFF800000#32) (constantI S_ 32 0#32) reducesTo_S512x100000_S512_d1 h_S_ (ix1 r)).2 := by
  rw [Ideal.argReduce_eq_reduce2, Host.reduce2_eq_foldl_fiber]
  obtain ⟨h1, h2⟩ := better_reducer.foldl (Host.argReduceFiber x (iotaInDim S512x100000 32 1)
    reducesTo_S512x100000_S512_d1 (ix1 r)) (⊥, 0#32)
  have e0 : ((constant S_ .f32 0xFF800000#32 : FVec Ideal S_ .f32) (Shape.Idx.first h_S_),
      constantI S_ 32 0#32 (Shape.Idx.first h_S_)) = ((⊥ : EReal), 0#32) := Prod.ext ofBits_ninf rfl
  rw [e0]
  refine isArg_of_dom (by decide) (by decide) _ _ ?_ ?_
  · rcases List.mem_cons.mp h1 with h | h
    · exact .inl h
    · right
      unfold Host.argReduceFiber at h
      obtain ⟨n, hn, he⟩ := List.mem_map.mp h
      have hd := of_decide_eq_true (List.mem_filter.mp hn).2
      rw [Shape.ReducesTo.drop_eq_drop _ red1] at hd
      have hl := red1.lift_drop (S512x100000.rowMajor.symm n)
      rw [hd] at hl
      refine ⟨(S512x100000.rowMajor.symm n) 1, ?_⟩
      have hl' : S512x100000.rowMajor.symm n = ix2 r ((S512x100000.rowMajor.symm n) 1) := hl.symm.trans (lift_eq r _)
      refine he.symm.trans (Prod.ext ?_ rfl)
      exact congrArg x hl'
  · intro c
    refine h2 _ (List.mem_cons_of_mem _ ?_)
    unfold Host.argReduceFiber
    refine List.mem_map.mpr ⟨S512x100000.rowMajor (ix2 r c), List.mem_filter.mpr ⟨List.mem_finRange _, ?_⟩, ?_⟩
    · refine decide_eq_true ?_
      rw [Equiv.symm_apply_apply, Shape.ReducesTo.drop_eq_drop _ red1]
      exact (congrArg red1.drop (lift_eq r c)).symm.trans (red1.drop_lift (ix1 r) c)
    · rw [Equiv.symm_apply_apply]
      rfl

/-- The reference's result at a row: the first index at which the logit plus its Gumbel number is largest. -/
theorem value_ref (x : FVec Ideal S512x100000 .f32) (h1 : E V main_v0 = x) (r : Fin 512)
    (hx : ∀ c : Fin 100000, x (ix2 r c) ≠ (⊤ : EReal)) :
    IsArg (fun c : Fin 100000 => x (ix2 r c) + gum (F := Ideal) (BitVec.ofNat 32 (r.val * 100000 + c.val) + 42#32))
      (E V main_v30 (ix1 r)) := by
  obtain ⟨K, hK⟩ := score_of (e2 V) (e3 V) (e4 V) (e5 V) (e6 V) (e7 V) (e8 V) (e9 V) (e10 V) (e11 V) (e12 V) (e13 V) (e14 V) (e15 V)
    (e16 V) (e17 V) (e18 V) (e300 V) (e301 V) r (fun c => by rw [h1]; exact hx c)
  have hg := fun ix => gum_of (e29 V) (e30 V) ((e33 V).trans (congrArg _ (e31 V))) ((e34 V).trans (congrArg _ (e32 V))) (e276 V) (e277 V)
    (e278 V) (e279 V) (e280 V) (e281 V) (e282 V) (e283 V) (e284 V) (e285 V) (e286 V) (e287 V) (e288 V) (e289 V) (e290 V) (e291 V)
    (e292 V) (e293 V) (e294 V) (e295 V) (e296 V) (e297 V) (e298 V) (e299 V) ix
  have ha := arg_of (E V main_v29) r
  rw [e306, e302, e303, e304]
  refine IsArg.shift (-K) (fun c => ?_) ha
  rw [hK c, hg, bits_ref, h1]
  show _ = ((x (ix2 r c) + gum _) + (K : EReal)) + ((-K : ℝ) : EReal)
  rw [add_assoc _ (K : EReal), ← EReal.coe_add, add_neg_cancel, EReal.coe_zero, add_zero]

end Ref

end Cert.Sampling
-- ==== Proof.RefRun.lean ====
/-
  The reference's run: every buffer ends at the line's value of it, the argument unchanged, every semaphore at zero.
-/
module

public import proofs.«01_k».proof.Proof.RefOps
public import proofs.«01_k».proof.Proof.Gen.ReferenceIdeal
public import Idealize.ShloMosaic.Lib.Quiescent
public import Idealize.ShloMosaic.Lib.StableHlo.RunHlo

@[expose] public section

noncomputable section

namespace Cert.Sampling.Ref

open Idealize.ShloMosaic Idealize.ShloMosaic.StableHlo Idealize.SL.Sem Cert.ReferenceIdeal

variable {F : FTy → Type} [FloatOps F] [Cert.ReferenceIdeal.Facts]

theorem keep_arg0 (V : Valuation τ sig (Elt F)) : E V main_arg0 = V (Proc.devRef .tc main_arg0) := by
  have h := (lined (F := F)).keep 0 V (a := main_arg0) (by decide)
  exact h.symm

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = E (launchContents m c) main_v31
      ∧ r.2.mem ((c.tc : Thread nD τ).loc main_arg0) = m ((c.tc : Thread nD τ).loc main_arg0) := by
  have hmain : ∀ d, IsSeq (main (F := F) d) ops := main_seq
  refine (θ_run defs _ _).mono (fun r h c => ⟨h c main_v31, (h c main_arg0).trans (keep_arg0 _)⟩)
    (run_hlo defs main hmain (by decide) (by decide) bufs_sub fresh_none m ρ)

theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun r h => ⟨fun c => (h c).2, sem_eq_zero_of_no_sems (by decide) r.2⟩) (run m ρ)

end Cert.Sampling.Ref
-- ==== Proof.Agree.lean ====
/-
  The kernel's array and the reference's are the same array: at every row both hold the first column at which the logit plus
  its Gumbel number is largest.
-/
module

public import proofs.«01_k».proof.Proof.KernelArray
public import proofs.«01_k».proof.Proof.RefValue
public import proofs.«01_k».proof.Proof.RefRun
public import proofs.«01_k».proof.Proof.Gen.ReferenceIdeal
public import proofs.«01_k».proof.Pre_below_infinity

@[expose] public section

set_option maxRecDepth 10000

noncomputable section

namespace Cert.Sampling

open Idealize.ShloMosaic Idealize.ShloMosaic.TcCoe Idealize.ShloMosaic.StableHlo Idealize.SL.Sem Idealize.ShloMosaic.ValueIdx

/-- The condition's one shape relation. -/
theorem pre_facts : Cert.Pre_below_infinity.Facts := ⟨by decide⟩

theorem pos_inf : Ideal.ofBits .f32 0x7F800000#32 = (⊤ : EReal) := by
  simp [Ideal.ofBits, Ideal.ieee]

/-- An array of which the condition holds has no element at infinity. -/
theorem below [Cert.Pre_below_infinity.Facts] (x : FVec Ideal Cert.KernelIdeal.S64x8x100000 .f32)
    (h : Cert.Pre_below_infinity.fn (F := Ideal) x = fun _ => 1#1) (k : Cert.KernelIdeal.S64x8x100000.Idx) : x k ≠ (⊤ : EReal) := by
  intro hk
  have e : Ideal.cmp .olt (x k) (Ideal.ofBits .f32 0x7F800000#32) = 1#1 := congrFun h k
  rw [pos_inf, hk] at e
  revert e
  simp [Ideal.cmp]

open Cert.ReferenceIdeal in
/-- The reference's result at `(t, 0, r)` is its flat result at `8 t + r`. -/
theorem unflat {α : Type} (v : S512.Idx → α) (h : S512.ShapeCasts S64x1x8) (t : Fin 64) (r : Fin 8) :
    shapeCast S64x1x8 v h (ix3 t 0 r) = v (ix1 ⟨t.val * 8 + r.val, row_lt t.isLt r.isLt⟩) := by
  refine shapeCast_apply _ _ _ _ ?_
  rw [Shape.rowMajor_val_one, Shape.rowMajor_val_three]
  show t.val * 8 + r.val = (t.val * 1 + 0) * 8 + r.val
  omega

/-- What the reference leaves, as a function of its argument array. -/
theorem value_reference (V : Valuation Cert.ReferenceIdeal.τ Cert.ReferenceIdeal.sig (Elt Ideal))
    (x : FVec Ideal Cert.KernelIdeal.S512x100000 .f32) (h1 : Ref.E V Cert.ReferenceIdeal.main_v0 = x)
    (hx : ∀ k, x k ≠ (⊤ : EReal)) (t : Fin 64) (r : Fin 8) :
    IsArg (fun q : Fin 100000 => x (ix2 ⟨t.val * 8 + r.val, row_lt t.isLt r.isLt⟩ q)
        + gum (F := Ideal) (BitVec.ofNat 32 ((t.val * 8 + r.val) * 100000 + q.val) + 42#32))
      ((Ref.E V Cert.ReferenceIdeal.main_v31 : IVec Cert.ReferenceIdeal.S64x1x8 32) (ix3 t 0 r)) := by
  rw [Ref.e307, unflat]
  exact Ref.value_ref V x h1 _ fun q => hx _

/-- THE TWO RESULTS ARE EQUAL. -/
theorem agree [Cert.Pre_below_infinity.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_below_infinity.fn (F := Ideal) (m ((c.tc : Thread Cert.KernelIdeal.nD Cert.KernelIdeal.τ).loc Cert.KernelIdeal.main_arg0)) = fun _ => 1#1)
    (hm : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Ref.E (launchContents m' c) Cert.ReferenceIdeal.main_v31 : IVec Cert.ReferenceIdeal.S64x1x8 32)
      = (Cert.KernelIdeal.Gen.dats m 0 c).arrAt 1 Cert.KernelIdeal.cfg0.N := by
  have hrows : Ref.E (launchContents m' c) Cert.ReferenceIdeal.main_v0 = rows m c := by
    rw [Ref.e1, Ref.keep_arg0, rows_eq]
    exact congrArg (fun x => shapeCast Cert.KernelIdeal.S512x100000 (x : FVec Ideal Cert.KernelIdeal.S64x8x100000 .f32) _) hm
  have hx : ∀ k, rows m c k ≠ (⊤ : EReal) := fun k => below _ hpre _
  funext j
  have hj : j = ix3 (j 0) 0 (j 2) := by
    funext a
    match a with
    | ⟨0, _⟩ => rfl
    | ⟨1, _⟩ => exact Subsingleton.elim (α := Fin 1) _ _
    | ⟨2, _⟩ => rfl
  rw [hj]
  have ht : (j 0).val < Cert.KernelIdeal.cfg0.N := Nat.lt_of_lt_of_eq (j 0).isLt Cert.KernelIdeal.Gen.N_0.symm
  exact IsArg.unique (value_reference (launchContents m' c) (rows m c) hrows hx (j 0) (j 2))
    (value_kernel m c ⟨(j 0).val, ht⟩ (j 2))

end Cert.Sampling

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.SL.Sem

/-- The five claims: the three frames, the idealization, and the equality of the kernel's result with the reference's. -/
theorem claim : Cert.Claim :=
  ⟨Cert.Kernel.Gen.facts, Cert.KernelIdeal.Gen.facts, Cert.ReferenceIdeal.Gen.facts, Cert.Sampling.pre_facts,
    fun m g _ => Cert.Kernel.Gen.frame m g,
    fun m g _ => Cert.KernelIdeal.Gen.frame m g,
    fun m g _ => Cert.KernelIdeal.Gen.frame m g,
    fun m g _ => Cert.Sampling.Ref.frame m g,
    fun m g _ => Cert.Sampling.Ref.frame m g,
    trivial,
    fun m g m' g' hpre hm =>
      letI := Cert.Sampling.pre_facts
      ⟨fun c => (Cert.KernelIdeal.Gen.dats m 0 c).arrAt 1 Cert.KernelIdeal.cfg0.N, Cert.KernelIdeal.Value.run_blocks m g,
        (θ_run _ _ _).mono (fun _ h c => ⟨(h c).1.trans (Cert.Sampling.agree m m' c (hpre c) (hm c)), (h c).2⟩)
          (Cert.Sampling.Ref.run m' g')⟩⟩

end Cert.Proof

end
